-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S32768x4096 : Shape := ⟨2, ![32768, 4096]⟩
abbrev S2x2048x2048 : Shape := ⟨3, ![2, 2048, 2048]⟩
abbrev S2x256x4096 : Shape := ⟨3, ![2, 256, 4096]⟩
abbrev S2 : Shape := ⟨1, ![2]⟩
abbrev S_ : Shape := ⟨0, ![]⟩
abbrev S1x2048x2048 : Shape := ⟨3, ![1, 2048, 2048]⟩
abbrev S2048x2048 : Shape := ⟨2, ![2048, 2048]⟩
abbrev S1 : Shape := ⟨1, ![1]⟩
abbrev S256x4096 : Shape := ⟨2, ![256, 4096]⟩
abbrev S1x256x4096 : Shape := ⟨3, ![1, 256, 4096]⟩
abbrev S1x256x2048 : Shape := ⟨3, ![1, 256, 2048]⟩
abbrev S256x2048 : Shape := ⟨2, ![256, 2048]⟩

abbrev nBuf : Space → Nat
  | .hbm => 3
  | .vmem => 4
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S32768x4096, .bf16⟩
  | .local _ .vmem, ⟨0, _⟩ => ⟨S2048x4096, .bf16⟩
  | .local _ .vmem, ⟨1, _⟩ => ⟨S2x2048x2048, .bf16⟩
  | .local _ .vmem, ⟨2, _⟩ => ⟨S2x2048x2048, .bf16⟩
  | .local _ .vmem, ⟨3, _⟩ => ⟨S2x256x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 5 12 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_31 : BitVec 32 := 1#32
  let v24 : BitVec 32 := Scalar.muli v6 c1_i32_31
  let v25 : BitVec 32 := Scalar.addi c0_i32_32 v24
  v25.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_41 : BitVec 32 := 1#32
  let v34 : BitVec 32 := Scalar.muli v4 c1_i32_41
  let v35 : BitVec 32 := Scalar.addi c0_i32_42 v34
  v35.toNat
@[reducible] def k0_t1_loop : Scf.Loop 32 :=
  let c0_i32_50 : BitVec 32 := 0#32
  let c8_i32_51 : BitVec 32 := 8#32
  let v48 : BitVec 32 := Scalar.addi c0_i32_50 c8_i32_51
  let c1_i32_52 : BitVec 32 := 1#32
  ⟨c0_i32_50, v48, c1_i32_52⟩
def k0_cond1 (k0_t1 : Fin k0_t1_loop.trips) : BitVec 1 :=
  let c0_i32_50 : BitVec 32 := 0#32
  let c1_i32_52 : BitVec 32 := 1#32
  let arg14 : BitVec 32 := Scf.iv c0_i32_50 c1_i32_52 k0_t1
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off1 (k0_t1 : Fin k0_t1_loop.trips) : Fin 1 → Nat :=
  let c0_i32_50 : BitVec 32 := 0#32
  let c1_i32_52 : BitVec 32 := 1#32
  let arg14 : BitVec 32 := Scf.iv c0_i32_50 c1_i32_52 k0_t1
  let c2_i32_830 : BitVec 32 := 2#32
  let v704 : BitVec 32 := Scalar.remsi arg14 c2_i32_830
  ![v704.toNat]
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_47 : BitVec 32 := 8#32
  let v44 : BitVec 32 := Scalar.addi v2 c8_i32_47
  let c8_i32_48 : BitVec 32 := 8#32
  let v45 : BitVec 32 := Scalar.remsi v44 c8_i32_48
  let c4096_i32 : BitVec 32 := 4096#32
  let v46 : BitVec 32 := Scalar.muli v45 c4096_i32
  let c0_i32_49 : BitVec 32 := 0#32
  let v47 : BitVec 32 := Scalar.addi v46 c0_i32_49
  let c0_i32_50 : BitVec 32 := 0#32
  let c1_i32_52 : BitVec 32 := 1#32
  let arg14 : BitVec 32 := Scf.iv c0_i32_50 c1_i32_52 k0_t1
  let c256_i32 : BitVec 32 := 256#32
  let v705 : BitVec 32 := Scalar.muli arg14 c256_i32
  let v706 : BitVec 32 := Scalar.addi v47 v705
  let c0_i32_842 : BitVec 32 := 0#32
  ![v706.toNat, 0]
def k0_off3 (k0_t1 : Fin k0_t1_loop.trips) : Fin 3 → Nat :=
  let c0_i32_50 : BitVec 32 := 0#32
  let c1_i32_52 : BitVec 32 := 1#32
  let arg14 : BitVec 32 := Scf.iv c0_i32_50 c1_i32_52 k0_t1
  let c2_i32_830 : BitVec 32 := 2#32
  let v704 : BitVec 32 := Scalar.remsi arg14 c2_i32_830
  let c0_i32_843 : BitVec 32 := 0#32
  let c0_i32_844 : BitVec 32 := 0#32
  ![v704.toNat, 0, 0]
def k0_off4 (k0_t1 : Fin k0_t1_loop.trips) : Fin 3 → Nat :=
  let c0 : Index := 0#32
  let c0_i32_50 : BitVec 32 := 0#32
  let c1_i32_52 : BitVec 32 := 1#32
  let arg14 : BitVec 32 := Scf.iv c0_i32_50 c1_i32_52 k0_t1
  let c256_i32_833 : BitVec 32 := 256#32
  let v710 : BitVec 32 := Scalar.muli arg14 c256_i32_833
  let v711 : Index := Scalar.indexCast v710
  let c0_834 : Index := 0#32
  ![0, v711.toNat, 0]
def k0_off5 (k0_t1 : Fin k0_t1_loop.trips) : Fin 3 → Nat :=
  let c0_i32_50 : BitVec 32 := 0#32
  let c1_i32_52 : BitVec 32 := 1#32
  let arg14 : BitVec 32 := Scf.iv c0_i32_50 c1_i32_52 k0_t1
  let c2_i32_830 : BitVec 32 := 2#32
  let v704 : BitVec 32 := Scalar.remsi arg14 c2_i32_830
  let v718 : Index := Scalar.indexCast v704
  let c0_837 : Index := 0#32
  let c0_838 : Index := 0#32
  ![v718.toNat, 0, 0]
def k0_off6 (k0_t1 : Fin k0_t1_loop.trips) : Fin 1 → Nat :=
  let c0_i32_50 : BitVec 32 := 0#32
  let c1_i32_52 : BitVec 32 := 1#32
  let arg14 : BitVec 32 := Scf.iv c0_i32_50 c1_i32_52 k0_t1
  let c2_i32_830 : BitVec 32 := 2#32
  let v704 : BitVec 32 := Scalar.remsi arg14 c2_i32_830
  ![v704.toNat]
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_47 : BitVec 32 := 8#32
  let v44 : BitVec 32 := Scalar.addi v2 c8_i32_47
  let c8_i32_48 : BitVec 32 := 8#32
  let v45 : BitVec 32 := Scalar.remsi v44 c8_i32_48
  let c4096_i32 : BitVec 32 := 4096#32
  let v46 : BitVec 32 := Scalar.muli v45 c4096_i32
  let c0_i32_49 : BitVec 32 := 0#32
  let v47 : BitVec 32 := Scalar.addi v46 c0_i32_49
  let c0_i32_50 : BitVec 32 := 0#32
  let c1_i32_52 : BitVec 32 := 1#32
  let arg14 : BitVec 32 := Scf.iv c0_i32_50 c1_i32_52 k0_t1
  let c256_i32 : BitVec 32 := 256#32
  let v705 : BitVec 32 := Scalar.muli arg14 c256_i32
  let v706 : BitVec 32 := Scalar.addi v47 v705
  let c0_i32_839 : BitVec 32 := 0#32
  ![v706.toNat, 0]
def k0_off8 (k0_t1 : Fin k0_t1_loop.trips) : Fin 3 → Nat :=
  let c0_i32_50 : BitVec 32 := 0#32
  let c1_i32_52 : BitVec 32 := 1#32
  let arg14 : BitVec 32 := Scf.iv c0_i32_50 c1_i32_52 k0_t1
  let c2_i32_830 : BitVec 32 := 2#32
  let v704 : BitVec 32 := Scalar.remsi arg14 c2_i32_830
  let c0_i32_840 : BitVec 32 := 0#32
  let c0_i32_841 : BitVec 32 := 0#32
  ![v704.toNat, 0, 0]
def k0_off9 (d0 : Dev nD) (c8_i32_47 : BitVec 32) (c0_i32_49 : BitVec 32) (c1536_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.addi v2 c8_i32_47
  let c8_i32_48 : BitVec 32 := 8#32
  let v45 : BitVec 32 := Scalar.remsi v44 c8_i32_48
  let c4096_i32 : BitVec 32 := 4096#32
  let v46 : BitVec 32 := Scalar.muli v45 c4096_i32
  let v47 : BitVec 32 := Scalar.addi v46 c0_i32_49
  let v49 : BitVec 32 := Scalar.addi v47 c1536_i32
  let c0_i32_56 : BitVec 32 := 0#32
  ![v49.toNat, 0]
def k0_off9_at (r : Fin 32) : BitVec 32 × BitVec 32 × BitVec 32 :=
  if r.val < 16 then
    if r.val < 8 then
      if r.val < 4 then
        if r.val < 2 then
          if r.val < 1 then
            (8#32, 0#32, 1536#32)
          else
            (8#32, 0#32, 1792#32)
        else
          if r.val < 3 then
            (0#32, 2048#32, 1536#32)
          else
            (0#32, 2048#32, 1792#32)
      else
        if r.val < 6 then
          if r.val < 5 then
            (7#32, 0#32, 1536#32)
          else
            (7#32, 0#32, 1792#32)
        else
          if r.val < 7 then
            (1#32, 2048#32, 1536#32)
          else
            (1#32, 2048#32, 1792#32)
    else
      if r.val < 12 then
        if r.val < 10 then
          if r.val < 9 then
            (6#32, 0#32, 1536#32)
          else
            (6#32, 0#32, 1792#32)
        else
          if r.val < 11 then
            (2#32, 2048#32, 1536#32)
          else
            (2#32, 2048#32, 1792#32)
      else
        if r.val < 14 then
          if r.val < 13 then
            (5#32, 0#32, 1536#32)
          else
            (5#32, 0#32, 1792#32)
        else
          if r.val < 15 then
            (3#32, 2048#32, 1536#32)
          else
            (3#32, 2048#32, 1792#32)
  else
    if r.val < 24 then
      if r.val < 20 then
        if r.val < 18 then
          if r.val < 17 then
            (4#32, 0#32, 1536#32)
          else
            (4#32, 0#32, 1792#32)
        else
          if r.val < 19 then
            (4#32, 2048#32, 1536#32)
          else
            (4#32, 2048#32, 1792#32)
      else
        if r.val < 22 then
          if r.val < 21 then
            (3#32, 0#32, 1536#32)
          else
            (3#32, 0#32, 1792#32)
        else
          if r.val < 23 then
            (5#32, 2048#32, 1536#32)
          else
            (5#32, 2048#32, 1792#32)
    else
      if r.val < 28 then
        if r.val < 26 then
          if r.val < 25 then
            (2#32, 0#32, 1536#32)
          else
            (2#32, 0#32, 1792#32)
        else
          if r.val < 27 then
            (6#32, 2048#32, 1536#32)
          else
            (6#32, 2048#32, 1792#32)
      else
        if r.val < 30 then
          if r.val < 29 then
            (1#32, 0#32, 1536#32)
          else
            (1#32, 0#32, 1792#32)
        else
          if r.val < 31 then
            (7#32, 2048#32, 1536#32)
          else
            (7#32, 2048#32, 1792#32)
@[reducible] def k0_t2_loop : Scf.Loop 32 :=
  let c0_i32_68 : BitVec 32 := 0#32
  let c8_i32_69 : BitVec 32 := 8#32
  let v65 : BitVec 32 := Scalar.addi c0_i32_68 c8_i32_69
  let c1_i32_70 : BitVec 32 := 1#32
  ⟨c0_i32_68, v65, c1_i32_70⟩
def k0_cond2 (k0_t2 : Fin k0_t2_loop.trips) : BitVec 1 :=
  let c0_i32_68 : BitVec 32 := 0#32
  let c1_i32_70 : BitVec 32 := 1#32
  let arg14 : BitVec 32 := Scf.iv c0_i32_68 c1_i32_70 k0_t2
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off10 (k0_t2 : Fin k0_t2_loop.trips) : Fin 1 → Nat :=
  let c0_i32_68 : BitVec 32 := 0#32
  let c1_i32_70 : BitVec 32 := 1#32
  let arg14 : BitVec 32 := Scf.iv c0_i32_68 c1_i32_70 k0_t2
  let c2_i32_830 : BitVec 32 := 2#32
  let v704 : BitVec 32 := Scalar.remsi arg14 c2_i32_830
  ![v704.toNat]
def k0_off11 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let v61 : BitVec 32 := Scalar.addi v2 c0_i32_64
  let c8_i32_65 : BitVec 32 := 8#32
  let v62 : BitVec 32 := Scalar.remsi v61 c8_i32_65
  let c4096_i32_66 : BitVec 32 := 4096#32
  let v63 : BitVec 32 := Scalar.muli v62 c4096_i32_66
  let c2048_i32_67 : BitVec 32 := 2048#32
  let v64 : BitVec 32 := Scalar.addi v63 c2048_i32_67
  let c0_i32_68 : BitVec 32 := 0#32
  let c1_i32_70 : BitVec 32 := 1#32
  let arg14 : BitVec 32 := Scf.iv c0_i32_68 c1_i32_70 k0_t2
  let c256_i32 : BitVec 32 := 256#32
  let v705 : BitVec 32 := Scalar.muli arg14 c256_i32
  let v706 : BitVec 32 := Scalar.addi v64 v705
  let c0_i32_842 : BitVec 32 := 0#32
  ![v706.toNat, 0]
def k0_off12 (k0_t2 : Fin k0_t2_loop.trips) : Fin 3 → Nat :=
  let c0_i32_68 : BitVec 32 := 0#32
  let c1_i32_70 : BitVec 32 := 1#32
  let arg14 : BitVec 32 := Scf.iv c0_i32_68 c1_i32_70 k0_t2
  let c2_i32_830 : BitVec 32 := 2#32
  let v704 : BitVec 32 := Scalar.remsi arg14 c2_i32_830
  let c0_i32_843 : BitVec 32 := 0#32
  let c0_i32_844 : BitVec 32 := 0#32
  ![v704.toNat, 0, 0]
def k0_off13 (k0_t2 : Fin k0_t2_loop.trips) : Fin 3 → Nat :=
  let c0 : Index := 0#32
  let c0_i32_68 : BitVec 32 := 0#32
  let c1_i32_70 : BitVec 32 := 1#32
  let arg14 : BitVec 32 := Scf.iv c0_i32_68 c1_i32_70 k0_t2
  let c256_i32_833 : BitVec 32 := 256#32
  let v710 : BitVec 32 := Scalar.muli arg14 c256_i32_833
  let v711 : Index := Scalar.indexCast v710
  let c0_834 : Index := 0#32
  ![0, v711.toNat, 0]
def k0_off14 (k0_t2 : Fin k0_t2_loop.trips) : Fin 3 → Nat :=
  let c0_i32_68 : BitVec 32 := 0#32
  let c1_i32_70 : BitVec 32 := 1#32
  let arg14 : BitVec 32 := Scf.iv c0_i32_68 c1_i32_70 k0_t2
  let c2_i32_830 : BitVec 32 := 2#32
  let v704 : BitVec 32 := Scalar.remsi arg14 c2_i32_830
  let v718 : Index := Scalar.indexCast v704
  let c0_837 : Index := 0#32
  let c0_838 : Index := 0#32
  ![v718.toNat, 0, 0]
def k0_off15 (k0_t2 : Fin k0_t2_loop.trips) : Fin 1 → Nat :=
  let c0_i32_68 : BitVec 32 := 0#32
  let c1_i32_70 : BitVec 32 := 1#32
  let arg14 : BitVec 32 := Scf.iv c0_i32_68 c1_i32_70 k0_t2
  let c2_i32_830 : BitVec 32 := 2#32
  let v704 : BitVec 32 := Scalar.remsi arg14 c2_i32_830
  ![v704.toNat]
def k0_off16 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let v61 : BitVec 32 := Scalar.addi v2 c0_i32_64
  let c8_i32_65 : BitVec 32 := 8#32
  let v62 : BitVec 32 := Scalar.remsi v61 c8_i32_65
  let c4096_i32_66 : BitVec 32 := 4096#32
  let v63 : BitVec 32 := Scalar.muli v62 c4096_i32_66
  let c2048_i32_67 : BitVec 32 := 2048#32
  let v64 : BitVec 32 := Scalar.addi v63 c2048_i32_67
  let c0_i32_68 : BitVec 32 := 0#32
  let c1_i32_70 : BitVec 32 := 1#32
  let arg14 : BitVec 32 := Scf.iv c0_i32_68 c1_i32_70 k0_t2
  let c256_i32 : BitVec 32 := 256#32
  let v705 : BitVec 32 := Scalar.muli arg14 c256_i32
  let v706 : BitVec 32 := Scalar.addi v64 v705
  let c0_i32_839 : BitVec 32 := 0#32
  ![v706.toNat, 0]
def k0_off17 (k0_t2 : Fin k0_t2_loop.trips) : Fin 3 → Nat :=
  let c0_i32_68 : BitVec 32 := 0#32
  let c1_i32_70 : BitVec 32 := 1#32
  let arg14 : BitVec 32 := Scf.iv c0_i32_68 c1_i32_70 k0_t2
  let c2_i32_830 : BitVec 32 := 2#32
  let v704 : BitVec 32 := Scalar.remsi arg14 c2_i32_830
  let c0_i32_840 : BitVec 32 := 0#32
  let c0_i32_841 : BitVec 32 := 0#32
  ![v704.toNat, 0, 0]
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_124 : BitVec 32 := 1#32
  let v108 : BitVec 32 := Scalar.muli v4 c1_i32_124
  let v109 : BitVec 32 := Scalar.addi c0_i32_125 v108
  v109.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_128 : BitVec 32 := 1#32
  let v112 : BitVec 32 := Scalar.muli v6 c1_i32_128
  let v113 : BitVec 32 := Scalar.addi c0_i32_129 v112
  v113.toNat
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_140 : BitVec 32 := 1#32
  let v118 : BitVec 32 := Scalar.muli v6 c1_i32_140
  let v119 : BitVec 32 := Scalar.addi c0_i32_141 v118
  v119.toNat
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_150 : BitVec 32 := 1#32
  let v128 : BitVec 32 := Scalar.muli v4 c1_i32_150
  let v129 : BitVec 32 := Scalar.addi c0_i32_151 v128
  v129.toNat
@[reducible] def k0_t3_loop : Scf.Loop 32 :=
  let c0_i32_160 : BitVec 32 := 0#32
  let c8_i32_161 : BitVec 32 := 8#32
  let v142 : BitVec 32 := Scalar.addi c0_i32_160 c8_i32_161
  let c1_i32_162 : BitVec 32 := 1#32
  ⟨c0_i32_160, v142, c1_i32_162⟩
def k0_cond3 (k0_t3 : Fin k0_t3_loop.trips) : BitVec 1 :=
  let c0_i32_160 : BitVec 32 := 0#32
  let c1_i32_162 : BitVec 32 := 1#32
  let arg14 : BitVec 32 := Scf.iv c0_i32_160 c1_i32_162 k0_t3
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off18 (k0_t3 : Fin k0_t3_loop.trips) : Fin 1 → Nat :=
  let c0_i32_160 : BitVec 32 := 0#32
  let c1_i32_162 : BitVec 32 := 1#32
  let arg14 : BitVec 32 := Scf.iv c0_i32_160 c1_i32_162 k0_t3
  let c2_i32_830 : BitVec 32 := 2#32
  let v704 : BitVec 32 := Scalar.remsi arg14 c2_i32_830
  ![v704.toNat]
def k0_off19 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_156 : BitVec 32 := 7#32
  let v138 : BitVec 32 := Scalar.addi v2 c7_i32_156
  let c8_i32_157 : BitVec 32 := 8#32
  let v139 : BitVec 32 := Scalar.remsi v138 c8_i32_157
  let c4096_i32_158 : BitVec 32 := 4096#32
  let v140 : BitVec 32 := Scalar.muli v139 c4096_i32_158
  let c0_i32_159 : BitVec 32 := 0#32
  let v141 : BitVec 32 := Scalar.addi v140 c0_i32_159
  let c0_i32_160 : BitVec 32 := 0#32
  let c1_i32_162 : BitVec 32 := 1#32
  let arg14 : BitVec 32 := Scf.iv c0_i32_160 c1_i32_162 k0_t3
  let c256_i32 : BitVec 32 := 256#32
  let v705 : BitVec 32 := Scalar.muli arg14 c256_i32
  let v706 : BitVec 32 := Scalar.addi v141 v705
  let c0_i32_841 : BitVec 32 := 0#32
  ![v706.toNat, 0]
def k0_off20 (k0_t3 : Fin k0_t3_loop.trips) : Fin 3 → Nat :=
  let c0_i32_160 : BitVec 32 := 0#32
  let c1_i32_162 : BitVec 32 := 1#32
  let arg14 : BitVec 32 := Scf.iv c0_i32_160 c1_i32_162 k0_t3
  let c2_i32_830 : BitVec 32 := 2#32
  let v704 : BitVec 32 := Scalar.remsi arg14 c2_i32_830
  let c0_i32_842 : BitVec 32 := 0#32
  let c0_i32_843 : BitVec 32 := 0#32
  ![v704.toNat, 0, 0]
def k0_off21 (k0_t3 : Fin k0_t3_loop.trips) : Fin 3 → Nat :=
  let c1 : Index := 1#32
  let c0_i32_160 : BitVec 32 := 0#32
  let c1_i32_162 : BitVec 32 := 1#32
  let arg14 : BitVec 32 := Scf.iv c0_i32_160 c1_i32_162 k0_t3
  let c256_i32_833 : BitVec 32 := 256#32
  let v710 : BitVec 32 := Scalar.muli arg14 c256_i32_833
  let v711 : Index := Scalar.indexCast v710
  let c0 : Index := 0#32
  ![1, v711.toNat, 0]
def k0_off22 (k0_t3 : Fin k0_t3_loop.trips) : Fin 3 → Nat :=
  let c0_i32_160 : BitVec 32 := 0#32
  let c1_i32_162 : BitVec 32 := 1#32
  let arg14 : BitVec 32 := Scf.iv c0_i32_160 c1_i32_162 k0_t3
  let c2_i32_830 : BitVec 32 := 2#32
  let v704 : BitVec 32 := Scalar.remsi arg14 c2_i32_830
  let v718 : Index := Scalar.indexCast v704
  let c0_836 : Index := 0#32
  let c0_837 : Index := 0#32
  ![v718.toNat, 0, 0]
def k0_off23 (k0_t3 : Fin k0_t3_loop.trips) : Fin 1 → Nat :=
  let c0_i32_160 : BitVec 32 := 0#32
  let c1_i32_162 : BitVec 32 := 1#32
  let arg14 : BitVec 32 := Scf.iv c0_i32_160 c1_i32_162 k0_t3
  let c2_i32_830 : BitVec 32 := 2#32
  let v704 : BitVec 32 := Scalar.remsi arg14 c2_i32_830
  ![v704.toNat]
def k0_off24 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_156 : BitVec 32 := 7#32
  let v138 : BitVec 32 := Scalar.addi v2 c7_i32_156
  let c8_i32_157 : BitVec 32 := 8#32
  let v139 : BitVec 32 := Scalar.remsi v138 c8_i32_157
  let c4096_i32_158 : BitVec 32 := 4096#32
  let v140 : BitVec 32 := Scalar.muli v139 c4096_i32_158
  let c0_i32_159 : BitVec 32 := 0#32
  let v141 : BitVec 32 := Scalar.addi v140 c0_i32_159
  let c0_i32_160 : BitVec 32 := 0#32
  let c1_i32_162 : BitVec 32 := 1#32
  let arg14 : BitVec 32 := Scf.iv c0_i32_160 c1_i32_162 k0_t3
  let c256_i32 : BitVec 32 := 256#32
  let v705 : BitVec 32 := Scalar.muli arg14 c256_i32
  let v706 : BitVec 32 := Scalar.addi v141 v705
  let c0_i32_838 : BitVec 32 := 0#32
  ![v706.toNat, 0]
def k0_off25 (k0_t3 : Fin k0_t3_loop.trips) : Fin 3 → Nat :=
  let c0_i32_160 : BitVec 32 := 0#32
  let c1_i32_162 : BitVec 32 := 1#32
  let arg14 : BitVec 32 := Scf.iv c0_i32_160 c1_i32_162 k0_t3
  let c2_i32_830 : BitVec 32 := 2#32
  let v704 : BitVec 32 := Scalar.remsi arg14 c2_i32_830
  let c0_i32_839 : BitVec 32 := 0#32
  let c0_i32_840 : BitVec 32 := 0#32
  ![v704.toNat, 0, 0]
@[reducible] def k0_t4_loop : Scf.Loop 32 :=
  let c0_i32_180 : BitVec 32 := 0#32
  let c8_i32_181 : BitVec 32 := 8#32
  let v159 : BitVec 32 := Scalar.addi c0_i32_180 c8_i32_181
  let c1_i32_182 : BitVec 32 := 1#32
  ⟨c0_i32_180, v159, c1_i32_182⟩
def k0_cond4 (k0_t4 : Fin k0_t4_loop.trips) : BitVec 1 :=
  let c0_i32_180 : BitVec 32 := 0#32
  let c1_i32_182 : BitVec 32 := 1#32
  let arg14 : BitVec 32 := Scf.iv c0_i32_180 c1_i32_182 k0_t4
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off26 (k0_t4 : Fin k0_t4_loop.trips) : Fin 1 → Nat :=
  let c0_i32_180 : BitVec 32 := 0#32
  let c1_i32_182 : BitVec 32 := 1#32
  let arg14 : BitVec 32 := Scf.iv c0_i32_180 c1_i32_182 k0_t4
  let c2_i32_830 : BitVec 32 := 2#32
  let v704 : BitVec 32 := Scalar.remsi arg14 c2_i32_830
  ![v704.toNat]
def k0_off27 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_176 : BitVec 32 := 1#32
  let v155 : BitVec 32 := Scalar.addi v2 c1_i32_176
  let c8_i32_177 : BitVec 32 := 8#32
  let v156 : BitVec 32 := Scalar.remsi v155 c8_i32_177
  let c4096_i32_178 : BitVec 32 := 4096#32
  let v157 : BitVec 32 := Scalar.muli v156 c4096_i32_178
  let c2048_i32_179 : BitVec 32 := 2048#32
  let v158 : BitVec 32 := Scalar.addi v157 c2048_i32_179
  let c0_i32_180 : BitVec 32 := 0#32
  let c1_i32_182 : BitVec 32 := 1#32
  let arg14 : BitVec 32 := Scf.iv c0_i32_180 c1_i32_182 k0_t4
  let c256_i32 : BitVec 32 := 256#32
  let v705 : BitVec 32 := Scalar.muli arg14 c256_i32
  let v706 : BitVec 32 := Scalar.addi v158 v705
  let c0_i32_841 : BitVec 32 := 0#32
  ![v706.toNat, 0]
def k0_off28 (k0_t4 : Fin k0_t4_loop.trips) : Fin 3 → Nat :=
  let c0_i32_180 : BitVec 32 := 0#32
  let c1_i32_182 : BitVec 32 := 1#32
  let arg14 : BitVec 32 := Scf.iv c0_i32_180 c1_i32_182 k0_t4
  let c2_i32_830 : BitVec 32 := 2#32
  let v704 : BitVec 32 := Scalar.remsi arg14 c2_i32_830
  let c0_i32_842 : BitVec 32 := 0#32
  let c0_i32_843 : BitVec 32 := 0#32
  ![v704.toNat, 0, 0]
def k0_off29 (k0_t4 : Fin k0_t4_loop.trips) : Fin 3 → Nat :=
  let c1 : Index := 1#32
  let c0_i32_180 : BitVec 32 := 0#32
  let c1_i32_182 : BitVec 32 := 1#32
  let arg14 : BitVec 32 := Scf.iv c0_i32_180 c1_i32_182 k0_t4
  let c256_i32_833 : BitVec 32 := 256#32
  let v710 : BitVec 32 := Scalar.muli arg14 c256_i32_833
  let v711 : Index := Scalar.indexCast v710
  let c0 : Index := 0#32
  ![1, v711.toNat, 0]
def k0_off30 (k0_t4 : Fin k0_t4_loop.trips) : Fin 3 → Nat :=
  let c0_i32_180 : BitVec 32 := 0#32
  let c1_i32_182 : BitVec 32 := 1#32
  let arg14 : BitVec 32 := Scf.iv c0_i32_180 c1_i32_182 k0_t4
  let c2_i32_830 : BitVec 32 := 2#32
  let v704 : BitVec 32 := Scalar.remsi arg14 c2_i32_830
  let v718 : Index := Scalar.indexCast v704
  let c0_836 : Index := 0#32
  let c0_837 : Index := 0#32
  ![v718.toNat, 0, 0]
def k0_off31 (k0_t4 : Fin k0_t4_loop.trips) : Fin 1 → Nat :=
  let c0_i32_180 : BitVec 32 := 0#32
  let c1_i32_182 : BitVec 32 := 1#32
  let arg14 : BitVec 32 := Scf.iv c0_i32_180 c1_i32_182 k0_t4
  let c2_i32_830 : BitVec 32 := 2#32
  let v704 : BitVec 32 := Scalar.remsi arg14 c2_i32_830
  ![v704.toNat]
def k0_off32 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_176 : BitVec 32 := 1#32
  let v155 : BitVec 32 := Scalar.addi v2 c1_i32_176
  let c8_i32_177 : BitVec 32 := 8#32
  let v156 : BitVec 32 := Scalar.remsi v155 c8_i32_177
  let c4096_i32_178 : BitVec 32 := 4096#32
  let v157 : BitVec 32 := Scalar.muli v156 c4096_i32_178
  let c2048_i32_179 : BitVec 32 := 2048#32
  let v158 : BitVec 32 := Scalar.addi v157 c2048_i32_179
  let c0_i32_180 : BitVec 32 := 0#32
  let c1_i32_182 : BitVec 32 := 1#32
  let arg14 : BitVec 32 := Scf.iv c0_i32_180 c1_i32_182 k0_t4
  let c256_i32 : BitVec 32 := 256#32
  let v705 : BitVec 32 := Scalar.muli arg14 c256_i32
  let v706 : BitVec 32 := Scalar.addi v158 v705
  let c0_i32_838 : BitVec 32 := 0#32
  ![v706.toNat, 0]
def k0_off33 (k0_t4 : Fin k0_t4_loop.trips) : Fin 3 → Nat :=
  let c0_i32_180 : BitVec 32 := 0#32
  let c1_i32_182 : BitVec 32 := 1#32
  let arg14 : BitVec 32 := Scf.iv c0_i32_180 c1_i32_182 k0_t4
  let c2_i32_830 : BitVec 32 := 2#32
  let v704 : BitVec 32 := Scalar.remsi arg14 c2_i32_830
  let c0_i32_839 : BitVec 32 := 0#32
  let c0_i32_840 : BitVec 32 := 0#32
  ![v704.toNat, 0, 0]
def k0_dev9 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_236 : BitVec 32 := 1#32
  let v202 : BitVec 32 := Scalar.muli v4 c1_i32_236
  let v203 : BitVec 32 := Scalar.addi c0_i32_237 v202
  v203.toNat
def k0_dev10 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_240 : BitVec 32 := 1#32
  let v206 : BitVec 32 := Scalar.muli v6 c1_i32_240
  let v207 : BitVec 32 := Scalar.addi c0_i32_241 v206
  v207.toNat
def k0_dev11 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_252 : BitVec 32 := 1#32
  let v212 : BitVec 32 := Scalar.muli v6 c1_i32_252
  let v213 : BitVec 32 := Scalar.addi c0_i32_253 v212
  v213.toNat
def k0_dev12 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_262 : BitVec 32 := 1#32
  let v222 : BitVec 32 := Scalar.muli v4 c1_i32_262
  let v223 : BitVec 32 := Scalar.addi c0_i32_263 v222
  v223.toNat
@[reducible] def k0_t5_loop : Scf.Loop 32 :=
  let c0_i32_271 : BitVec 32 := 0#32
  let c8_i32_272 : BitVec 32 := 8#32
  let v236 : BitVec 32 := Scalar.addi c0_i32_271 c8_i32_272
  let c1_i32_273 : BitVec 32 := 1#32
  ⟨c0_i32_271, v236, c1_i32_273⟩
def k0_cond5 (k0_t5 : Fin k0_t5_loop.trips) : BitVec 1 :=
  let c0_i32_271 : BitVec 32 := 0#32
  let c1_i32_273 : BitVec 32 := 1#32
  let arg14 : BitVec 32 := Scf.iv c0_i32_271 c1_i32_273 k0_t5
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off34 (k0_t5 : Fin k0_t5_loop.trips) : Fin 1 → Nat :=
  let c0_i32_271 : BitVec 32 := 0#32
  let c1_i32_273 : BitVec 32 := 1#32
  let arg14 : BitVec 32 := Scf.iv c0_i32_271 c1_i32_273 k0_t5
  let c2_i32_830 : BitVec 32 := 2#32
  let v704 : BitVec 32 := Scalar.remsi arg14 c2_i32_830
  ![v704.toNat]
def k0_off35 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v232 : BitVec 32 := Scalar.addi v2 c6_i32
  let c8_i32_268 : BitVec 32 := 8#32
  let v233 : BitVec 32 := Scalar.remsi v232 c8_i32_268
  let c4096_i32_269 : BitVec 32 := 4096#32
  let v234 : BitVec 32 := Scalar.muli v233 c4096_i32_269
  let c0_i32_270 : BitVec 32 := 0#32
  let v235 : BitVec 32 := Scalar.addi v234 c0_i32_270
  let c0_i32_271 : BitVec 32 := 0#32
  let c1_i32_273 : BitVec 32 := 1#32
  let arg14 : BitVec 32 := Scf.iv c0_i32_271 c1_i32_273 k0_t5
  let c256_i32 : BitVec 32 := 256#32
  let v705 : BitVec 32 := Scalar.muli arg14 c256_i32
  let v706 : BitVec 32 := Scalar.addi v235 v705
  let c0_i32_842 : BitVec 32 := 0#32
  ![v706.toNat, 0]
def k0_off36 (k0_t5 : Fin k0_t5_loop.trips) : Fin 3 → Nat :=
  let c0_i32_271 : BitVec 32 := 0#32
  let c1_i32_273 : BitVec 32 := 1#32
  let arg14 : BitVec 32 := Scf.iv c0_i32_271 c1_i32_273 k0_t5
  let c2_i32_830 : BitVec 32 := 2#32
  let v704 : BitVec 32 := Scalar.remsi arg14 c2_i32_830
  let c0_i32_843 : BitVec 32 := 0#32
  let c0_i32_844 : BitVec 32 := 0#32
  ![v704.toNat, 0, 0]
def k0_off37 (k0_t5 : Fin k0_t5_loop.trips) : Fin 3 → Nat :=
  let c0 : Index := 0#32
  let c0_i32_271 : BitVec 32 := 0#32
  let c1_i32_273 : BitVec 32 := 1#32
  let arg14 : BitVec 32 := Scf.iv c0_i32_271 c1_i32_273 k0_t5
  let c256_i32_833 : BitVec 32 := 256#32
  let v710 : BitVec 32 := Scalar.muli arg14 c256_i32_833
  let v711 : Index := Scalar.indexCast v710
  let c0_834 : Index := 0#32
  ![0, v711.toNat, 0]
def k0_off38 (k0_t5 : Fin k0_t5_loop.trips) : Fin 3 → Nat :=
  let c0_i32_271 : BitVec 32 := 0#32
  let c1_i32_273 : BitVec 32 := 1#32
  let arg14 : BitVec 32 := Scf.iv c0_i32_271 c1_i32_273 k0_t5
  let c2_i32_830 : BitVec 32 := 2#32
  let v704 : BitVec 32 := Scalar.remsi arg14 c2_i32_830
  let v718 : Index := Scalar.indexCast v704
  let c0_837 : Index := 0#32
  let c0_838 : Index := 0#32
  ![v718.toNat, 0, 0]
def k0_off39 (k0_t5 : Fin k0_t5_loop.trips) : Fin 1 → Nat :=
  let c0_i32_271 : BitVec 32 := 0#32
  let c1_i32_273 : BitVec 32 := 1#32
  let arg14 : BitVec 32 := Scf.iv c0_i32_271 c1_i32_273 k0_t5
  let c2_i32_830 : BitVec 32 := 2#32
  let v704 : BitVec 32 := Scalar.remsi arg14 c2_i32_830
  ![v704.toNat]
def k0_off40 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v232 : BitVec 32 := Scalar.addi v2 c6_i32
  let c8_i32_268 : BitVec 32 := 8#32
  let v233 : BitVec 32 := Scalar.remsi v232 c8_i32_268
  let c4096_i32_269 : BitVec 32 := 4096#32
  let v234 : BitVec 32 := Scalar.muli v233 c4096_i32_269
  let c0_i32_270 : BitVec 32 := 0#32
  let v235 : BitVec 32 := Scalar.addi v234 c0_i32_270
  let c0_i32_271 : BitVec 32 := 0#32
  let c1_i32_273 : BitVec 32 := 1#32
  let arg14 : BitVec 32 := Scf.iv c0_i32_271 c1_i32_273 k0_t5
  let c256_i32 : BitVec 32 := 256#32
  let v705 : BitVec 32 := Scalar.muli arg14 c256_i32
  let v706 : BitVec 32 := Scalar.addi v235 v705
  let c0_i32_839 : BitVec 32 := 0#32
  ![v706.toNat, 0]
def k0_off41 (k0_t5 : Fin k0_t5_loop.trips) : Fin 3 → Nat :=
  let c0_i32_271 : BitVec 32 := 0#32
  let c1_i32_273 : BitVec 32 := 1#32
  let arg14 : BitVec 32 := Scf.iv c0_i32_271 c1_i32_273 k0_t5
  let c2_i32_830 : BitVec 32 := 2#32
  let v704 : BitVec 32 := Scalar.remsi arg14 c2_i32_830
  let c0_i32_840 : BitVec 32 := 0#32
  let c0_i32_841 : BitVec 32 := 0#32
  ![v704.toNat, 0, 0]
@[reducible] def k0_t6_loop : Scf.Loop 32 :=
  let c0_i32_291 : BitVec 32 := 0#32
  let c8_i32_292 : BitVec 32 := 8#32
  let v253 : BitVec 32 := Scalar.addi c0_i32_291 c8_i32_292
  let c1_i32_293 : BitVec 32 := 1#32
  ⟨c0_i32_291, v253, c1_i32_293⟩
def k0_cond6 (k0_t6 : Fin k0_t6_loop.trips) : BitVec 1 :=
  let c0_i32_291 : BitVec 32 := 0#32
  let c1_i32_293 : BitVec 32 := 1#32
  let arg14 : BitVec 32 := Scf.iv c0_i32_291 c1_i32_293 k0_t6
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off42 (k0_t6 : Fin k0_t6_loop.trips) : Fin 1 → Nat :=
  let c0_i32_291 : BitVec 32 := 0#32
  let c1_i32_293 : BitVec 32 := 1#32
  let arg14 : BitVec 32 := Scf.iv c0_i32_291 c1_i32_293 k0_t6
  let c2_i32_830 : BitVec 32 := 2#32
  let v704 : BitVec 32 := Scalar.remsi arg14 c2_i32_830
  ![v704.toNat]
def k0_off43 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_287 : BitVec 32 := 2#32
  let v249 : BitVec 32 := Scalar.addi v2 c2_i32_287
  let c8_i32_288 : BitVec 32 := 8#32
  let v250 : BitVec 32 := Scalar.remsi v249 c8_i32_288
  let c4096_i32_289 : BitVec 32 := 4096#32
  let v251 : BitVec 32 := Scalar.muli v250 c4096_i32_289
  let c2048_i32_290 : BitVec 32 := 2048#32
  let v252 : BitVec 32 := Scalar.addi v251 c2048_i32_290
  let c0_i32_291 : BitVec 32 := 0#32
  let c1_i32_293 : BitVec 32 := 1#32
  let arg14 : BitVec 32 := Scf.iv c0_i32_291 c1_i32_293 k0_t6
  let c256_i32 : BitVec 32 := 256#32
  let v705 : BitVec 32 := Scalar.muli arg14 c256_i32
  let v706 : BitVec 32 := Scalar.addi v252 v705
  let c0_i32_842 : BitVec 32 := 0#32
  ![v706.toNat, 0]
def k0_off44 (k0_t6 : Fin k0_t6_loop.trips) : Fin 3 → Nat :=
  let c0_i32_291 : BitVec 32 := 0#32
  let c1_i32_293 : BitVec 32 := 1#32
  let arg14 : BitVec 32 := Scf.iv c0_i32_291 c1_i32_293 k0_t6
  let c2_i32_830 : BitVec 32 := 2#32
  let v704 : BitVec 32 := Scalar.remsi arg14 c2_i32_830
  let c0_i32_843 : BitVec 32 := 0#32
  let c0_i32_844 : BitVec 32 := 0#32
  ![v704.toNat, 0, 0]
def k0_off45 (k0_t6 : Fin k0_t6_loop.trips) : Fin 3 → Nat :=
  let c0 : Index := 0#32
  let c0_i32_291 : BitVec 32 := 0#32
  let c1_i32_293 : BitVec 32 := 1#32
  let arg14 : BitVec 32 := Scf.iv c0_i32_291 c1_i32_293 k0_t6
  let c256_i32_833 : BitVec 32 := 256#32
  let v710 : BitVec 32 := Scalar.muli arg14 c256_i32_833
  let v711 : Index := Scalar.indexCast v710
  let c0_834 : Index := 0#32
  ![0, v711.toNat, 0]
def k0_off46 (k0_t6 : Fin k0_t6_loop.trips) : Fin 3 → Nat :=
  let c0_i32_291 : BitVec 32 := 0#32
  let c1_i32_293 : BitVec 32 := 1#32
  let arg14 : BitVec 32 := Scf.iv c0_i32_291 c1_i32_293 k0_t6
  let c2_i32_830 : BitVec 32 := 2#32
  let v704 : BitVec 32 := Scalar.remsi arg14 c2_i32_830
  let v718 : Index := Scalar.indexCast v704
  let c0_837 : Index := 0#32
  let c0_838 : Index := 0#32
  ![v718.toNat, 0, 0]
def k0_off47 (k0_t6 : Fin k0_t6_loop.trips) : Fin 1 → Nat :=
  let c0_i32_291 : BitVec 32 := 0#32
  let c1_i32_293 : BitVec 32 := 1#32
  let arg14 : BitVec 32 := Scf.iv c0_i32_291 c1_i32_293 k0_t6
  let c2_i32_830 : BitVec 32 := 2#32
  let v704 : BitVec 32 := Scalar.remsi arg14 c2_i32_830
  ![v704.toNat]
def k0_off48 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_287 : BitVec 32 := 2#32
  let v249 : BitVec 32 := Scalar.addi v2 c2_i32_287
  let c8_i32_288 : BitVec 32 := 8#32
  let v250 : BitVec 32 := Scalar.remsi v249 c8_i32_288
  let c4096_i32_289 : BitVec 32 := 4096#32
  let v251 : BitVec 32 := Scalar.muli v250 c4096_i32_289
  let c2048_i32_290 : BitVec 32 := 2048#32
  let v252 : BitVec 32 := Scalar.addi v251 c2048_i32_290
  let c0_i32_291 : BitVec 32 := 0#32
  let c1_i32_293 : BitVec 32 := 1#32
  let arg14 : BitVec 32 := Scf.iv c0_i32_291 c1_i32_293 k0_t6
  let c256_i32 : BitVec 32 := 256#32
  let v705 : BitVec 32 := Scalar.muli arg14 c256_i32
  let v706 : BitVec 32 := Scalar.addi v252 v705
  let c0_i32_839 : BitVec 32 := 0#32
  ![v706.toNat, 0]
def k0_off49 (k0_t6 : Fin k0_t6_loop.trips) : Fin 3 → Nat :=
  let c0_i32_291 : BitVec 32 := 0#32
  let c1_i32_293 : BitVec 32 := 1#32
  let arg14 : BitVec 32 := Scf.iv c0_i32_291 c1_i32_293 k0_t6
  let c2_i32_830 : BitVec 32 := 2#32
  let v704 : BitVec 32 := Scalar.remsi arg14 c2_i32_830
  let c0_i32_840 : BitVec 32 := 0#32
  let c0_i32_841 : BitVec 32 := 0#32
  ![v704.toNat, 0, 0]
def k0_dev13 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_347 : BitVec 32 := 1#32
  let v296 : BitVec 32 := Scalar.muli v4 c1_i32_347
  let v297 : BitVec 32 := Scalar.addi c0_i32_348 v296
  v297.toNat
def k0_dev14 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_351 : BitVec 32 := 1#32
  let v300 : BitVec 32 := Scalar.muli v6 c1_i32_351
  let v301 : BitVec 32 := Scalar.addi c0_i32_352 v300
  v301.toNat
def k0_dev15 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_363 : BitVec 32 := 1#32
  let v306 : BitVec 32 := Scalar.muli v6 c1_i32_363
  let v307 : BitVec 32 := Scalar.addi c0_i32_364 v306
  v307.toNat
def k0_dev16 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_373 : BitVec 32 := 1#32
  let v316 : BitVec 32 := Scalar.muli v4 c1_i32_373
  let v317 : BitVec 32 := Scalar.addi c0_i32_374 v316
  v317.toNat
@[reducible] def k0_t7_loop : Scf.Loop 32 :=
  let c0_i32_382 : BitVec 32 := 0#32
  let c8_i32_383 : BitVec 32 := 8#32
  let v330 : BitVec 32 := Scalar.addi c0_i32_382 c8_i32_383
  let c1_i32_384 : BitVec 32 := 1#32
  ⟨c0_i32_382, v330, c1_i32_384⟩
def k0_cond7 (k0_t7 : Fin k0_t7_loop.trips) : BitVec 1 :=
  let c0_i32_382 : BitVec 32 := 0#32
  let c1_i32_384 : BitVec 32 := 1#32
  let arg14 : BitVec 32 := Scf.iv c0_i32_382 c1_i32_384 k0_t7
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off50 (k0_t7 : Fin k0_t7_loop.trips) : Fin 1 → Nat :=
  let c0_i32_382 : BitVec 32 := 0#32
  let c1_i32_384 : BitVec 32 := 1#32
  let arg14 : BitVec 32 := Scf.iv c0_i32_382 c1_i32_384 k0_t7
  let c2_i32_830 : BitVec 32 := 2#32
  let v704 : BitVec 32 := Scalar.remsi arg14 c2_i32_830
  ![v704.toNat]
def k0_off51 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v326 : BitVec 32 := Scalar.addi v2 c5_i32
  let c8_i32_379 : BitVec 32 := 8#32
  let v327 : BitVec 32 := Scalar.remsi v326 c8_i32_379
  let c4096_i32_380 : BitVec 32 := 4096#32
  let v328 : BitVec 32 := Scalar.muli v327 c4096_i32_380
  let c0_i32_381 : BitVec 32 := 0#32
  let v329 : BitVec 32 := Scalar.addi v328 c0_i32_381
  let c0_i32_382 : BitVec 32 := 0#32
  let c1_i32_384 : BitVec 32 := 1#32
  let arg14 : BitVec 32 := Scf.iv c0_i32_382 c1_i32_384 k0_t7
  let c256_i32 : BitVec 32 := 256#32
  let v705 : BitVec 32 := Scalar.muli arg14 c256_i32
  let v706 : BitVec 32 := Scalar.addi v329 v705
  let c0_i32_841 : BitVec 32 := 0#32
  ![v706.toNat, 0]
def k0_off52 (k0_t7 : Fin k0_t7_loop.trips) : Fin 3 → Nat :=
  let c0_i32_382 : BitVec 32 := 0#32
  let c1_i32_384 : BitVec 32 := 1#32
  let arg14 : BitVec 32 := Scf.iv c0_i32_382 c1_i32_384 k0_t7
  let c2_i32_830 : BitVec 32 := 2#32
  let v704 : BitVec 32 := Scalar.remsi arg14 c2_i32_830
  let c0_i32_842 : BitVec 32 := 0#32
  let c0_i32_843 : BitVec 32 := 0#32
  ![v704.toNat, 0, 0]
def k0_off53 (k0_t7 : Fin k0_t7_loop.trips) : Fin 3 → Nat :=
  let c1 : Index := 1#32
  let c0_i32_382 : BitVec 32 := 0#32
  let c1_i32_384 : BitVec 32 := 1#32
  let arg14 : BitVec 32 := Scf.iv c0_i32_382 c1_i32_384 k0_t7
  let c256_i32_833 : BitVec 32 := 256#32
  let v710 : BitVec 32 := Scalar.muli arg14 c256_i32_833
  let v711 : Index := Scalar.indexCast v710
  let c0 : Index := 0#32
  ![1, v711.toNat, 0]
def k0_off54 (k0_t7 : Fin k0_t7_loop.trips) : Fin 3 → Nat :=
  let c0_i32_382 : BitVec 32 := 0#32
  let c1_i32_384 : BitVec 32 := 1#32
  let arg14 : BitVec 32 := Scf.iv c0_i32_382 c1_i32_384 k0_t7
  let c2_i32_830 : BitVec 32 := 2#32
  let v704 : BitVec 32 := Scalar.remsi arg14 c2_i32_830
  let v718 : Index := Scalar.indexCast v704
  let c0_836 : Index := 0#32
  let c0_837 : Index := 0#32
  ![v718.toNat, 0, 0]
def k0_off55 (k0_t7 : Fin k0_t7_loop.trips) : Fin 1 → Nat :=
  let c0_i32_382 : BitVec 32 := 0#32
  let c1_i32_384 : BitVec 32 := 1#32
  let arg14 : BitVec 32 := Scf.iv c0_i32_382 c1_i32_384 k0_t7
  let c2_i32_830 : BitVec 32 := 2#32
  let v704 : BitVec 32 := Scalar.remsi arg14 c2_i32_830
  ![v704.toNat]
def k0_off56 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v326 : BitVec 32 := Scalar.addi v2 c5_i32
  let c8_i32_379 : BitVec 32 := 8#32
  let v327 : BitVec 32 := Scalar.remsi v326 c8_i32_379
  let c4096_i32_380 : BitVec 32 := 4096#32
  let v328 : BitVec 32 := Scalar.muli v327 c4096_i32_380
  let c0_i32_381 : BitVec 32 := 0#32
  let v329 : BitVec 32 := Scalar.addi v328 c0_i32_381
  let c0_i32_382 : BitVec 32 := 0#32
  let c1_i32_384 : BitVec 32 := 1#32
  let arg14 : BitVec 32 := Scf.iv c0_i32_382 c1_i32_384 k0_t7
  let c256_i32 : BitVec 32 := 256#32
  let v705 : BitVec 32 := Scalar.muli arg14 c256_i32
  let v706 : BitVec 32 := Scalar.addi v329 v705
  let c0_i32_838 : BitVec 32 := 0#32
  ![v706.toNat, 0]
def k0_off57 (k0_t7 : Fin k0_t7_loop.trips) : Fin 3 → Nat :=
  let c0_i32_382 : BitVec 32 := 0#32
  let c1_i32_384 : BitVec 32 := 1#32
  let arg14 : BitVec 32 := Scf.iv c0_i32_382 c1_i32_384 k0_t7
  let c2_i32_830 : BitVec 32 := 2#32
  let v704 : BitVec 32 := Scalar.remsi arg14 c2_i32_830
  let c0_i32_839 : BitVec 32 := 0#32
  let c0_i32_840 : BitVec 32 := 0#32
  ![v704.toNat, 0, 0]
@[reducible] def k0_t8_loop : Scf.Loop 32 :=
  let c0_i32_401 : BitVec 32 := 0#32
  let c8_i32_402 : BitVec 32 := 8#32
  let v347 : BitVec 32 := Scalar.addi c0_i32_401 c8_i32_402
  let c1_i32_403 : BitVec 32 := 1#32
  ⟨c0_i32_401, v347, c1_i32_403⟩
def k0_cond8 (k0_t8 : Fin k0_t8_loop.trips) : BitVec 1 :=
  let c0_i32_401 : BitVec 32 := 0#32
  let c1_i32_403 : BitVec 32 := 1#32
  let arg14 : BitVec 32 := Scf.iv c0_i32_401 c1_i32_403 k0_t8
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off58 (k0_t8 : Fin k0_t8_loop.trips) : Fin 1 → Nat :=
  let c0_i32_401 : BitVec 32 := 0#32
  let c1_i32_403 : BitVec 32 := 1#32
  let arg14 : BitVec 32 := Scf.iv c0_i32_401 c1_i32_403 k0_t8
  let c2_i32_830 : BitVec 32 := 2#32
  let v704 : BitVec 32 := Scalar.remsi arg14 c2_i32_830
  ![v704.toNat]
def k0_off59 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v343 : BitVec 32 := Scalar.addi v2 c3_i32
  let c8_i32_398 : BitVec 32 := 8#32
  let v344 : BitVec 32 := Scalar.remsi v343 c8_i32_398
  let c4096_i32_399 : BitVec 32 := 4096#32
  let v345 : BitVec 32 := Scalar.muli v344 c4096_i32_399
  let c2048_i32_400 : BitVec 32 := 2048#32
  let v346 : BitVec 32 := Scalar.addi v345 c2048_i32_400
  let c0_i32_401 : BitVec 32 := 0#32
  let c1_i32_403 : BitVec 32 := 1#32
  let arg14 : BitVec 32 := Scf.iv c0_i32_401 c1_i32_403 k0_t8
  let c256_i32 : BitVec 32 := 256#32
  let v705 : BitVec 32 := Scalar.muli arg14 c256_i32
  let v706 : BitVec 32 := Scalar.addi v346 v705
  let c0_i32_841 : BitVec 32 := 0#32
  ![v706.toNat, 0]
def k0_off60 (k0_t8 : Fin k0_t8_loop.trips) : Fin 3 → Nat :=
  let c0_i32_401 : BitVec 32 := 0#32
  let c1_i32_403 : BitVec 32 := 1#32
  let arg14 : BitVec 32 := Scf.iv c0_i32_401 c1_i32_403 k0_t8
  let c2_i32_830 : BitVec 32 := 2#32
  let v704 : BitVec 32 := Scalar.remsi arg14 c2_i32_830
  let c0_i32_842 : BitVec 32 := 0#32
  let c0_i32_843 : BitVec 32 := 0#32
  ![v704.toNat, 0, 0]
def k0_off61 (k0_t8 : Fin k0_t8_loop.trips) : Fin 3 → Nat :=
  let c1 : Index := 1#32
  let c0_i32_401 : BitVec 32 := 0#32
  let c1_i32_403 : BitVec 32 := 1#32
  let arg14 : BitVec 32 := Scf.iv c0_i32_401 c1_i32_403 k0_t8
  let c256_i32_833 : BitVec 32 := 256#32
  let v710 : BitVec 32 := Scalar.muli arg14 c256_i32_833
  let v711 : Index := Scalar.indexCast v710
  let c0 : Index := 0#32
  ![1, v711.toNat, 0]
def k0_off62 (k0_t8 : Fin k0_t8_loop.trips) : Fin 3 → Nat :=
  let c0_i32_401 : BitVec 32 := 0#32
  let c1_i32_403 : BitVec 32 := 1#32
  let arg14 : BitVec 32 := Scf.iv c0_i32_401 c1_i32_403 k0_t8
  let c2_i32_830 : BitVec 32 := 2#32
  let v704 : BitVec 32 := Scalar.remsi arg14 c2_i32_830
  let v718 : Index := Scalar.indexCast v704
  let c0_836 : Index := 0#32
  let c0_837 : Index := 0#32
  ![v718.toNat, 0, 0]
def k0_off63 (k0_t8 : Fin k0_t8_loop.trips) : Fin 1 → Nat :=
  let c0_i32_401 : BitVec 32 := 0#32
  let c1_i32_403 : BitVec 32 := 1#32
  let arg14 : BitVec 32 := Scf.iv c0_i32_401 c1_i32_403 k0_t8
  let c2_i32_830 : BitVec 32 := 2#32
  let v704 : BitVec 32 := Scalar.remsi arg14 c2_i32_830
  ![v704.toNat]
def k0_off64 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v343 : BitVec 32 := Scalar.addi v2 c3_i32
  let c8_i32_398 : BitVec 32 := 8#32
  let v344 : BitVec 32 := Scalar.remsi v343 c8_i32_398
  let c4096_i32_399 : BitVec 32 := 4096#32
  let v345 : BitVec 32 := Scalar.muli v344 c4096_i32_399
  let c2048_i32_400 : BitVec 32 := 2048#32
  let v346 : BitVec 32 := Scalar.addi v345 c2048_i32_400
  let c0_i32_401 : BitVec 32 := 0#32
  let c1_i32_403 : BitVec 32 := 1#32
  let arg14 : BitVec 32 := Scf.iv c0_i32_401 c1_i32_403 k0_t8
  let c256_i32 : BitVec 32 := 256#32
  let v705 : BitVec 32 := Scalar.muli arg14 c256_i32
  let v706 : BitVec 32 := Scalar.addi v346 v705
  let c0_i32_838 : BitVec 32 := 0#32
  ![v706.toNat, 0]
def k0_off65 (k0_t8 : Fin k0_t8_loop.trips) : Fin 3 → Nat :=
  let c0_i32_401 : BitVec 32 := 0#32
  let c1_i32_403 : BitVec 32 := 1#32
  let arg14 : BitVec 32 := Scf.iv c0_i32_401 c1_i32_403 k0_t8
  let c2_i32_830 : BitVec 32 := 2#32
  let v704 : BitVec 32 := Scalar.remsi arg14 c2_i32_830
  let c0_i32_839 : BitVec 32 := 0#32
  let c0_i32_840 : BitVec 32 := 0#32
  ![v704.toNat, 0, 0]
def k0_dev17 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_457 : BitVec 32 := 1#32
  let v390 : BitVec 32 := Scalar.muli v4 c1_i32_457
  let v391 : BitVec 32 := Scalar.addi c0_i32_458 v390
  v391.toNat
def k0_dev18 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_461 : BitVec 32 := 1#32
  let v394 : BitVec 32 := Scalar.muli v6 c1_i32_461
  let v395 : BitVec 32 := Scalar.addi c0_i32_462 v394
  v395.toNat
def k0_dev19 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_473 : BitVec 32 := 1#32
  let v400 : BitVec 32 := Scalar.muli v6 c1_i32_473
  let v401 : BitVec 32 := Scalar.addi c0_i32_474 v400
  v401.toNat
def k0_dev20 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_483 : BitVec 32 := 1#32
  let v410 : BitVec 32 := Scalar.muli v4 c1_i32_483
  let v411 : BitVec 32 := Scalar.addi c0_i32_484 v410
  v411.toNat
@[reducible] def k0_t9_loop : Scf.Loop 32 :=
  let c0_i32_492 : BitVec 32 := 0#32
  let c8_i32_493 : BitVec 32 := 8#32
  let v424 : BitVec 32 := Scalar.addi c0_i32_492 c8_i32_493
  let c1_i32_494 : BitVec 32 := 1#32
  ⟨c0_i32_492, v424, c1_i32_494⟩
def k0_cond9 (k0_t9 : Fin k0_t9_loop.trips) : BitVec 1 :=
  let c0_i32_492 : BitVec 32 := 0#32
  let c1_i32_494 : BitVec 32 := 1#32
  let arg14 : BitVec 32 := Scf.iv c0_i32_492 c1_i32_494 k0_t9
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off66 (k0_t9 : Fin k0_t9_loop.trips) : Fin 1 → Nat :=
  let c0_i32_492 : BitVec 32 := 0#32
  let c1_i32_494 : BitVec 32 := 1#32
  let arg14 : BitVec 32 := Scf.iv c0_i32_492 c1_i32_494 k0_t9
  let c2_i32_830 : BitVec 32 := 2#32
  let v704 : BitVec 32 := Scalar.remsi arg14 c2_i32_830
  ![v704.toNat]
def k0_off67 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v420 : BitVec 32 := Scalar.addi v2 c4_i32
  let c8_i32_489 : BitVec 32 := 8#32
  let v421 : BitVec 32 := Scalar.remsi v420 c8_i32_489
  let c4096_i32_490 : BitVec 32 := 4096#32
  let v422 : BitVec 32 := Scalar.muli v421 c4096_i32_490
  let c0_i32_491 : BitVec 32 := 0#32
  let v423 : BitVec 32 := Scalar.addi v422 c0_i32_491
  let c0_i32_492 : BitVec 32 := 0#32
  let c1_i32_494 : BitVec 32 := 1#32
  let arg14 : BitVec 32 := Scf.iv c0_i32_492 c1_i32_494 k0_t9
  let c256_i32 : BitVec 32 := 256#32
  let v705 : BitVec 32 := Scalar.muli arg14 c256_i32
  let v706 : BitVec 32 := Scalar.addi v423 v705
  let c0_i32_842 : BitVec 32 := 0#32
  ![v706.toNat, 0]
def k0_off68 (k0_t9 : Fin k0_t9_loop.trips) : Fin 3 → Nat :=
  let c0_i32_492 : BitVec 32 := 0#32
  let c1_i32_494 : BitVec 32 := 1#32
  let arg14 : BitVec 32 := Scf.iv c0_i32_492 c1_i32_494 k0_t9
  let c2_i32_830 : BitVec 32 := 2#32
  let v704 : BitVec 32 := Scalar.remsi arg14 c2_i32_830
  let c0_i32_843 : BitVec 32 := 0#32
  let c0_i32_844 : BitVec 32 := 0#32
  ![v704.toNat, 0, 0]
def k0_off69 (k0_t9 : Fin k0_t9_loop.trips) : Fin 3 → Nat :=
  let c0 : Index := 0#32
  let c0_i32_492 : BitVec 32 := 0#32
  let c1_i32_494 : BitVec 32 := 1#32
  let arg14 : BitVec 32 := Scf.iv c0_i32_492 c1_i32_494 k0_t9
  let c256_i32_833 : BitVec 32 := 256#32
  let v710 : BitVec 32 := Scalar.muli arg14 c256_i32_833
  let v711 : Index := Scalar.indexCast v710
  let c0_834 : Index := 0#32
  ![0, v711.toNat, 0]
def k0_off70 (k0_t9 : Fin k0_t9_loop.trips) : Fin 3 → Nat :=
  let c0_i32_492 : BitVec 32 := 0#32
  let c1_i32_494 : BitVec 32 := 1#32
  let arg14 : BitVec 32 := Scf.iv c0_i32_492 c1_i32_494 k0_t9
  let c2_i32_830 : BitVec 32 := 2#32
  let v704 : BitVec 32 := Scalar.remsi arg14 c2_i32_830
  let v718 : Index := Scalar.indexCast v704
  let c0_837 : Index := 0#32
  let c0_838 : Index := 0#32
  ![v718.toNat, 0, 0]
def k0_off71 (k0_t9 : Fin k0_t9_loop.trips) : Fin 1 → Nat :=
  let c0_i32_492 : BitVec 32 := 0#32
  let c1_i32_494 : BitVec 32 := 1#32
  let arg14 : BitVec 32 := Scf.iv c0_i32_492 c1_i32_494 k0_t9
  let c2_i32_830 : BitVec 32 := 2#32
  let v704 : BitVec 32 := Scalar.remsi arg14 c2_i32_830
  ![v704.toNat]
def k0_off72 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v420 : BitVec 32 := Scalar.addi v2 c4_i32
  let c8_i32_489 : BitVec 32 := 8#32
  let v421 : BitVec 32 := Scalar.remsi v420 c8_i32_489
  let c4096_i32_490 : BitVec 32 := 4096#32
  let v422 : BitVec 32 := Scalar.muli v421 c4096_i32_490
  let c0_i32_491 : BitVec 32 := 0#32
  let v423 : BitVec 32 := Scalar.addi v422 c0_i32_491
  let c0_i32_492 : BitVec 32 := 0#32
  let c1_i32_494 : BitVec 32 := 1#32
  let arg14 : BitVec 32 := Scf.iv c0_i32_492 c1_i32_494 k0_t9
  let c256_i32 : BitVec 32 := 256#32
  let v705 : BitVec 32 := Scalar.muli arg14 c256_i32
  let v706 : BitVec 32 := Scalar.addi v423 v705
  let c0_i32_839 : BitVec 32 := 0#32
  ![v706.toNat, 0]
def k0_off73 (k0_t9 : Fin k0_t9_loop.trips) : Fin 3 → Nat :=
  let c0_i32_492 : BitVec 32 := 0#32
  let c1_i32_494 : BitVec 32 := 1#32
  let arg14 : BitVec 32 := Scf.iv c0_i32_492 c1_i32_494 k0_t9
  let c2_i32_830 : BitVec 32 := 2#32
  let v704 : BitVec 32 := Scalar.remsi arg14 c2_i32_830
  let c0_i32_840 : BitVec 32 := 0#32
  let c0_i32_841 : BitVec 32 := 0#32
  ![v704.toNat, 0, 0]
@[reducible] def k0_t10_loop : Scf.Loop 32 :=
  let c0_i32_512 : BitVec 32 := 0#32
  let c8_i32_513 : BitVec 32 := 8#32
  let v441 : BitVec 32 := Scalar.addi c0_i32_512 c8_i32_513
  let c1_i32_514 : BitVec 32 := 1#32
  ⟨c0_i32_512, v441, c1_i32_514⟩
def k0_cond10 (k0_t10 : Fin k0_t10_loop.trips) : BitVec 1 :=
  let c0_i32_512 : BitVec 32 := 0#32
  let c1_i32_514 : BitVec 32 := 1#32
  let arg14 : BitVec 32 := Scf.iv c0_i32_512 c1_i32_514 k0_t10
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off74 (k0_t10 : Fin k0_t10_loop.trips) : Fin 1 → Nat :=
  let c0_i32_512 : BitVec 32 := 0#32
  let c1_i32_514 : BitVec 32 := 1#32
  let arg14 : BitVec 32 := Scf.iv c0_i32_512 c1_i32_514 k0_t10
  let c2_i32_830 : BitVec 32 := 2#32
  let v704 : BitVec 32 := Scalar.remsi arg14 c2_i32_830
  ![v704.toNat]
def k0_off75 (d0 : Dev nD) (k0_t10 : Fin k0_t10_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_508 : BitVec 32 := 4#32
  let v437 : BitVec 32 := Scalar.addi v2 c4_i32_508
  let c8_i32_509 : BitVec 32 := 8#32
  let v438 : BitVec 32 := Scalar.remsi v437 c8_i32_509
  let c4096_i32_510 : BitVec 32 := 4096#32
  let v439 : BitVec 32 := Scalar.muli v438 c4096_i32_510
  let c2048_i32_511 : BitVec 32 := 2048#32
  let v440 : BitVec 32 := Scalar.addi v439 c2048_i32_511
  let c0_i32_512 : BitVec 32 := 0#32
  let c1_i32_514 : BitVec 32 := 1#32
  let arg14 : BitVec 32 := Scf.iv c0_i32_512 c1_i32_514 k0_t10
  let c256_i32 : BitVec 32 := 256#32
  let v705 : BitVec 32 := Scalar.muli arg14 c256_i32
  let v706 : BitVec 32 := Scalar.addi v440 v705
  let c0_i32_842 : BitVec 32 := 0#32
  ![v706.toNat, 0]
def k0_off76 (k0_t10 : Fin k0_t10_loop.trips) : Fin 3 → Nat :=
  let c0_i32_512 : BitVec 32 := 0#32
  let c1_i32_514 : BitVec 32 := 1#32
  let arg14 : BitVec 32 := Scf.iv c0_i32_512 c1_i32_514 k0_t10
  let c2_i32_830 : BitVec 32 := 2#32
  let v704 : BitVec 32 := Scalar.remsi arg14 c2_i32_830
  let c0_i32_843 : BitVec 32 := 0#32
  let c0_i32_844 : BitVec 32 := 0#32
  ![v704.toNat, 0, 0]
def k0_off77 (k0_t10 : Fin k0_t10_loop.trips) : Fin 3 → Nat :=
  let c0 : Index := 0#32
  let c0_i32_512 : BitVec 32 := 0#32
  let c1_i32_514 : BitVec 32 := 1#32
  let arg14 : BitVec 32 := Scf.iv c0_i32_512 c1_i32_514 k0_t10
  let c256_i32_833 : BitVec 32 := 256#32
  let v710 : BitVec 32 := Scalar.muli arg14 c256_i32_833
  let v711 : Index := Scalar.indexCast v710
  let c0_834 : Index := 0#32
  ![0, v711.toNat, 0]
def k0_off78 (k0_t10 : Fin k0_t10_loop.trips) : Fin 3 → Nat :=
  let c0_i32_512 : BitVec 32 := 0#32
  let c1_i32_514 : BitVec 32 := 1#32
  let arg14 : BitVec 32 := Scf.iv c0_i32_512 c1_i32_514 k0_t10
  let c2_i32_830 : BitVec 32 := 2#32
  let v704 : BitVec 32 := Scalar.remsi arg14 c2_i32_830
  let v718 : Index := Scalar.indexCast v704
  let c0_837 : Index := 0#32
  let c0_838 : Index := 0#32
  ![v718.toNat, 0, 0]
def k0_off79 (k0_t10 : Fin k0_t10_loop.trips) : Fin 1 → Nat :=
  let c0_i32_512 : BitVec 32 := 0#32
  let c1_i32_514 : BitVec 32 := 1#32
  let arg14 : BitVec 32 := Scf.iv c0_i32_512 c1_i32_514 k0_t10
  let c2_i32_830 : BitVec 32 := 2#32
  let v704 : BitVec 32 := Scalar.remsi arg14 c2_i32_830
  ![v704.toNat]
def k0_off80 (d0 : Dev nD) (k0_t10 : Fin k0_t10_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_508 : BitVec 32 := 4#32
  let v437 : BitVec 32 := Scalar.addi v2 c4_i32_508
  let c8_i32_509 : BitVec 32 := 8#32
  let v438 : BitVec 32 := Scalar.remsi v437 c8_i32_509
  let c4096_i32_510 : BitVec 32 := 4096#32
  let v439 : BitVec 32 := Scalar.muli v438 c4096_i32_510
  let c2048_i32_511 : BitVec 32 := 2048#32
  let v440 : BitVec 32 := Scalar.addi v439 c2048_i32_511
  let c0_i32_512 : BitVec 32 := 0#32
  let c1_i32_514 : BitVec 32 := 1#32
  let arg14 : BitVec 32 := Scf.iv c0_i32_512 c1_i32_514 k0_t10
  let c256_i32 : BitVec 32 := 256#32
  let v705 : BitVec 32 := Scalar.muli arg14 c256_i32
  let v706 : BitVec 32 := Scalar.addi v440 v705
  let c0_i32_839 : BitVec 32 := 0#32
  ![v706.toNat, 0]
def k0_off81 (k0_t10 : Fin k0_t10_loop.trips) : Fin 3 → Nat :=
  let c0_i32_512 : BitVec 32 := 0#32
  let c1_i32_514 : BitVec 32 := 1#32
  let arg14 : BitVec 32 := Scf.iv c0_i32_512 c1_i32_514 k0_t10
  let c2_i32_830 : BitVec 32 := 2#32
  let v704 : BitVec 32 := Scalar.remsi arg14 c2_i32_830
  let c0_i32_840 : BitVec 32 := 0#32
  let c0_i32_841 : BitVec 32 := 0#32
  ![v704.toNat, 0, 0]
def k0_dev21 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_568 : BitVec 32 := 1#32
  let v484 : BitVec 32 := Scalar.muli v4 c1_i32_568
  let v485 : BitVec 32 := Scalar.addi c0_i32_569 v484
  v485.toNat
def k0_dev22 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_572 : BitVec 32 := 1#32
  let v488 : BitVec 32 := Scalar.muli v6 c1_i32_572
  let v489 : BitVec 32 := Scalar.addi c0_i32_573 v488
  v489.toNat
def k0_dev23 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_584 : BitVec 32 := 1#32
  let v494 : BitVec 32 := Scalar.muli v6 c1_i32_584
  let v495 : BitVec 32 := Scalar.addi c0_i32_585 v494
  v495.toNat
def k0_dev24 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_594 : BitVec 32 := 1#32
  let v504 : BitVec 32 := Scalar.muli v4 c1_i32_594
  let v505 : BitVec 32 := Scalar.addi c0_i32_595 v504
  v505.toNat
@[reducible] def k0_t11_loop : Scf.Loop 32 :=
  let c0_i32_604 : BitVec 32 := 0#32
  let c8_i32_605 : BitVec 32 := 8#32
  let v518 : BitVec 32 := Scalar.addi c0_i32_604 c8_i32_605
  let c1_i32_606 : BitVec 32 := 1#32
  ⟨c0_i32_604, v518, c1_i32_606⟩
def k0_cond11 (k0_t11 : Fin k0_t11_loop.trips) : BitVec 1 :=
  let c0_i32_604 : BitVec 32 := 0#32
  let c1_i32_606 : BitVec 32 := 1#32
  let arg14 : BitVec 32 := Scf.iv c0_i32_604 c1_i32_606 k0_t11
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off82 (k0_t11 : Fin k0_t11_loop.trips) : Fin 1 → Nat :=
  let c0_i32_604 : BitVec 32 := 0#32
  let c1_i32_606 : BitVec 32 := 1#32
  let arg14 : BitVec 32 := Scf.iv c0_i32_604 c1_i32_606 k0_t11
  let c2_i32_830 : BitVec 32 := 2#32
  let v704 : BitVec 32 := Scalar.remsi arg14 c2_i32_830
  ![v704.toNat]
def k0_off83 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_600 : BitVec 32 := 3#32
  let v514 : BitVec 32 := Scalar.addi v2 c3_i32_600
  let c8_i32_601 : BitVec 32 := 8#32
  let v515 : BitVec 32 := Scalar.remsi v514 c8_i32_601
  let c4096_i32_602 : BitVec 32 := 4096#32
  let v516 : BitVec 32 := Scalar.muli v515 c4096_i32_602
  let c0_i32_603 : BitVec 32 := 0#32
  let v517 : BitVec 32 := Scalar.addi v516 c0_i32_603
  let c0_i32_604 : BitVec 32 := 0#32
  let c1_i32_606 : BitVec 32 := 1#32
  let arg14 : BitVec 32 := Scf.iv c0_i32_604 c1_i32_606 k0_t11
  let c256_i32 : BitVec 32 := 256#32
  let v705 : BitVec 32 := Scalar.muli arg14 c256_i32
  let v706 : BitVec 32 := Scalar.addi v517 v705
  let c0_i32_841 : BitVec 32 := 0#32
  ![v706.toNat, 0]
def k0_off84 (k0_t11 : Fin k0_t11_loop.trips) : Fin 3 → Nat :=
  let c0_i32_604 : BitVec 32 := 0#32
  let c1_i32_606 : BitVec 32 := 1#32
  let arg14 : BitVec 32 := Scf.iv c0_i32_604 c1_i32_606 k0_t11
  let c2_i32_830 : BitVec 32 := 2#32
  let v704 : BitVec 32 := Scalar.remsi arg14 c2_i32_830
  let c0_i32_842 : BitVec 32 := 0#32
  let c0_i32_843 : BitVec 32 := 0#32
  ![v704.toNat, 0, 0]
def k0_off85 (k0_t11 : Fin k0_t11_loop.trips) : Fin 3 → Nat :=
  let c1 : Index := 1#32
  let c0_i32_604 : BitVec 32 := 0#32
  let c1_i32_606 : BitVec 32 := 1#32
  let arg14 : BitVec 32 := Scf.iv c0_i32_604 c1_i32_606 k0_t11
  let c256_i32_833 : BitVec 32 := 256#32
  let v710 : BitVec 32 := Scalar.muli arg14 c256_i32_833
  let v711 : Index := Scalar.indexCast v710
  let c0 : Index := 0#32
  ![1, v711.toNat, 0]
def k0_off86 (k0_t11 : Fin k0_t11_loop.trips) : Fin 3 → Nat :=
  let c0_i32_604 : BitVec 32 := 0#32
  let c1_i32_606 : BitVec 32 := 1#32
  let arg14 : BitVec 32 := Scf.iv c0_i32_604 c1_i32_606 k0_t11
  let c2_i32_830 : BitVec 32 := 2#32
  let v704 : BitVec 32 := Scalar.remsi arg14 c2_i32_830
  let v718 : Index := Scalar.indexCast v704
  let c0_836 : Index := 0#32
  let c0_837 : Index := 0#32
  ![v718.toNat, 0, 0]
def k0_off87 (k0_t11 : Fin k0_t11_loop.trips) : Fin 1 → Nat :=
  let c0_i32_604 : BitVec 32 := 0#32
  let c1_i32_606 : BitVec 32 := 1#32
  let arg14 : BitVec 32 := Scf.iv c0_i32_604 c1_i32_606 k0_t11
  let c2_i32_830 : BitVec 32 := 2#32
  let v704 : BitVec 32 := Scalar.remsi arg14 c2_i32_830
  ![v704.toNat]
def k0_off88 (d0 : Dev nD) (k0_t11 : Fin k0_t11_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_600 : BitVec 32 := 3#32
  let v514 : BitVec 32 := Scalar.addi v2 c3_i32_600
  let c8_i32_601 : BitVec 32 := 8#32
  let v515 : BitVec 32 := Scalar.remsi v514 c8_i32_601
  let c4096_i32_602 : BitVec 32 := 4096#32
  let v516 : BitVec 32 := Scalar.muli v515 c4096_i32_602
  let c0_i32_603 : BitVec 32 := 0#32
  let v517 : BitVec 32 := Scalar.addi v516 c0_i32_603
  let c0_i32_604 : BitVec 32 := 0#32
  let c1_i32_606 : BitVec 32 := 1#32
  let arg14 : BitVec 32 := Scf.iv c0_i32_604 c1_i32_606 k0_t11
  let c256_i32 : BitVec 32 := 256#32
  let v705 : BitVec 32 := Scalar.muli arg14 c256_i32
  let v706 : BitVec 32 := Scalar.addi v517 v705
  let c0_i32_838 : BitVec 32 := 0#32
  ![v706.toNat, 0]
def k0_off89 (k0_t11 : Fin k0_t11_loop.trips) : Fin 3 → Nat :=
  let c0_i32_604 : BitVec 32 := 0#32
  let c1_i32_606 : BitVec 32 := 1#32
  let arg14 : BitVec 32 := Scf.iv c0_i32_604 c1_i32_606 k0_t11
  let c2_i32_830 : BitVec 32 := 2#32
  let v704 : BitVec 32 := Scalar.remsi arg14 c2_i32_830
  let c0_i32_839 : BitVec 32 := 0#32
  let c0_i32_840 : BitVec 32 := 0#32
  ![v704.toNat, 0, 0]
@[reducible] def k0_t12_loop : Scf.Loop 32 :=
  let c0_i32_624 : BitVec 32 := 0#32
  let c8_i32_625 : BitVec 32 := 8#32
  let v535 : BitVec 32 := Scalar.addi c0_i32_624 c8_i32_625
  let c1_i32_626 : BitVec 32 := 1#32
  ⟨c0_i32_624, v535, c1_i32_626⟩
def k0_cond12 (k0_t12 : Fin k0_t12_loop.trips) : BitVec 1 :=
  let c0_i32_624 : BitVec 32 := 0#32
  let c1_i32_626 : BitVec 32 := 1#32
  let arg14 : BitVec 32 := Scf.iv c0_i32_624 c1_i32_626 k0_t12
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off90 (k0_t12 : Fin k0_t12_loop.trips) : Fin 1 → Nat :=
  let c0_i32_624 : BitVec 32 := 0#32
  let c1_i32_626 : BitVec 32 := 1#32
  let arg14 : BitVec 32 := Scf.iv c0_i32_624 c1_i32_626 k0_t12
  let c2_i32_830 : BitVec 32 := 2#32
  let v704 : BitVec 32 := Scalar.remsi arg14 c2_i32_830
  ![v704.toNat]
def k0_off91 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_620 : BitVec 32 := 5#32
  let v531 : BitVec 32 := Scalar.addi v2 c5_i32_620
  let c8_i32_621 : BitVec 32 := 8#32
  let v532 : BitVec 32 := Scalar.remsi v531 c8_i32_621
  let c4096_i32_622 : BitVec 32 := 4096#32
  let v533 : BitVec 32 := Scalar.muli v532 c4096_i32_622
  let c2048_i32_623 : BitVec 32 := 2048#32
  let v534 : BitVec 32 := Scalar.addi v533 c2048_i32_623
  let c0_i32_624 : BitVec 32 := 0#32
  let c1_i32_626 : BitVec 32 := 1#32
  let arg14 : BitVec 32 := Scf.iv c0_i32_624 c1_i32_626 k0_t12
  let c256_i32 : BitVec 32 := 256#32
  let v705 : BitVec 32 := Scalar.muli arg14 c256_i32
  let v706 : BitVec 32 := Scalar.addi v534 v705
  let c0_i32_841 : BitVec 32 := 0#32
  ![v706.toNat, 0]
def k0_off92 (k0_t12 : Fin k0_t12_loop.trips) : Fin 3 → Nat :=
  let c0_i32_624 : BitVec 32 := 0#32
  let c1_i32_626 : BitVec 32 := 1#32
  let arg14 : BitVec 32 := Scf.iv c0_i32_624 c1_i32_626 k0_t12
  let c2_i32_830 : BitVec 32 := 2#32
  let v704 : BitVec 32 := Scalar.remsi arg14 c2_i32_830
  let c0_i32_842 : BitVec 32 := 0#32
  let c0_i32_843 : BitVec 32 := 0#32
  ![v704.toNat, 0, 0]
def k0_off93 (k0_t12 : Fin k0_t12_loop.trips) : Fin 3 → Nat :=
  let c1 : Index := 1#32
  let c0_i32_624 : BitVec 32 := 0#32
  let c1_i32_626 : BitVec 32 := 1#32
  let arg14 : BitVec 32 := Scf.iv c0_i32_624 c1_i32_626 k0_t12
  let c256_i32_833 : BitVec 32 := 256#32
  let v710 : BitVec 32 := Scalar.muli arg14 c256_i32_833
  let v711 : Index := Scalar.indexCast v710
  let c0 : Index := 0#32
  ![1, v711.toNat, 0]
def k0_off94 (k0_t12 : Fin k0_t12_loop.trips) : Fin 3 → Nat :=
  let c0_i32_624 : BitVec 32 := 0#32
  let c1_i32_626 : BitVec 32 := 1#32
  let arg14 : BitVec 32 := Scf.iv c0_i32_624 c1_i32_626 k0_t12
  let c2_i32_830 : BitVec 32 := 2#32
  let v704 : BitVec 32 := Scalar.remsi arg14 c2_i32_830
  let v718 : Index := Scalar.indexCast v704
  let c0_836 : Index := 0#32
  let c0_837 : Index := 0#32
  ![v718.toNat, 0, 0]
def k0_off95 (k0_t12 : Fin k0_t12_loop.trips) : Fin 1 → Nat :=
  let c0_i32_624 : BitVec 32 := 0#32
  let c1_i32_626 : BitVec 32 := 1#32
  let arg14 : BitVec 32 := Scf.iv c0_i32_624 c1_i32_626 k0_t12
  let c2_i32_830 : BitVec 32 := 2#32
  let v704 : BitVec 32 := Scalar.remsi arg14 c2_i32_830
  ![v704.toNat]
def k0_off96 (d0 : Dev nD) (k0_t12 : Fin k0_t12_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_620 : BitVec 32 := 5#32
  let v531 : BitVec 32 := Scalar.addi v2 c5_i32_620
  let c8_i32_621 : BitVec 32 := 8#32
  let v532 : BitVec 32 := Scalar.remsi v531 c8_i32_621
  let c4096_i32_622 : BitVec 32 := 4096#32
  let v533 : BitVec 32 := Scalar.muli v532 c4096_i32_622
  let c2048_i32_623 : BitVec 32 := 2048#32
  let v534 : BitVec 32 := Scalar.addi v533 c2048_i32_623
  let c0_i32_624 : BitVec 32 := 0#32
  let c1_i32_626 : BitVec 32 := 1#32
  let arg14 : BitVec 32 := Scf.iv c0_i32_624 c1_i32_626 k0_t12
  let c256_i32 : BitVec 32 := 256#32
  let v705 : BitVec 32 := Scalar.muli arg14 c256_i32
  let v706 : BitVec 32 := Scalar.addi v534 v705
  let c0_i32_838 : BitVec 32 := 0#32
  ![v706.toNat, 0]
def k0_off97 (k0_t12 : Fin k0_t12_loop.trips) : Fin 3 → Nat :=
  let c0_i32_624 : BitVec 32 := 0#32
  let c1_i32_626 : BitVec 32 := 1#32
  let arg14 : BitVec 32 := Scf.iv c0_i32_624 c1_i32_626 k0_t12
  let c2_i32_830 : BitVec 32 := 2#32
  let v704 : BitVec 32 := Scalar.remsi arg14 c2_i32_830
  let c0_i32_839 : BitVec 32 := 0#32
  let c0_i32_840 : BitVec 32 := 0#32
  ![v704.toNat, 0, 0]
def k0_dev25 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_680 : BitVec 32 := 1#32
  let v578 : BitVec 32 := Scalar.muli v4 c1_i32_680
  let v579 : BitVec 32 := Scalar.addi c0_i32_681 v578
  v579.toNat
def k0_dev26 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_684 : BitVec 32 := 1#32
  let v582 : BitVec 32 := Scalar.muli v6 c1_i32_684
  let v583 : BitVec 32 := Scalar.addi c0_i32_685 v582
  v583.toNat
def k0_dev27 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_696 : BitVec 32 := 1#32
  let v588 : BitVec 32 := Scalar.muli v6 c1_i32_696
  let v589 : BitVec 32 := Scalar.addi c0_i32_697 v588
  v589.toNat
def k0_dev28 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_706 : BitVec 32 := 1#32
  let v598 : BitVec 32 := Scalar.muli v4 c1_i32_706
  let v599 : BitVec 32 := Scalar.addi c0_i32_707 v598
  v599.toNat
@[reducible] def k0_t13_loop : Scf.Loop 32 :=
  let c0_i32_716 : BitVec 32 := 0#32
  let c8_i32_717 : BitVec 32 := 8#32
  let v612 : BitVec 32 := Scalar.addi c0_i32_716 c8_i32_717
  let c1_i32_718 : BitVec 32 := 1#32
  ⟨c0_i32_716, v612, c1_i32_718⟩
def k0_cond13 (k0_t13 : Fin k0_t13_loop.trips) : BitVec 1 :=
  let c0_i32_716 : BitVec 32 := 0#32
  let c1_i32_718 : BitVec 32 := 1#32
  let arg14 : BitVec 32 := Scf.iv c0_i32_716 c1_i32_718 k0_t13
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off98 (k0_t13 : Fin k0_t13_loop.trips) : Fin 1 → Nat :=
  let c0_i32_716 : BitVec 32 := 0#32
  let c1_i32_718 : BitVec 32 := 1#32
  let arg14 : BitVec 32 := Scf.iv c0_i32_716 c1_i32_718 k0_t13
  let c2_i32_830 : BitVec 32 := 2#32
  let v704 : BitVec 32 := Scalar.remsi arg14 c2_i32_830
  ![v704.toNat]
def k0_off99 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_712 : BitVec 32 := 2#32
  let v608 : BitVec 32 := Scalar.addi v2 c2_i32_712
  let c8_i32_713 : BitVec 32 := 8#32
  let v609 : BitVec 32 := Scalar.remsi v608 c8_i32_713
  let c4096_i32_714 : BitVec 32 := 4096#32
  let v610 : BitVec 32 := Scalar.muli v609 c4096_i32_714
  let c0_i32_715 : BitVec 32 := 0#32
  let v611 : BitVec 32 := Scalar.addi v610 c0_i32_715
  let c0_i32_716 : BitVec 32 := 0#32
  let c1_i32_718 : BitVec 32 := 1#32
  let arg14 : BitVec 32 := Scf.iv c0_i32_716 c1_i32_718 k0_t13
  let c256_i32 : BitVec 32 := 256#32
  let v705 : BitVec 32 := Scalar.muli arg14 c256_i32
  let v706 : BitVec 32 := Scalar.addi v611 v705
  let c0_i32_842 : BitVec 32 := 0#32
  ![v706.toNat, 0]
def k0_off100 (k0_t13 : Fin k0_t13_loop.trips) : Fin 3 → Nat :=
  let c0_i32_716 : BitVec 32 := 0#32
  let c1_i32_718 : BitVec 32 := 1#32
  let arg14 : BitVec 32 := Scf.iv c0_i32_716 c1_i32_718 k0_t13
  let c2_i32_830 : BitVec 32 := 2#32
  let v704 : BitVec 32 := Scalar.remsi arg14 c2_i32_830
  let c0_i32_843 : BitVec 32 := 0#32
  let c0_i32_844 : BitVec 32 := 0#32
  ![v704.toNat, 0, 0]
def k0_off101 (k0_t13 : Fin k0_t13_loop.trips) : Fin 3 → Nat :=
  let c0 : Index := 0#32
  let c0_i32_716 : BitVec 32 := 0#32
  let c1_i32_718 : BitVec 32 := 1#32
  let arg14 : BitVec 32 := Scf.iv c0_i32_716 c1_i32_718 k0_t13
  let c256_i32_833 : BitVec 32 := 256#32
  let v710 : BitVec 32 := Scalar.muli arg14 c256_i32_833
  let v711 : Index := Scalar.indexCast v710
  let c0_834 : Index := 0#32
  ![0, v711.toNat, 0]
def k0_off102 (k0_t13 : Fin k0_t13_loop.trips) : Fin 3 → Nat :=
  let c0_i32_716 : BitVec 32 := 0#32
  let c1_i32_718 : BitVec 32 := 1#32
  let arg14 : BitVec 32 := Scf.iv c0_i32_716 c1_i32_718 k0_t13
  let c2_i32_830 : BitVec 32 := 2#32
  let v704 : BitVec 32 := Scalar.remsi arg14 c2_i32_830
  let v718 : Index := Scalar.indexCast v704
  let c0_837 : Index := 0#32
  let c0_838 : Index := 0#32
  ![v718.toNat, 0, 0]
def k0_off103 (k0_t13 : Fin k0_t13_loop.trips) : Fin 1 → Nat :=
  let c0_i32_716 : BitVec 32 := 0#32
  let c1_i32_718 : BitVec 32 := 1#32
  let arg14 : BitVec 32 := Scf.iv c0_i32_716 c1_i32_718 k0_t13
  let c2_i32_830 : BitVec 32 := 2#32
  let v704 : BitVec 32 := Scalar.remsi arg14 c2_i32_830
  ![v704.toNat]
def k0_off104 (d0 : Dev nD) (k0_t13 : Fin k0_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_712 : BitVec 32 := 2#32
  let v608 : BitVec 32 := Scalar.addi v2 c2_i32_712
  let c8_i32_713 : BitVec 32 := 8#32
  let v609 : BitVec 32 := Scalar.remsi v608 c8_i32_713
  let c4096_i32_714 : BitVec 32 := 4096#32
  let v610 : BitVec 32 := Scalar.muli v609 c4096_i32_714
  let c0_i32_715 : BitVec 32 := 0#32
  let v611 : BitVec 32 := Scalar.addi v610 c0_i32_715
  let c0_i32_716 : BitVec 32 := 0#32
  let c1_i32_718 : BitVec 32 := 1#32
  let arg14 : BitVec 32 := Scf.iv c0_i32_716 c1_i32_718 k0_t13
  let c256_i32 : BitVec 32 := 256#32
  let v705 : BitVec 32 := Scalar.muli arg14 c256_i32
  let v706 : BitVec 32 := Scalar.addi v611 v705
  let c0_i32_839 : BitVec 32 := 0#32
  ![v706.toNat, 0]
def k0_off105 (k0_t13 : Fin k0_t13_loop.trips) : Fin 3 → Nat :=
  let c0_i32_716 : BitVec 32 := 0#32
  let c1_i32_718 : BitVec 32 := 1#32
  let arg14 : BitVec 32 := Scf.iv c0_i32_716 c1_i32_718 k0_t13
  let c2_i32_830 : BitVec 32 := 2#32
  let v704 : BitVec 32 := Scalar.remsi arg14 c2_i32_830
  let c0_i32_840 : BitVec 32 := 0#32
  let c0_i32_841 : BitVec 32 := 0#32
  ![v704.toNat, 0, 0]
@[reducible] def k0_t14_loop : Scf.Loop 32 :=
  let c0_i32_736 : BitVec 32 := 0#32
  let c8_i32_737 : BitVec 32 := 8#32
  let v629 : BitVec 32 := Scalar.addi c0_i32_736 c8_i32_737
  let c1_i32_738 : BitVec 32 := 1#32
  ⟨c0_i32_736, v629, c1_i32_738⟩
def k0_cond14 (k0_t14 : Fin k0_t14_loop.trips) : BitVec 1 :=
  let c0_i32_736 : BitVec 32 := 0#32
  let c1_i32_738 : BitVec 32 := 1#32
  let arg14 : BitVec 32 := Scf.iv c0_i32_736 c1_i32_738 k0_t14
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off106 (k0_t14 : Fin k0_t14_loop.trips) : Fin 1 → Nat :=
  let c0_i32_736 : BitVec 32 := 0#32
  let c1_i32_738 : BitVec 32 := 1#32
  let arg14 : BitVec 32 := Scf.iv c0_i32_736 c1_i32_738 k0_t14
  let c2_i32_830 : BitVec 32 := 2#32
  let v704 : BitVec 32 := Scalar.remsi arg14 c2_i32_830
  ![v704.toNat]
def k0_off107 (d0 : Dev nD) (k0_t14 : Fin k0_t14_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_732 : BitVec 32 := 6#32
  let v625 : BitVec 32 := Scalar.addi v2 c6_i32_732
  let c8_i32_733 : BitVec 32 := 8#32
  let v626 : BitVec 32 := Scalar.remsi v625 c8_i32_733
  let c4096_i32_734 : BitVec 32 := 4096#32
  let v627 : BitVec 32 := Scalar.muli v626 c4096_i32_734
  let c2048_i32_735 : BitVec 32 := 2048#32
  let v628 : BitVec 32 := Scalar.addi v627 c2048_i32_735
  let c0_i32_736 : BitVec 32 := 0#32
  let c1_i32_738 : BitVec 32 := 1#32
  let arg14 : BitVec 32 := Scf.iv c0_i32_736 c1_i32_738 k0_t14
  let c256_i32 : BitVec 32 := 256#32
  let v705 : BitVec 32 := Scalar.muli arg14 c256_i32
  let v706 : BitVec 32 := Scalar.addi v628 v705
  let c0_i32_842 : BitVec 32 := 0#32
  ![v706.toNat, 0]
def k0_off108 (k0_t14 : Fin k0_t14_loop.trips) : Fin 3 → Nat :=
  let c0_i32_736 : BitVec 32 := 0#32
  let c1_i32_738 : BitVec 32 := 1#32
  let arg14 : BitVec 32 := Scf.iv c0_i32_736 c1_i32_738 k0_t14
  let c2_i32_830 : BitVec 32 := 2#32
  let v704 : BitVec 32 := Scalar.remsi arg14 c2_i32_830
  let c0_i32_843 : BitVec 32 := 0#32
  let c0_i32_844 : BitVec 32 := 0#32
  ![v704.toNat, 0, 0]
def k0_off109 (k0_t14 : Fin k0_t14_loop.trips) : Fin 3 → Nat :=
  let c0 : Index := 0#32
  let c0_i32_736 : BitVec 32 := 0#32
  let c1_i32_738 : BitVec 32 := 1#32
  let arg14 : BitVec 32 := Scf.iv c0_i32_736 c1_i32_738 k0_t14
  let c256_i32_833 : BitVec 32 := 256#32
  let v710 : BitVec 32 := Scalar.muli arg14 c256_i32_833
  let v711 : Index := Scalar.indexCast v710
  let c0_834 : Index := 0#32
  ![0, v711.toNat, 0]
def k0_off110 (k0_t14 : Fin k0_t14_loop.trips) : Fin 3 → Nat :=
  let c0_i32_736 : BitVec 32 := 0#32
  let c1_i32_738 : BitVec 32 := 1#32
  let arg14 : BitVec 32 := Scf.iv c0_i32_736 c1_i32_738 k0_t14
  let c2_i32_830 : BitVec 32 := 2#32
  let v704 : BitVec 32 := Scalar.remsi arg14 c2_i32_830
  let v718 : Index := Scalar.indexCast v704
  let c0_837 : Index := 0#32
  let c0_838 : Index := 0#32
  ![v718.toNat, 0, 0]
def k0_off111 (k0_t14 : Fin k0_t14_loop.trips) : Fin 1 → Nat :=
  let c0_i32_736 : BitVec 32 := 0#32
  let c1_i32_738 : BitVec 32 := 1#32
  let arg14 : BitVec 32 := Scf.iv c0_i32_736 c1_i32_738 k0_t14
  let c2_i32_830 : BitVec 32 := 2#32
  let v704 : BitVec 32 := Scalar.remsi arg14 c2_i32_830
  ![v704.toNat]
def k0_off112 (d0 : Dev nD) (k0_t14 : Fin k0_t14_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_732 : BitVec 32 := 6#32
  let v625 : BitVec 32 := Scalar.addi v2 c6_i32_732
  let c8_i32_733 : BitVec 32 := 8#32
  let v626 : BitVec 32 := Scalar.remsi v625 c8_i32_733
  let c4096_i32_734 : BitVec 32 := 4096#32
  let v627 : BitVec 32 := Scalar.muli v626 c4096_i32_734
  let c2048_i32_735 : BitVec 32 := 2048#32
  let v628 : BitVec 32 := Scalar.addi v627 c2048_i32_735
  let c0_i32_736 : BitVec 32 := 0#32
  let c1_i32_738 : BitVec 32 := 1#32
  let arg14 : BitVec 32 := Scf.iv c0_i32_736 c1_i32_738 k0_t14
  let c256_i32 : BitVec 32 := 256#32
  let v705 : BitVec 32 := Scalar.muli arg14 c256_i32
  let v706 : BitVec 32 := Scalar.addi v628 v705
  let c0_i32_839 : BitVec 32 := 0#32
  ![v706.toNat, 0]
def k0_off113 (k0_t14 : Fin k0_t14_loop.trips) : Fin 3 → Nat :=
  let c0_i32_736 : BitVec 32 := 0#32
  let c1_i32_738 : BitVec 32 := 1#32
  let arg14 : BitVec 32 := Scf.iv c0_i32_736 c1_i32_738 k0_t14
  let c2_i32_830 : BitVec 32 := 2#32
  let v704 : BitVec 32 := Scalar.remsi arg14 c2_i32_830
  let c0_i32_840 : BitVec 32 := 0#32
  let c0_i32_841 : BitVec 32 := 0#32
  ![v704.toNat, 0, 0]
@[reducible] def k0_t15_loop : Scf.Loop 32 :=
  let c0_i32_794 : BitVec 32 := 0#32
  let c8_i32_795 : BitVec 32 := 8#32
  let v674 : BitVec 32 := Scalar.addi c0_i32_794 c8_i32_795
  let c1_i32_796 : BitVec 32 := 1#32
  ⟨c0_i32_794, v674, c1_i32_796⟩
def k0_cond15 (k0_t15 : Fin k0_t15_loop.trips) : BitVec 1 :=
  let c0_i32_794 : BitVec 32 := 0#32
  let c1_i32_796 : BitVec 32 := 1#32
  let arg14 : BitVec 32 := Scf.iv c0_i32_794 c1_i32_796 k0_t15
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off114 (k0_t15 : Fin k0_t15_loop.trips) : Fin 1 → Nat :=
  let c0_i32_794 : BitVec 32 := 0#32
  let c1_i32_796 : BitVec 32 := 1#32
  let arg14 : BitVec 32 := Scf.iv c0_i32_794 c1_i32_796 k0_t15
  let c2_i32_830 : BitVec 32 := 2#32
  let v704 : BitVec 32 := Scalar.remsi arg14 c2_i32_830
  ![v704.toNat]
def k0_off115 (d0 : Dev nD) (k0_t15 : Fin k0_t15_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_790 : BitVec 32 := 1#32
  let v670 : BitVec 32 := Scalar.addi v2 c1_i32_790
  let c8_i32_791 : BitVec 32 := 8#32
  let v671 : BitVec 32 := Scalar.remsi v670 c8_i32_791
  let c4096_i32_792 : BitVec 32 := 4096#32
  let v672 : BitVec 32 := Scalar.muli v671 c4096_i32_792
  let c0_i32_793 : BitVec 32 := 0#32
  let v673 : BitVec 32 := Scalar.addi v672 c0_i32_793
  let c0_i32_794 : BitVec 32 := 0#32
  let c1_i32_796 : BitVec 32 := 1#32
  let arg14 : BitVec 32 := Scf.iv c0_i32_794 c1_i32_796 k0_t15
  let c256_i32 : BitVec 32 := 256#32
  let v705 : BitVec 32 := Scalar.muli arg14 c256_i32
  let v706 : BitVec 32 := Scalar.addi v673 v705
  let c0_i32_841 : BitVec 32 := 0#32
  ![v706.toNat, 0]
def k0_off116 (k0_t15 : Fin k0_t15_loop.trips) : Fin 3 → Nat :=
  let c0_i32_794 : BitVec 32 := 0#32
  let c1_i32_796 : BitVec 32 := 1#32
  let arg14 : BitVec 32 := Scf.iv c0_i32_794 c1_i32_796 k0_t15
  let c2_i32_830 : BitVec 32 := 2#32
  let v704 : BitVec 32 := Scalar.remsi arg14 c2_i32_830
  let c0_i32_842 : BitVec 32 := 0#32
  let c0_i32_843 : BitVec 32 := 0#32
  ![v704.toNat, 0, 0]
def k0_off117 (k0_t15 : Fin k0_t15_loop.trips) : Fin 3 → Nat :=
  let c1 : Index := 1#32
  let c0_i32_794 : BitVec 32 := 0#32
  let c1_i32_796 : BitVec 32 := 1#32
  let arg14 : BitVec 32 := Scf.iv c0_i32_794 c1_i32_796 k0_t15
  let c256_i32_833 : BitVec 32 := 256#32
  let v710 : BitVec 32 := Scalar.muli arg14 c256_i32_833
  let v711 : Index := Scalar.indexCast v710
  let c0 : Index := 0#32
  ![1, v711.toNat, 0]
def k0_off118 (k0_t15 : Fin k0_t15_loop.trips) : Fin 3 → Nat :=
  let c0_i32_794 : BitVec 32 := 0#32
  let c1_i32_796 : BitVec 32 := 1#32
  let arg14 : BitVec 32 := Scf.iv c0_i32_794 c1_i32_796 k0_t15
  let c2_i32_830 : BitVec 32 := 2#32
  let v704 : BitVec 32 := Scalar.remsi arg14 c2_i32_830
  let v718 : Index := Scalar.indexCast v704
  let c0_836 : Index := 0#32
  let c0_837 : Index := 0#32
  ![v718.toNat, 0, 0]
def k0_off119 (k0_t15 : Fin k0_t15_loop.trips) : Fin 1 → Nat :=
  let c0_i32_794 : BitVec 32 := 0#32
  let c1_i32_796 : BitVec 32 := 1#32
  let arg14 : BitVec 32 := Scf.iv c0_i32_794 c1_i32_796 k0_t15
  let c2_i32_830 : BitVec 32 := 2#32
  let v704 : BitVec 32 := Scalar.remsi arg14 c2_i32_830
  ![v704.toNat]
def k0_off120 (d0 : Dev nD) (k0_t15 : Fin k0_t15_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_790 : BitVec 32 := 1#32
  let v670 : BitVec 32 := Scalar.addi v2 c1_i32_790
  let c8_i32_791 : BitVec 32 := 8#32
  let v671 : BitVec 32 := Scalar.remsi v670 c8_i32_791
  let c4096_i32_792 : BitVec 32 := 4096#32
  let v672 : BitVec 32 := Scalar.muli v671 c4096_i32_792
  let c0_i32_793 : BitVec 32 := 0#32
  let v673 : BitVec 32 := Scalar.addi v672 c0_i32_793
  let c0_i32_794 : BitVec 32 := 0#32
  let c1_i32_796 : BitVec 32 := 1#32
  let arg14 : BitVec 32 := Scf.iv c0_i32_794 c1_i32_796 k0_t15
  let c256_i32 : BitVec 32 := 256#32
  let v705 : BitVec 32 := Scalar.muli arg14 c256_i32
  let v706 : BitVec 32 := Scalar.addi v673 v705
  let c0_i32_838 : BitVec 32 := 0#32
  ![v706.toNat, 0]
def k0_off121 (k0_t15 : Fin k0_t15_loop.trips) : Fin 3 → Nat :=
  let c0_i32_794 : BitVec 32 := 0#32
  let c1_i32_796 : BitVec 32 := 1#32
  let arg14 : BitVec 32 := Scf.iv c0_i32_794 c1_i32_796 k0_t15
  let c2_i32_830 : BitVec 32 := 2#32
  let v704 : BitVec 32 := Scalar.remsi arg14 c2_i32_830
  let c0_i32_839 : BitVec 32 := 0#32
  let c0_i32_840 : BitVec 32 := 0#32
  ![v704.toNat, 0, 0]
@[reducible] def k0_t16_loop : Scf.Loop 32 :=
  let c0_i32_814 : BitVec 32 := 0#32
  let c8_i32_815 : BitVec 32 := 8#32
  let v691 : BitVec 32 := Scalar.addi c0_i32_814 c8_i32_815
  let c1_i32_816 : BitVec 32 := 1#32
  ⟨c0_i32_814, v691, c1_i32_816⟩
def k0_cond16 (k0_t16 : Fin k0_t16_loop.trips) : BitVec 1 :=
  let c0_i32_814 : BitVec 32 := 0#32
  let c1_i32_816 : BitVec 32 := 1#32
  let arg14 : BitVec 32 := Scf.iv c0_i32_814 c1_i32_816 k0_t16
  let c2_i32_831 : BitVec 32 := 2#32
  let v707 : BitVec 1 := Scalar.cmpi .sge arg14 c2_i32_831
  let v708 : BitVec 32 := Scalar.extui v707
  let c0_i32_832 : BitVec 32 := 0#32
  let v709 : BitVec 1 := Scalar.cmpi .ne v708 c0_i32_832
  v709

def k0_off122 (k0_t16 : Fin k0_t16_loop.trips) : Fin 1 → Nat :=
  let c0_i32_814 : BitVec 32 := 0#32
  let c1_i32_816 : BitVec 32 := 1#32
  let arg14 : BitVec 32 := Scf.iv c0_i32_814 c1_i32_816 k0_t16
  let c2_i32_830 : BitVec 32 := 2#32
  let v704 : BitVec 32 := Scalar.remsi arg14 c2_i32_830
  ![v704.toNat]
def k0_off123 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_810 : BitVec 32 := 7#32
  let v687 : BitVec 32 := Scalar.addi v2 c7_i32_810
  let c8_i32_811 : BitVec 32 := 8#32
  let v688 : BitVec 32 := Scalar.remsi v687 c8_i32_811
  let c4096_i32_812 : BitVec 32 := 4096#32
  let v689 : BitVec 32 := Scalar.muli v688 c4096_i32_812
  let c2048_i32_813 : BitVec 32 := 2048#32
  let v690 : BitVec 32 := Scalar.addi v689 c2048_i32_813
  let c0_i32_814 : BitVec 32 := 0#32
  let c1_i32_816 : BitVec 32 := 1#32
  let arg14 : BitVec 32 := Scf.iv c0_i32_814 c1_i32_816 k0_t16
  let c256_i32 : BitVec 32 := 256#32
  let v705 : BitVec 32 := Scalar.muli arg14 c256_i32
  let v706 : BitVec 32 := Scalar.addi v690 v705
  let c0_i32_841 : BitVec 32 := 0#32
  ![v706.toNat, 0]
def k0_off124 (k0_t16 : Fin k0_t16_loop.trips) : Fin 3 → Nat :=
  let c0_i32_814 : BitVec 32 := 0#32
  let c1_i32_816 : BitVec 32 := 1#32
  let arg14 : BitVec 32 := Scf.iv c0_i32_814 c1_i32_816 k0_t16
  let c2_i32_830 : BitVec 32 := 2#32
  let v704 : BitVec 32 := Scalar.remsi arg14 c2_i32_830
  let c0_i32_842 : BitVec 32 := 0#32
  let c0_i32_843 : BitVec 32 := 0#32
  ![v704.toNat, 0, 0]
def k0_off125 (k0_t16 : Fin k0_t16_loop.trips) : Fin 3 → Nat :=
  let c1 : Index := 1#32
  let c0_i32_814 : BitVec 32 := 0#32
  let c1_i32_816 : BitVec 32 := 1#32
  let arg14 : BitVec 32 := Scf.iv c0_i32_814 c1_i32_816 k0_t16
  let c256_i32_833 : BitVec 32 := 256#32
  let v710 : BitVec 32 := Scalar.muli arg14 c256_i32_833
  let v711 : Index := Scalar.indexCast v710
  let c0 : Index := 0#32
  ![1, v711.toNat, 0]
def k0_off126 (k0_t16 : Fin k0_t16_loop.trips) : Fin 3 → Nat :=
  let c0_i32_814 : BitVec 32 := 0#32
  let c1_i32_816 : BitVec 32 := 1#32
  let arg14 : BitVec 32 := Scf.iv c0_i32_814 c1_i32_816 k0_t16
  let c2_i32_830 : BitVec 32 := 2#32
  let v704 : BitVec 32 := Scalar.remsi arg14 c2_i32_830
  let v718 : Index := Scalar.indexCast v704
  let c0_836 : Index := 0#32
  let c0_837 : Index := 0#32
  ![v718.toNat, 0, 0]
def k0_off127 (k0_t16 : Fin k0_t16_loop.trips) : Fin 1 → Nat :=
  let c0_i32_814 : BitVec 32 := 0#32
  let c1_i32_816 : BitVec 32 := 1#32
  let arg14 : BitVec 32 := Scf.iv c0_i32_814 c1_i32_816 k0_t16
  let c2_i32_830 : BitVec 32 := 2#32
  let v704 : BitVec 32 := Scalar.remsi arg14 c2_i32_830
  ![v704.toNat]
def k0_off128 (d0 : Dev nD) (k0_t16 : Fin k0_t16_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_810 : BitVec 32 := 7#32
  let v687 : BitVec 32 := Scalar.addi v2 c7_i32_810
  let c8_i32_811 : BitVec 32 := 8#32
  let v688 : BitVec 32 := Scalar.remsi v687 c8_i32_811
  let c4096_i32_812 : BitVec 32 := 4096#32
  let v689 : BitVec 32 := Scalar.muli v688 c4096_i32_812
  let c2048_i32_813 : BitVec 32 := 2048#32
  let v690 : BitVec 32 := Scalar.addi v689 c2048_i32_813
  let c0_i32_814 : BitVec 32 := 0#32
  let c1_i32_816 : BitVec 32 := 1#32
  let arg14 : BitVec 32 := Scf.iv c0_i32_814 c1_i32_816 k0_t16
  let c256_i32 : BitVec 32 := 256#32
  let v705 : BitVec 32 := Scalar.muli arg14 c256_i32
  let v706 : BitVec 32 := Scalar.addi v690 v705
  let c0_i32_838 : BitVec 32 := 0#32
  ![v706.toNat, 0]
def k0_off129 (k0_t16 : Fin k0_t16_loop.trips) : Fin 3 → Nat :=
  let c0_i32_814 : BitVec 32 := 0#32
  let c1_i32_816 : BitVec 32 := 1#32
  let arg14 : BitVec 32 := Scf.iv c0_i32_814 c1_i32_816 k0_t16
  let c2_i32_830 : BitVec 32 := 2#32
  let v704 : BitVec 32 := Scalar.remsi arg14 c2_i32_830
  let c0_i32_839 : BitVec 32 := 0#32
  let c0_i32_840 : BitVec 32 := 0#32
  ![v704.toNat, 0, 0]
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x2048 : Shape := ⟨2, ![32768, 2048]⟩
abbrev S2048x4096 : Shape := ⟨2, ![2048, 4096]⟩
abbrev S32768x4096 : Shape := ⟨2, ![32768, 4096]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x2048, .f32⟩
  | .hbm, ⟨3, _⟩ => ⟨S2048x4096, .f32⟩
  | .hbm, ⟨4, _⟩ => ⟨S32768x4096, .f32⟩
  | .hbm, ⟨5, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Program.lean ====
/- The kernel's program, written once: the ring's two directions, its two buffers per direction and its eight hops
   share one program text each, and the printed kernel is shown to be their sequence. -/
module

public import proofs.«01_k».proof.Proof.Gen.KernelIdeal.Skeleton
public import proofs.«01_k».proof.Proof.Gen.KernelIdeal.Points

@[expose] public section

set_option synthInstance.maxSize 4096

noncomputable section

namespace Cert.KernelIdeal.Ring

open Cert.KernelIdeal Cert.KernelIdeal.Gen
open Idealize.ShloMosaic Idealize.ShloMosaic.TcCoe Idealize.SL.Sem

variable {F : FTy → Type} [FloatOps F]

/-- A program of the kernel, on one core. -/
abbrev KProg (F : FTy → Type) (α : Type) := Prog (TpuEff nD τ sig (Elt F) Λ₀ .tc) α

/-! ## Buffers and semaphores by direction and slot

`d = false` is the clockwise half of the ring and `d = true` the other; a slot is one of the two halves of a
communication buffer. -/

/-- The device to the right. -/
def nxt (c : Dev nD) : Dev nD := ⟨(c.val + 1) % 8, Nat.mod_lt _ (by decide)⟩
/-- The device to the left. -/
def prv (c : Dev nD) : Dev nD := ⟨(c.val + 7) % 8, Nat.mod_lt _ (by decide)⟩
/-- The device that direction `d` sends to. -/
def nx (d : Bool) (c : Dev nD) : Dev nD := bif d then prv c else nxt c
/-- The device that direction `d` receives from. -/
def pv (d : Bool) (c : Dev nD) : Dev nD := bif d then nxt c else prv c

/-- The rows of `A` on this device. -/
abbrev aM : Memref sig .tc .hbm S4096x2048 .bf16 := Memref.whole main_arg0
/-- `B`, staged. -/
abbrev bM : Memref sig .tc .vmem S2048x4096 .bf16 := Memref.whole cc0_stg0_0
/-- The result. -/
abbrev oM : Memref sig .tc .hbm S32768x4096 .bf16 := Memref.whole main_v1
/-- The staging buffer of the result's tiles. -/
abbrev gM : Memref sig .tc .vmem S2x256x4096 .bf16 := Memref.whole cc0_scratch2
/-- The buffer a direction communicates through. -/
def commR (d : Bool) : Ref sig .tc := bif d then cc0_scratch1 else cc0_scratch0
/-- The same, as a memory reference. -/
def commM (d : Bool) : Memref sig .tc .vmem S2x2048x2048 .bf16 :=
  match d with
  | false => Memref.whole cc0_scratch0
  | true => Memref.whole cc0_scratch1
/-- A direction's buffer is taken whole. -/
theorem commM_whole (d : Bool) : (commM d).IsWhole := by cases d <;> exact Memref.isWhole_whole _

/-- A slot lies inside its buffer. -/
theorem inb_slot (s : Fin 2) : ∀ a, (![s.val, 0, 0] : Fin 3 → Nat) a + S1x2048x2048.size a ≤ S2x2048x2048.size a := by
  revert s; decide +kernel
/-- A slot covers whole words. -/
theorem words_slot (s : Fin 2) : (Rect.unit (s := S2x2048x2048) ![s.val, 0, 0] S1x2048x2048.size (inb_slot s)).WholeWords (EltTy.packing .bf16) := by
  revert s; decide +kernel
/-- A semaphore lies inside its pair. -/
theorem inb_sem (s : Fin 2) : ∀ a, (![s.val] : Fin 1 → Nat) a + S1.size a ≤ S2.size a := by revert s; decide +kernel
/-- A staging slot lies inside its buffer. -/
theorem inb_stg (s : Fin 2) : ∀ a, (![s.val, 0, 0] : Fin 3 → Nat) a + S1x256x4096.size a ≤ S2x256x4096.size a := by
  revert s; decide +kernel
/-- A staging slot covers whole words. -/
theorem words_stg (s : Fin 2) : (Rect.unit (s := S2x256x4096) ![s.val, 0, 0] S1x256x4096.size (inb_stg s)).WholeWords (EltTy.packing .bf16) := by
  revert s; decide +kernel
/-- A half lies inside a device's rows. -/
theorem inb_half (d : Bool) : ∀ a, (![bif d then 2048 else 0, 0] : Fin 2 → Nat) a + S2048x2048.size a ≤ S4096x2048.size a := by
  revert d; decide +kernel
/-- A half covers whole words. -/
theorem words_half (d : Bool) : (Rect.unit (s := S4096x2048) ![bif d then 2048 else 0, 0] S2048x2048.size (inb_half d)).WholeWords (EltTy.packing .bf16) := by
  revert d; decide +kernel

/-- Slot `s` of direction `d`'s buffer. -/
def slotM (d : Bool) (s : Fin 2) : Memref sig .tc .vmem S2048x2048 .bf16 :=
  ((commM d).slice (Rect.unit (s := S2x2048x2048) ![s.val, 0, 0] S1x2048x2048.size (inb_slot s)) (fun _ => rfl)).squeeze S2048x2048 squeezes_S1x2048x2048_S2048x2048
/-- A slot's view is word exact. -/
theorem slotM_exact (d : Bool) (s : Fin 2) : (slotM d s).view.WordExact :=
  ((commM_whole d).wordExact_slice rfl _ (words_slot s)).reshape _ _
/-- Half `d` of this device's rows of `A`. -/
def halfM (d : Bool) : Memref sig .tc .hbm S2048x2048 .bf16 :=
  aM.slice (Rect.unit (s := S4096x2048) ![bif d then 2048 else 0, 0] S2048x2048.size (inb_half d)) (fun _ => rfl)
/-- A half's view is word exact. -/
theorem halfM_exact (d : Bool) : (halfM d).view.WordExact :=
  (Memref.isWhole_whole main_arg0).wordExact_slice rfl _ (words_half d)
/-- Slot `s` of the staging buffer. -/
def stgM (s : Fin 2) : Memref sig .tc .vmem S256x4096 .bf16 :=
  (gM.slice (Rect.unit (s := S2x256x4096) ![s.val, 0, 0] S1x256x4096.size (inb_stg s)) (fun _ => rfl)).squeeze S256x4096 squeezes_S1x256x4096_S256x4096
/-- A staging slot's view is word exact. -/
theorem stgM_exact (s : Fin 2) : (stgM s).view.WordExact :=
  ((Memref.isWhole_whole cc0_scratch2).wordExact_slice rfl _ (words_stg s)).reshape _ _

/-- The semaphore of a pair of DMA semaphores that goes with slot `s`. -/
def dsem (a : DmaSems sig S2) (s : Fin 2) : DmaSem sig :=
  ((a.slice (Rect.unit (s := S2) ![s.val] S1.size (inb_sem s))).squeeze S_ squeezes_S1_S_).sem
/-- The semaphore of a pair of counting semaphores that goes with slot `s`. -/
def rsem (a : Sems sig S2) (s : Fin 2) : Sem sig :=
  ((a.slice (Rect.unit (s := S2) ![s.val] S1.size (inb_sem s))).squeeze S_ squeezes_S1_S_).sem

/-- The send semaphore of direction `d`, slot `s`. -/
def sendS (d : Bool) (s : Fin 2) : DmaSem sig := dsem (match d with | false => cc0_scratch3 | true => cc0_scratch5) s
/-- The receive semaphore of direction `d`, slot `s`. -/
def recvS (d : Bool) (s : Fin 2) : DmaSem sig := dsem (match d with | false => cc0_scratch4 | true => cc0_scratch6) s
/-- The credit semaphore of direction `d`, slot `s`. -/
def credS (d : Bool) (s : Fin 2) : Sem sig := rsem (match d with | false => cc0_scratch7 | true => cc0_scratch8) s
/-- The semaphore of the staging buffer's slot `s`. -/
def stgS (s : Fin 2) : DmaSem sig := dsem cc0_scratch9 s
/-- The semaphore of the load of this device's rows. -/
def loadS : DmaSem sig := cc0_scratch10.sem
/-- The barrier semaphore. -/
def barS : Sem sig := (SemArray.scalar (sig.barrier 0 rfl) : Sems sig S_).sem

/-! ## The program's pieces -/

/-- The barrier: one signal to each neighbour and a wait for both of theirs. -/
def entryP (p q : Dev nD) : KProg F PUnit := do
  semSignalWord p barS 1#32
  semSignalWord q barS 1#32
  semWaitWord barS 2#32

/-- The load of half `d` of this device's rows into slot 0 of direction `d`. -/
def loadP (d : Bool) : KProg F PUnit := do
  Prog.lift (.enqueueDma (halfM d) (.here (slotM d 0)) (.dma loadS) (halfM_exact d) (slotM_exact d 0) ⟨Or.inl rfl, trivial⟩)
  Prog.lift (.waitDma2 loadS (halfM d) (slotM d 0) (halfM_exact d) (slotM_exact d 0))

/-- Direction `d` sends slot `s` into slot `r` of device `p`. -/
def sendP (d : Bool) (s r : Fin 2) (p : Dev nD) : KProg F PUnit :=
  Prog.lift (.enqueueDma (slotM d s) (.remote (Dev.tc p) (slotM d r) (.dma (sendS d s))) (.dma (recvS d r)) (slotM_exact d s) (slotM_exact d r) ⟨⟨rfl, Or.inl rfl⟩, trivial⟩)

/-- Direction `d` waits for its send from slot `s` and for what arrives in slot `r`. -/
def arriveP (d : Bool) (s r : Fin 2) : KProg F PUnit := do
  Prog.lift (.waitDma2 (sendS d s) (slotM d r) (slotM d s) (slotM_exact d r) (slotM_exact d s))
  Prog.lift (.waitDma2 (recvS d r) (slotM d s) (slotM d r) (slotM_exact d s) (slotM_exact d r))

/-- Direction `d` tells device `p` that its slot `s` may be overwritten. -/
def creditP (d : Bool) (s : Fin 2) (p : Dev nD) : KProg F PUnit := semSignalWord p (credS d s) 1#32

/-- Direction `d` waits until slot `s` of the device it sends to may be overwritten. -/
def grantP (d : Bool) (s : Fin 2) : KProg F PUnit := semWaitWord (credS d s) 1#32

/-- The offsets of one tile's memory operations, with what the operations ask of them. -/
structure TileArgs where
  cond : BitVec 1
  o1 : Fin 1 → Nat
  i1 : cond = 1#1 → ∀ a, o1 a + S1.size a ≤ S2.size a
  o2 : Fin 2 → Nat
  i2 : cond = 1#1 → ∀ a, o2 a + S256x4096.size a ≤ S32768x4096.size a
  w2 : ∀ h : cond = 1#1, (Rect.unit (s := S32768x4096) o2 S256x4096.size (i2 h)).WholeWords (EltTy.packing .bf16)
  o3 : Fin 3 → Nat
  i3 : cond = 1#1 → ∀ a, o3 a + S1x256x4096.size a ≤ S2x256x4096.size a
  w3 : ∀ h : cond = 1#1, (Rect.unit (s := S2x256x4096) o3 S1x256x4096.size (i3 h)).WholeWords (EltTy.packing .bf16)
  o4 : Fin 3 → Nat
  i4 : ∀ a, o4 a + S1x256x2048.size a ≤ S2x2048x2048.size a
  o5 : Fin 3 → Nat
  i5 : ∀ a, o5 a + S1x256x4096.size a ≤ S2x256x4096.size a
  p5 : (Rect.unit (s := S2x256x4096) o5 S1x256x4096.size i5).PackedRows (EltTy.packing .bf16)
  o6 : Fin 1 → Nat
  i6 : ∀ a, o6 a + S1.size a ≤ S2.size a
  o7 : Fin 2 → Nat
  i7 : ∀ a, o7 a + S256x4096.size a ≤ S32768x4096.size a
  w7 : (Rect.unit (s := S32768x4096) o7 S256x4096.size i7).WholeWords (EltTy.packing .bf16)
  o8 : Fin 3 → Nat
  i8 : ∀ a, o8 a + S1x256x4096.size a ≤ S2x256x4096.size a
  w8 : (Rect.unit (s := S2x256x4096) o8 S1x256x4096.size i8).WholeWords (EltTy.packing .bf16)

/-- What the offsets of tile `t` of the half-block at rows `b`, read from slot `s`, come to. -/
structure TileArgs.Is (a : TileArgs) (s : Fin 2) (b : Nat) (t : Fin 8) : Prop where
  cond : a.cond = k0_cond1 t
  o1 : a.o1 = ![t.val % 2]
  o4 : a.o4 = ![s.val, 256 * t.val, 0]
  o5 : a.o5 = ![t.val % 2, 0, 0]
  o6 : a.o6 = ![t.val % 2]
  o7 : a.o7 = ![b + 256 * t.val, 0]
  o8 : a.o8 = ![t.val % 2, 0, 0]

/-- One tile's work: multiply, stage, and start the store. -/
def tileWorkP (d : Bool) (a : TileArgs) : KProg F Unit := do
  let x : Vec F S1x256x2048 .bf16 ← Prog.lift (.load (commM d) (Rect.unit (s := S2x2048x2048) a.o4 S1x256x2048.size a.i4).toLoadRect (View.loadsAt_vmem h_S1x256x2048))
  let y : Vec F S2048x4096 .bf16 ← Prog.lift (.load bM (Rect.unit (s := S2048x4096) ![0, 0] S2048x4096.size inb_S2048x4096_S2048x4096_0_0).toLoadRect (View.loadsAt_vmem h_S2048x4096))
  let _ : Vec F S1x256x4096 .bf16 ← Prog.lift (.load gM (Rect.unit (s := S2x256x4096) a.o5 S1x256x4096.size a.i5).toLoadRect (View.loadsAt_vmem h_S1x256x4096))
  Prog.lift (.store gM (Rect.unit (s := S2x256x4096) a.o5 S1x256x4096.size a.i5) (k0_pay1 x y) Finset.univ (View.stores_vmem h_S1x256x4096 ((Memref.isWhole_whole cc0_scratch2).storeExact_slice rfl _ a.p5) (fun _ => rfl)) (.inl rfl))
  Prog.lift (.enqueueDma ((gM.slice (Rect.unit (s := S2x256x4096) a.o8 S1x256x4096.size a.i8) (fun _ => rfl)).squeeze S256x4096 squeezes_S1x256x4096_S256x4096) (.here (oM.slice (Rect.unit (s := S32768x4096) a.o7 S256x4096.size a.i7) (fun _ => rfl))) (.dma ((cc0_scratch9.slice (Rect.unit (s := S2) a.o6 S1.size a.i6)).squeeze S_ squeezes_S1_S_).sem) (((Memref.isWhole_whole cc0_scratch2).wordExact_slice rfl _ a.w8).reshape _ _) ((Memref.isWhole_whole main_v1).wordExact_slice rfl _ a.w7) ⟨Or.inl rfl, trivial⟩)
  pure ⟨⟩

/-- One tile: wait for the staging slot's last store, if there was one, then work. -/
def tileP (d : Bool) (a : TileArgs) : KProg F Unit :=
  if h : a.cond = 1#1 then do
    Prog.lift (.waitDma2 ((cc0_scratch9.slice (Rect.unit (s := S2) a.o1 S1.size (a.i1 h))).squeeze S_ squeezes_S1_S_).sem ((gM.slice (Rect.unit (s := S2x256x4096) a.o3 S1x256x4096.size (a.i3 h)) (fun _ => rfl)).squeeze S256x4096 squeezes_S1x256x4096_S256x4096) (oM.slice (Rect.unit (s := S32768x4096) a.o2 S256x4096.size (a.i2 h)) (fun _ => rfl)) (((Memref.isWhole_whole cc0_scratch2).wordExact_slice rfl _ (a.w3 h)).reshape _ _) ((Memref.isWhole_whole main_v1).wordExact_slice rfl _ (a.w2 h)))
    tileWorkP d a
  else
    tileWorkP d a

/-- The offset of a drain's wait, with what the wait asks of it. -/
structure DrainArgs where
  o : Fin 2 → Nat
  i : ∀ a, o a + S256x4096.size a ≤ S32768x4096.size a
  w : (Rect.unit (s := S32768x4096) o S256x4096.size i).WholeWords (EltTy.packing .bf16)

/-- The wait for the last store from staging slot `s`. -/
def drainP (s : Fin 2) (a : DrainArgs) : KProg F PUnit :=
  Prog.lift (.waitDma2 (stgS s) (stgM s) (oM.slice (Rect.unit (s := S32768x4096) a.o S256x4096.size a.i) (fun _ => rfl)) (stgM_exact s) ((Memref.isWhole_whole main_v1).wordExact_slice rfl _ a.w))

/-- The eight tiles of one half-block. -/
def tilesP (d : Bool) (a : Fin 8 → TileArgs) : KProg F Unit :=
  Scf.Loop.for k0_t1_loop k0_t1_ok ⟨⟩ (fun t _ => tileP d (a t))

/-- One half-block's product: its eight tiles, then the waits for the last two stores. -/
def productP (d : Bool) (a : Fin 8 → TileArgs) (u v : DrainArgs) : KProg F PUnit := do
  tilesP d a
  drainP 0 u
  drainP 1 v

/-- The offsets of the drains' waits. -/
def drainArgs (c : Dev nD) (r : Fin 32) : DrainArgs :=
  ⟨k0_off9 c (k0_off9_at r).1 (k0_off9_at r).2.1 (k0_off9_at r).2.2, k0_off9_inb c r, k0_off9_wordsbf16 c r⟩

/-- The half and the tile may be added in either order. -/
theorem row_shift (x t : Nat) : (![4096 * x + 256 * t + 2048, 0] : Fin 2 → Nat) = ![4096 * x + 2048 + 256 * t, 0] := by
  rw [Nat.add_right_comm]

/-! ## The tiles' offsets, loop by loop -/

/-- The offsets of hop 0's clockwise tiles. -/
def tiles1 (c : Dev nD) (t : Fin 8) : TileArgs :=
  ⟨k0_cond1 t, k0_off1 t, k0_off1_inb t, k0_off2 c t, k0_off2_inb c t, k0_off2_wordsbf16 c t, k0_off3 t, k0_off3_inb t, k0_off3_wordsbf16 t,
    k0_off4 t, k0_off4_inb t, k0_off5 t, k0_off5_inb t, k0_off5_packedbf16 t, k0_off6 t, k0_off6_inb t, k0_off7 c t, k0_off7_inb c t, k0_off7_wordsbf16 c t,
    k0_off8 t, k0_off8_inb t, k0_off8_wordsbf16 t⟩
/-- The tiles of loop 1 lie where its half-block and slot say. -/
theorem tiles1_is (c : Dev nD) (t : Fin 8) : (tiles1 c t).Is 0 (4096 * ((c.val + 8) % 8)) t :=
  ⟨rfl, k0_off1_eq t, k0_off4_eq t, k0_off5_eq t, k0_off6_eq t, k0_off7_eq c t, k0_off8_eq t⟩

/-- The offsets of hop 0's counter-clockwise tiles. -/
def tiles2 (c : Dev nD) (t : Fin 8) : TileArgs :=
  ⟨k0_cond2 t, k0_off10 t, k0_off10_inb t, k0_off11 c t, k0_off11_inb c t, k0_off11_wordsbf16 c t, k0_off12 t, k0_off12_inb t, k0_off12_wordsbf16 t,
    k0_off13 t, k0_off13_inb t, k0_off14 t, k0_off14_inb t, k0_off14_packedbf16 t, k0_off15 t, k0_off15_inb t, k0_off16 c t, k0_off16_inb c t, k0_off16_wordsbf16 c t,
    k0_off17 t, k0_off17_inb t, k0_off17_wordsbf16 t⟩
/-- The tiles of loop 2 lie where its half-block and slot say. -/
theorem tiles2_is (c : Dev nD) (t : Fin 8) : (tiles2 c t).Is 0 (4096 * c.val + 2048) t :=
  ⟨rfl, k0_off10_eq t, k0_off13_eq t, k0_off14_eq t, k0_off15_eq t, (k0_off16_eq c t).trans (row_shift _ _), k0_off17_eq t⟩

/-- The offsets of hop 1's clockwise tiles. -/
def tiles3 (c : Dev nD) (t : Fin 8) : TileArgs :=
  ⟨k0_cond3 t, k0_off18 t, k0_off18_inb t, k0_off19 c t, k0_off19_inb c t, k0_off19_wordsbf16 c t, k0_off20 t, k0_off20_inb t, k0_off20_wordsbf16 t,
    k0_off21 t, k0_off21_inb t, k0_off22 t, k0_off22_inb t, k0_off22_packedbf16 t, k0_off23 t, k0_off23_inb t, k0_off24 c t, k0_off24_inb c t, k0_off24_wordsbf16 c t,
    k0_off25 t, k0_off25_inb t, k0_off25_wordsbf16 t⟩
/-- The tiles of loop 3 lie where its half-block and slot say. -/
theorem tiles3_is (c : Dev nD) (t : Fin 8) : (tiles3 c t).Is 1 (4096 * ((c.val + 7) % 8)) t :=
  ⟨rfl, k0_off18_eq t, k0_off21_eq t, k0_off22_eq t, k0_off23_eq t, k0_off24_eq c t, k0_off25_eq t⟩

/-- The offsets of hop 1's counter-clockwise tiles. -/
def tiles4 (c : Dev nD) (t : Fin 8) : TileArgs :=
  ⟨k0_cond4 t, k0_off26 t, k0_off26_inb t, k0_off27 c t, k0_off27_inb c t, k0_off27_wordsbf16 c t, k0_off28 t, k0_off28_inb t, k0_off28_wordsbf16 t,
    k0_off29 t, k0_off29_inb t, k0_off30 t, k0_off30_inb t, k0_off30_packedbf16 t, k0_off31 t, k0_off31_inb t, k0_off32 c t, k0_off32_inb c t, k0_off32_wordsbf16 c t,
    k0_off33 t, k0_off33_inb t, k0_off33_wordsbf16 t⟩
/-- The tiles of loop 4 lie where its half-block and slot say. -/
theorem tiles4_is (c : Dev nD) (t : Fin 8) : (tiles4 c t).Is 1 (4096 * ((c.val + 1) % 8) + 2048) t :=
  ⟨rfl, k0_off26_eq t, k0_off29_eq t, k0_off30_eq t, k0_off31_eq t, (k0_off32_eq c t).trans (row_shift _ _), k0_off33_eq t⟩

/-- The offsets of hop 2's clockwise tiles. -/
def tiles5 (c : Dev nD) (t : Fin 8) : TileArgs :=
  ⟨k0_cond5 t, k0_off34 t, k0_off34_inb t, k0_off35 c t, k0_off35_inb c t, k0_off35_wordsbf16 c t, k0_off36 t, k0_off36_inb t, k0_off36_wordsbf16 t,
    k0_off37 t, k0_off37_inb t, k0_off38 t, k0_off38_inb t, k0_off38_packedbf16 t, k0_off39 t, k0_off39_inb t, k0_off40 c t, k0_off40_inb c t, k0_off40_wordsbf16 c t,
    k0_off41 t, k0_off41_inb t, k0_off41_wordsbf16 t⟩
/-- The tiles of loop 5 lie where its half-block and slot say. -/
theorem tiles5_is (c : Dev nD) (t : Fin 8) : (tiles5 c t).Is 0 (4096 * ((c.val + 6) % 8)) t :=
  ⟨rfl, k0_off34_eq t, k0_off37_eq t, k0_off38_eq t, k0_off39_eq t, k0_off40_eq c t, k0_off41_eq t⟩

/-- The offsets of hop 2's counter-clockwise tiles. -/
def tiles6 (c : Dev nD) (t : Fin 8) : TileArgs :=
  ⟨k0_cond6 t, k0_off42 t, k0_off42_inb t, k0_off43 c t, k0_off43_inb c t, k0_off43_wordsbf16 c t, k0_off44 t, k0_off44_inb t, k0_off44_wordsbf16 t,
    k0_off45 t, k0_off45_inb t, k0_off46 t, k0_off46_inb t, k0_off46_packedbf16 t, k0_off47 t, k0_off47_inb t, k0_off48 c t, k0_off48_inb c t, k0_off48_wordsbf16 c t,
    k0_off49 t, k0_off49_inb t, k0_off49_wordsbf16 t⟩
/-- The tiles of loop 6 lie where its half-block and slot say. -/
theorem tiles6_is (c : Dev nD) (t : Fin 8) : (tiles6 c t).Is 0 (4096 * ((c.val + 2) % 8) + 2048) t :=
  ⟨rfl, k0_off42_eq t, k0_off45_eq t, k0_off46_eq t, k0_off47_eq t, (k0_off48_eq c t).trans (row_shift _ _), k0_off49_eq t⟩

/-- The offsets of hop 3's clockwise tiles. -/
def tiles7 (c : Dev nD) (t : Fin 8) : TileArgs :=
  ⟨k0_cond7 t, k0_off50 t, k0_off50_inb t, k0_off51 c t, k0_off51_inb c t, k0_off51_wordsbf16 c t, k0_off52 t, k0_off52_inb t, k0_off52_wordsbf16 t,
    k0_off53 t, k0_off53_inb t, k0_off54 t, k0_off54_inb t, k0_off54_packedbf16 t, k0_off55 t, k0_off55_inb t, k0_off56 c t, k0_off56_inb c t, k0_off56_wordsbf16 c t,
    k0_off57 t, k0_off57_inb t, k0_off57_wordsbf16 t⟩
/-- The tiles of loop 7 lie where its half-block and slot say. -/
theorem tiles7_is (c : Dev nD) (t : Fin 8) : (tiles7 c t).Is 1 (4096 * ((c.val + 5) % 8)) t :=
  ⟨rfl, k0_off50_eq t, k0_off53_eq t, k0_off54_eq t, k0_off55_eq t, k0_off56_eq c t, k0_off57_eq t⟩

/-- The offsets of hop 3's counter-clockwise tiles. -/
def tiles8 (c : Dev nD) (t : Fin 8) : TileArgs :=
  ⟨k0_cond8 t, k0_off58 t, k0_off58_inb t, k0_off59 c t, k0_off59_inb c t, k0_off59_wordsbf16 c t, k0_off60 t, k0_off60_inb t, k0_off60_wordsbf16 t,
    k0_off61 t, k0_off61_inb t, k0_off62 t, k0_off62_inb t, k0_off62_packedbf16 t, k0_off63 t, k0_off63_inb t, k0_off64 c t, k0_off64_inb c t, k0_off64_wordsbf16 c t,
    k0_off65 t, k0_off65_inb t, k0_off65_wordsbf16 t⟩
/-- The tiles of loop 8 lie where its half-block and slot say. -/
theorem tiles8_is (c : Dev nD) (t : Fin 8) : (tiles8 c t).Is 1 (4096 * ((c.val + 3) % 8) + 2048) t :=
  ⟨rfl, k0_off58_eq t, k0_off61_eq t, k0_off62_eq t, k0_off63_eq t, (k0_off64_eq c t).trans (row_shift _ _), k0_off65_eq t⟩

/-- The offsets of hop 4's clockwise tiles. -/
def tiles9 (c : Dev nD) (t : Fin 8) : TileArgs :=
  ⟨k0_cond9 t, k0_off66 t, k0_off66_inb t, k0_off67 c t, k0_off67_inb c t, k0_off67_wordsbf16 c t, k0_off68 t, k0_off68_inb t, k0_off68_wordsbf16 t,
    k0_off69 t, k0_off69_inb t, k0_off70 t, k0_off70_inb t, k0_off70_packedbf16 t, k0_off71 t, k0_off71_inb t, k0_off72 c t, k0_off72_inb c t, k0_off72_wordsbf16 c t,
    k0_off73 t, k0_off73_inb t, k0_off73_wordsbf16 t⟩
/-- The tiles of loop 9 lie where its half-block and slot say. -/
theorem tiles9_is (c : Dev nD) (t : Fin 8) : (tiles9 c t).Is 0 (4096 * ((c.val + 4) % 8)) t :=
  ⟨rfl, k0_off66_eq t, k0_off69_eq t, k0_off70_eq t, k0_off71_eq t, k0_off72_eq c t, k0_off73_eq t⟩

/-- The offsets of hop 4's counter-clockwise tiles. -/
def tiles10 (c : Dev nD) (t : Fin 8) : TileArgs :=
  ⟨k0_cond10 t, k0_off74 t, k0_off74_inb t, k0_off75 c t, k0_off75_inb c t, k0_off75_wordsbf16 c t, k0_off76 t, k0_off76_inb t, k0_off76_wordsbf16 t,
    k0_off77 t, k0_off77_inb t, k0_off78 t, k0_off78_inb t, k0_off78_packedbf16 t, k0_off79 t, k0_off79_inb t, k0_off80 c t, k0_off80_inb c t, k0_off80_wordsbf16 c t,
    k0_off81 t, k0_off81_inb t, k0_off81_wordsbf16 t⟩
/-- The tiles of loop 10 lie where its half-block and slot say. -/
theorem tiles10_is (c : Dev nD) (t : Fin 8) : (tiles10 c t).Is 0 (4096 * ((c.val + 4) % 8) + 2048) t :=
  ⟨rfl, k0_off74_eq t, k0_off77_eq t, k0_off78_eq t, k0_off79_eq t, (k0_off80_eq c t).trans (row_shift _ _), k0_off81_eq t⟩

/-- The offsets of hop 5's clockwise tiles. -/
def tiles11 (c : Dev nD) (t : Fin 8) : TileArgs :=
  ⟨k0_cond11 t, k0_off82 t, k0_off82_inb t, k0_off83 c t, k0_off83_inb c t, k0_off83_wordsbf16 c t, k0_off84 t, k0_off84_inb t, k0_off84_wordsbf16 t,
    k0_off85 t, k0_off85_inb t, k0_off86 t, k0_off86_inb t, k0_off86_packedbf16 t, k0_off87 t, k0_off87_inb t, k0_off88 c t, k0_off88_inb c t, k0_off88_wordsbf16 c t,
    k0_off89 t, k0_off89_inb t, k0_off89_wordsbf16 t⟩
/-- The tiles of loop 11 lie where its half-block and slot say. -/
theorem tiles11_is (c : Dev nD) (t : Fin 8) : (tiles11 c t).Is 1 (4096 * ((c.val + 3) % 8)) t :=
  ⟨rfl, k0_off82_eq t, k0_off85_eq t, k0_off86_eq t, k0_off87_eq t, k0_off88_eq c t, k0_off89_eq t⟩

/-- The offsets of hop 5's counter-clockwise tiles. -/
def tiles12 (c : Dev nD) (t : Fin 8) : TileArgs :=
  ⟨k0_cond12 t, k0_off90 t, k0_off90_inb t, k0_off91 c t, k0_off91_inb c t, k0_off91_wordsbf16 c t, k0_off92 t, k0_off92_inb t, k0_off92_wordsbf16 t,
    k0_off93 t, k0_off93_inb t, k0_off94 t, k0_off94_inb t, k0_off94_packedbf16 t, k0_off95 t, k0_off95_inb t, k0_off96 c t, k0_off96_inb c t, k0_off96_wordsbf16 c t,
    k0_off97 t, k0_off97_inb t, k0_off97_wordsbf16 t⟩
/-- The tiles of loop 12 lie where its half-block and slot say. -/
theorem tiles12_is (c : Dev nD) (t : Fin 8) : (tiles12 c t).Is 1 (4096 * ((c.val + 5) % 8) + 2048) t :=
  ⟨rfl, k0_off90_eq t, k0_off93_eq t, k0_off94_eq t, k0_off95_eq t, (k0_off96_eq c t).trans (row_shift _ _), k0_off97_eq t⟩

/-- The offsets of hop 6's clockwise tiles. -/
def tiles13 (c : Dev nD) (t : Fin 8) : TileArgs :=
  ⟨k0_cond13 t, k0_off98 t, k0_off98_inb t, k0_off99 c t, k0_off99_inb c t, k0_off99_wordsbf16 c t, k0_off100 t, k0_off100_inb t, k0_off100_wordsbf16 t,
    k0_off101 t, k0_off101_inb t, k0_off102 t, k0_off102_inb t, k0_off102_packedbf16 t, k0_off103 t, k0_off103_inb t, k0_off104 c t, k0_off104_inb c t, k0_off104_wordsbf16 c t,
    k0_off105 t, k0_off105_inb t, k0_off105_wordsbf16 t⟩
/-- The tiles of loop 13 lie where its half-block and slot say. -/
theorem tiles13_is (c : Dev nD) (t : Fin 8) : (tiles13 c t).Is 0 (4096 * ((c.val + 2) % 8)) t :=
  ⟨rfl, k0_off98_eq t, k0_off101_eq t, k0_off102_eq t, k0_off103_eq t, k0_off104_eq c t, k0_off105_eq t⟩

/-- The offsets of hop 6's counter-clockwise tiles. -/
def tiles14 (c : Dev nD) (t : Fin 8) : TileArgs :=
  ⟨k0_cond14 t, k0_off106 t, k0_off106_inb t, k0_off107 c t, k0_off107_inb c t, k0_off107_wordsbf16 c t, k0_off108 t, k0_off108_inb t, k0_off108_wordsbf16 t,
    k0_off109 t, k0_off109_inb t, k0_off110 t, k0_off110_inb t, k0_off110_packedbf16 t, k0_off111 t, k0_off111_inb t, k0_off112 c t, k0_off112_inb c t, k0_off112_wordsbf16 c t,
    k0_off113 t, k0_off113_inb t, k0_off113_wordsbf16 t⟩
/-- The tiles of loop 14 lie where its half-block and slot say. -/
theorem tiles14_is (c : Dev nD) (t : Fin 8) : (tiles14 c t).Is 0 (4096 * ((c.val + 6) % 8) + 2048) t :=
  ⟨rfl, k0_off106_eq t, k0_off109_eq t, k0_off110_eq t, k0_off111_eq t, (k0_off112_eq c t).trans (row_shift _ _), k0_off113_eq t⟩

/-- The offsets of hop 7's clockwise tiles. -/
def tiles15 (c : Dev nD) (t : Fin 8) : TileArgs :=
  ⟨k0_cond15 t, k0_off114 t, k0_off114_inb t, k0_off115 c t, k0_off115_inb c t, k0_off115_wordsbf16 c t, k0_off116 t, k0_off116_inb t, k0_off116_wordsbf16 t,
    k0_off117 t, k0_off117_inb t, k0_off118 t, k0_off118_inb t, k0_off118_packedbf16 t, k0_off119 t, k0_off119_inb t, k0_off120 c t, k0_off120_inb c t, k0_off120_wordsbf16 c t,
    k0_off121 t, k0_off121_inb t, k0_off121_wordsbf16 t⟩
/-- The tiles of loop 15 lie where its half-block and slot say. -/
theorem tiles15_is (c : Dev nD) (t : Fin 8) : (tiles15 c t).Is 1 (4096 * ((c.val + 1) % 8)) t :=
  ⟨rfl, k0_off114_eq t, k0_off117_eq t, k0_off118_eq t, k0_off119_eq t, k0_off120_eq c t, k0_off121_eq t⟩

/-- The offsets of hop 7's counter-clockwise tiles. -/
def tiles16 (c : Dev nD) (t : Fin 8) : TileArgs :=
  ⟨k0_cond16 t, k0_off122 t, k0_off122_inb t, k0_off123 c t, k0_off123_inb c t, k0_off123_wordsbf16 c t, k0_off124 t, k0_off124_inb t, k0_off124_wordsbf16 t,
    k0_off125 t, k0_off125_inb t, k0_off126 t, k0_off126_inb t, k0_off126_packedbf16 t, k0_off127 t, k0_off127_inb t, k0_off128 c t, k0_off128_inb c t, k0_off128_wordsbf16 c t,
    k0_off129 t, k0_off129_inb t, k0_off129_wordsbf16 t⟩
/-- The tiles of loop 16 lie where its half-block and slot say. -/
theorem tiles16_is (c : Dev nD) (t : Fin 8) : (tiles16 c t).Is 1 (4096 * ((c.val + 7) % 8) + 2048) t :=
  ⟨rfl, k0_off122_eq t, k0_off125_eq t, k0_off126_eq t, k0_off127_eq t, (k0_off128_eq c t).trans (row_shift _ _), k0_off129_eq t⟩

/-! ## The whole program -/

/-- A half-block's product in both directions, read from slot `s`. -/
def productsP (a b : Fin 8 → TileArgs) (u v w z : DrainArgs) : KProg F PUnit := do
  productP false a u v
  productP true b w z

/-- One hop: send slot `s` to the neighbours' slot `r` (`p` clockwise, `q` the other way), multiply what slot `s`
holds, and wait for both directions. -/
def hopP (s r : Fin 2) (p q : Dev nD) (a b : Fin 8 → TileArgs) (u v w z : DrainArgs) : KProg F PUnit := do
  sendP false s r p
  sendP true s r q
  productsP a b u v w z
  arriveP false s r
  arriveP true s r

/-- Between two hops: give the neighbours credit for slot `s`, and wait for theirs. -/
def relayP (s : Fin 2) (p q : Dev nD) : KProg F PUnit := do
  creditP false s p
  creditP true s q
  grantP false s
  grantP true s

/-- The kernel: the barrier, the load, seven hops with the credits between them, and the last products. -/
def wholeP : KProg F PUnit := do
  let c : Dev nD ← Prog.lift .deviceId
  entryP ⟨k0_dev1 c, k0_dev1_lt c⟩ ⟨k0_dev2 c, k0_dev2_lt c⟩
  loadP false
  loadP true
  hopP 0 1 ⟨k0_dev3 c, k0_dev3_lt c⟩ ⟨k0_dev4 c, k0_dev4_lt c⟩ (tiles1 c) (tiles2 c) (drainArgs c 0) (drainArgs c 1) (drainArgs c 2) (drainArgs c 3)
  relayP 0 ⟨k0_dev5 c, k0_dev5_lt c⟩ ⟨k0_dev6 c, k0_dev6_lt c⟩
  hopP 1 0 ⟨k0_dev7 c, k0_dev7_lt c⟩ ⟨k0_dev8 c, k0_dev8_lt c⟩ (tiles3 c) (tiles4 c) (drainArgs c 4) (drainArgs c 5) (drainArgs c 6) (drainArgs c 7)
  relayP 1 ⟨k0_dev9 c, k0_dev9_lt c⟩ ⟨k0_dev10 c, k0_dev10_lt c⟩
  hopP 0 1 ⟨k0_dev11 c, k0_dev11_lt c⟩ ⟨k0_dev12 c, k0_dev12_lt c⟩ (tiles5 c) (tiles6 c) (drainArgs c 8) (drainArgs c 9) (drainArgs c 10) (drainArgs c 11)
  relayP 0 ⟨k0_dev13 c, k0_dev13_lt c⟩ ⟨k0_dev14 c, k0_dev14_lt c⟩
  hopP 1 0 ⟨k0_dev15 c, k0_dev15_lt c⟩ ⟨k0_dev16 c, k0_dev16_lt c⟩ (tiles7 c) (tiles8 c) (drainArgs c 12) (drainArgs c 13) (drainArgs c 14) (drainArgs c 15)
  relayP 1 ⟨k0_dev17 c, k0_dev17_lt c⟩ ⟨k0_dev18 c, k0_dev18_lt c⟩
  hopP 0 1 ⟨k0_dev19 c, k0_dev19_lt c⟩ ⟨k0_dev20 c, k0_dev20_lt c⟩ (tiles9 c) (tiles10 c) (drainArgs c 16) (drainArgs c 17) (drainArgs c 18) (drainArgs c 19)
  relayP 0 ⟨k0_dev21 c, k0_dev21_lt c⟩ ⟨k0_dev22 c, k0_dev22_lt c⟩
  hopP 1 0 ⟨k0_dev23 c, k0_dev23_lt c⟩ ⟨k0_dev24 c, k0_dev24_lt c⟩ (tiles11 c) (tiles12 c) (drainArgs c 20) (drainArgs c 21) (drainArgs c 22) (drainArgs c 23)
  relayP 1 ⟨k0_dev25 c, k0_dev25_lt c⟩ ⟨k0_dev26 c, k0_dev26_lt c⟩
  hopP 0 1 ⟨k0_dev27 c, k0_dev27_lt c⟩ ⟨k0_dev28 c, k0_dev28_lt c⟩ (tiles13 c) (tiles14 c) (drainArgs c 24) (drainArgs c 25) (drainArgs c 26) (drainArgs c 27)
  productsP (tiles15 c) (tiles16 c) (drainArgs c 28) (drainArgs c 29) (drainArgs c 30) (drainArgs c 31)

set_option maxRecDepth 65536 in
set_option maxHeartbeats 4000000 in
/-- The printed kernel body, at this launch's buffers, is `wholeP`. -/
theorem body_eq (h1 : bM.IsWhole) : cc0_body (F := F) aM (Memref.isWhole_whole _) bM h1 oM (Memref.isWhole_whole _) (Memref.whole cc0_scratch0) (Memref.isWhole_whole _) (Memref.whole cc0_scratch1) (Memref.isWhole_whole _) gM (Memref.isWhole_whole _) cc0_scratch3 cc0_scratch4 cc0_scratch5 cc0_scratch6 cc0_scratch7 cc0_scratch8 cc0_scratch9 cc0_scratch10 = wholeP := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel]
  simp only [wholeP, hopP, relayP, productsP, productP, tilesP, entryP, loadP, sendP, arriveP, creditP, grantP, drainP,
    semSignalWord, semWaitWord, Prog.lift, Prog.bind_op, Prog.bind_ret, Prog.pure_eq_ret, Prog.bind_assoc]
  rfl

end Cert.KernelIdeal.Ring

end
-- ==== Proof.Views.lean ====
/- The regions the kernel's memory operations go through, and the values they read and write. -/
module

public import proofs.«01_k».proof.Proof.Program
public import Idealize.ShloMosaic.Lib.ValueLayout

@[expose] public section

set_option synthInstance.maxSize 4096

noncomputable section

namespace Cert.KernelIdeal.Ring

open Cert.KernelIdeal Cert.KernelIdeal.Gen
open Idealize.ShloMosaic Idealize.ShloMosaic.TcCoe Idealize.SL.Sem
open Idealize.ShloMosaic.ValueIdx

variable {F : FTy → Type} [FloatOps F]

/-! ## Values -/

/-- Tile `t` of a half-block `X`, as the load reads it. -/
def xTile (X : S2048x2048.Idx → Elt F .bf16) (t : Fin 8) : Vec F S1x256x2048 .bf16 :=
  fun y => X (ix2 ⟨256 * t.val + (y 1).val, by have := (y 1).isLt; have := t.isLt; simp only [S1x256x2048, Matrix.cons_val_one, Matrix.cons_val_zero] at *; omega⟩ (y 2))

/-- The product of tile `t` of a half-block with `B`. -/
def tileVal (X : S2048x2048.Idx → Elt F .bf16) (B : S2048x4096.Idx → Elt F .bf16) (t : Fin 8) : S256x4096.Idx → Elt F .bf16 :=
  fun x => k0_pay1 (xTile X t) B (ix3 (0 : Fin 1) (x 0) (x 1))

/-- The product of a half-block with `B`, tile by tile. -/
def prodVal (X : S2048x2048.Idx → Elt F .bf16) (B : S2048x4096.Idx → Elt F .bf16) (r : Nat) (hr : r < 2048) (q : Fin 4096) : Elt F .bf16 :=
  tileVal X B ⟨r / 256, by omega⟩ (ix2 ⟨r % 256, Nat.mod_lt _ (by decide)⟩ q)

/-- `G` holds the product of `X` with `B` in the 2048 rows from `b` on. -/
def Holds (G : S32768x4096.Idx → Elt F .bf16) (b : Nat) (X : S2048x2048.Idx → Elt F .bf16) (B : S2048x4096.Idx → Elt F .bf16) : Prop :=
  ∀ (i : S32768x4096.Idx) (h : b ≤ (i 0).val ∧ (i 0).val < b + 2048), G i = prodVal X B ((i 0).val - b) (by omega) (i 1)

/-! ## Rows of the result -/

/-- The `n` rows of the result from `b` on. -/
def rows (b n : Nat) : Finset S32768x4096.Idx := Finset.univ.filter fun i => b ≤ (i 0).val ∧ (i 0).val < b + n
/-- An element lies in a strip when its row does. -/
theorem mem_rows {b n : Nat} {i : S32768x4096.Idx} : i ∈ rows b n ↔ b ≤ (i 0).val ∧ (i 0).val < b + n := by simp [rows]
/-- No rows. -/
theorem rows_zero (b : Nat) : rows b 0 = ∅ := by ext i; simp only [mem_rows]; simp
/-- Rows below and rows above share nothing. -/
theorem rows_disjoint {b n b' n' : Nat} (h : b + n ≤ b' ∨ b' + n' ≤ b) : Disjoint (rows b n) (rows b' n') := by
  rw [Finset.disjoint_left]; intro i; simp only [mem_rows]; omega
/-- Adjacent rows together. -/
theorem rows_append (b n n' : Nat) : rows b n ∪ rows (b + n) n' = rows b (n + n') := by
  ext i; simp only [Finset.mem_union, mem_rows]; omega

/-- A tile's rectangle of the result covers its 256 rows. -/
theorem set_tile (o : Fin 2 → Nat) (i : ∀ a, o a + S256x4096.size a ≤ S32768x4096.size a) (b : Nat) (ho : o = ![b, 0]) :
    (oM.slice (Rect.unit (s := S32768x4096) o S256x4096.size i) (fun _ => rfl)).view.set = rows b 256 := by
  subst ho
  refine (View.set_slice_whole _ _).trans ?_
  ext j
  refine Rect.mem_set_unit.trans ?_
  rw [mem_rows]
  constructor
  · intro h; exact h 0
  · intro h a
    match a with
    | ⟨0, _⟩ => exact h
    | ⟨1, _⟩ => exact ⟨Nat.zero_le _, lt_of_lt_of_eq (j 1).isLt (Nat.zero_add 4096).symm⟩

/-- Where a tile's rectangle of the result puts its elements. -/
theorem emb_tile (o : Fin 2 → Nat) (i : ∀ a, o a + S256x4096.size a ≤ S32768x4096.size a) (b : Nat) (ho : o = ![b, 0]) (x : S256x4096.Idx) :
    (((oM.slice (Rect.unit (s := S32768x4096) o S256x4096.size i) (fun _ => rfl)).view.emb x : S32768x4096.Idx) 0).val = b + (x 0).val
      ∧ ((oM.slice (Rect.unit (s := S32768x4096) o S256x4096.size i) (fun _ => rfl)).view.emb x : S32768x4096.Idx) 1 = x 1 := by
  subst ho
  constructor
  · show b + 1 * (x 0).val = _; omega
  · apply Fin.ext; show 0 + 1 * (x 1).val = _; omega

/-- A tile written into the result at rows `b` on holds there what was written. -/
theorem write_tile (o : Fin 2 → Nat) (i : ∀ a, o a + S256x4096.size a ≤ S32768x4096.size a) (b : Nat) (t : Fin 8) (ho : o = ![b + 256 * t.val, 0])
    (f G : S32768x4096.Idx → Elt F .bf16) (X : S2048x2048.Idx → Elt F .bf16) (B : S2048x4096.Idx → Elt F .bf16) (hG : Holds G b X B) :
    ∀ j ∈ rows (b + 256 * t.val) 256,
      (oM.slice (Rect.unit (s := S32768x4096) o S256x4096.size i) (fun _ => rfl)).view.write (Elt F) f (tileVal X B t) Finset.univ j = G j := by
  intro j hj
  rw [← set_tile o i _ ho] at hj
  obtain ⟨x, rfl⟩ : ∃ x, (oM.slice (Rect.unit (s := S32768x4096) o S256x4096.size i) (fun _ => rfl)).view.emb x = j := by
    simpa [View.set] using hj
  refine (View.write_emb_of_mem _ _ (Finset.mem_univ _)).trans ?_
  obtain ⟨h0, h1⟩ := emb_tile o i _ ho x
  have hx : (x 0).val < 256 := (x 0).isLt
  have ht := t.isLt
  show tileVal X B t x = _
  refine Eq.trans ?_ (hG _ (by rw [h0]; omega)).symm
  unfold prodVal
  have e : ∀ (k : Nat) (hk : k < 2048), k = 256 * t.val + (x 0).val →
      tileVal X B ⟨k / 256, by omega⟩ (ix2 ⟨k % 256, Nat.mod_lt _ (by decide)⟩ (x 1)) = tileVal X B t x := by
    intro k hk hke
    have e1 : (⟨k / 256, by omega⟩ : Fin 8) = t := Fin.ext (by show k / 256 = _; omega)
    have e2 : (⟨k % 256, Nat.mod_lt _ (by decide)⟩ : Fin 256) = x 0 := Fin.ext (by show k % 256 = _; omega)
    rw [e1, e2]
    exact congrArg (tileVal X B t) (eq_ix2 (n0 := 256) (n1 := 4096) x).symm
  rw [h1]
  exact (e _ (by rw [h0]; omega) (by rw [h0]; omega)).symm

/-! ## The staging buffer and the communication buffers -/

/-- The elements of one slot's rectangle, in a buffer of two slots. -/
theorem mem_slot_rect {n m : Nat} (p : Fin 2) (inb : ∀ a, (![p.val, 0, 0] : Fin 3 → Nat) a + (![1, n, m] : Fin 3 → Nat) a ≤ (⟨3, ![2, n, m]⟩ : Shape).size a)
    (j : (⟨3, ![2, n, m]⟩ : Shape).Idx) : j ∈ (Rect.unit (s := ⟨3, ![2, n, m]⟩) ![p.val, 0, 0] ![1, n, m] inb).set ↔ j 0 = p := by
  refine Rect.mem_set_unit.trans ?_
  constructor
  · intro h
    have h1 : p.val ≤ (j 0).val ∧ (j 0).val < p.val + 1 := h 0
    exact Fin.ext (by omega)
  · rintro rfl a
    match a with
    | ⟨0, _⟩ => exact ⟨le_refl _, Nat.lt_succ_self _⟩
    | ⟨1, _⟩ => exact ⟨Nat.zero_le _, lt_of_lt_of_eq (j 1).isLt (Nat.zero_add n).symm⟩
    | ⟨2, _⟩ => exact ⟨Nat.zero_le _, lt_of_lt_of_eq (j 2).isLt (Nat.zero_add m).symm⟩

/-- A staging slot's elements, inside the staging buffer. -/
def stgSet (p : Fin 2) : Finset S2x256x4096.Idx := (stgM p).view.set
/-- A communication slot's elements, inside its buffer. -/
def slotSet (d : Bool) (s : Fin 2) : Finset (commM d).view.ty.Idx := (slotM d s).view.set

/-- A staging slot's elements lie in its half of the buffer. -/
theorem mem_stg (p : Fin 2) (j : S2x256x4096.Idx) : j ∈ stgSet p ↔ j 0 = p := by
  have : stgSet p = (Rect.unit (s := S2x256x4096) ![p.val, 0, 0] S1x256x4096.size (inb_stg p)).set :=
    (View.set_reshape _ _).trans (View.set_slice_whole _ _)
  rw [this]; exact mem_slot_rect p (inb_stg p) j

/-- A communication slot's elements are its rectangle's. -/
theorem set_slot (d : Bool) (s : Fin 2) : (slotSet d s)
    = (Rect.unit (s := S2x2048x2048) ![s.val, 0, 0] S1x2048x2048.size (inb_slot s)).set.map (commM d).view.emb :=
  (View.set_reshape _ _).trans (View.set_slice _ _)

/-- The two slots of a communication buffer share nothing. -/
theorem slots_disjoint (d : Bool) {s r : Fin 2} (h : s ≠ r) :
    Disjoint (slotSet d s) (slotSet d r) := by
  rw [set_slot, set_slot, Finset.disjoint_map, Finset.disjoint_left]
  intro j hj hj'
  exact h (((mem_slot_rect s (inb_slot s) j).mp hj).symm.trans ((mem_slot_rect r (inb_slot r) j).mp hj'))

/-- The two slots make up a communication buffer. -/
theorem slots_cover (d : Bool) : (slotSet d 0) ∪ (slotSet d 1) = Finset.univ := by
  have hw : (commM d).view.set = Finset.univ := by cases d <;> exact View.set_whole _
  rw [set_slot, set_slot, ← Finset.map_union, ← hw]
  refine congrArg (Finset.map _) ?_
  ext j
  refine Finset.mem_union.trans ?_
  rw [iff_true_right (Finset.mem_univ _)]
  have : ∀ p : Fin 2, p = 0 ∨ p = 1 := by decide
  rcases this (j 0) with h | h
  · exact .inl ((mem_slot_rect 0 (inb_slot 0) j).mpr h)
  · exact .inr ((mem_slot_rect 1 (inb_slot 1) j).mpr h)

/-- The two staging slots share nothing. -/
theorem stgs_disjoint : Disjoint (stgSet 0) (stgSet 1) := by
  rw [Finset.disjoint_left]; intro j h h'
  have e : (0 : Fin 2) = 1 := ((mem_stg 0 j).mp h).symm.trans ((mem_stg 1 j).mp h')
  exact absurd e (by decide)

/-- The two staging slots make up the staging buffer. -/
theorem stgs_cover : (stgSet 0) ∪ (stgSet 1) = Finset.univ := by
  ext j
  rw [Finset.mem_union, mem_stg, mem_stg, iff_true_right (Finset.mem_univ _)]
  have : ∀ p : Fin 2, p = 0 ∨ p = 1 := by decide
  exact this (j 0)

/-- Where a communication slot keeps its elements. -/
theorem read_slot (d : Bool) (s : Fin 2) (f : (commM d).view.ty.Contents (Elt F)) (x : S2048x2048.Idx) :
    (slotM d s).view.read (Elt F) f x = (commM d).view.read (Elt F) f (ix3 s (x 0) (x 1)) := by
  have e : (Rect.unit (s := S2x2048x2048) ![s.val, 0, 0] S1x2048x2048.size (inb_slot s)).emb
      (Shape.reshapeEquiv squeezes_S1x2048x2048_S2048x2048.numel_eq x) = ix3 s (x 0) (x 1) := by
    have e' : Shape.reshapeEquiv squeezes_S1x2048x2048_S2048x2048.numel_eq x = ix3 (⟨0, Nat.one_pos⟩ : Fin 1) (x 0) (x 1) :=
      (congrArg _ (eq_ix2 (n0 := 2048) (n1 := 2048) x)).trans (reshapeEquiv_ix2_1ab _ _ _)
    refine (congrArg _ e').trans ?_
    funext a
    apply Fin.ext
    match a with
    | ⟨0, _⟩ => show s.val + 1 * 0 = s.val; omega
    | ⟨1, _⟩ => show 0 + 1 * (x 0).val = (x 0).val; omega
    | ⟨2, _⟩ => show 0 + 1 * (x 1).val = (x 1).val; omega
  exact congrArg ((commM d).view.read (Elt F) f) e

/-- A tile's load reads inside its slot. -/
theorem load_slot (d : Bool) (s : Fin 2) (t : Fin 8) (o : Fin 3 → Nat) (i : ∀ a, o a + S1x256x2048.size a ≤ S2x2048x2048.size a) (ho : o = ![s.val, 256 * t.val, 0]) :
    ((commM d).view.setOn (Rect.unit (s := S2x2048x2048) o S1x256x2048.size i).toLoadRect.set : Finset (commM d).view.ty.Idx) ⊆ slotSet d s := by
  subst ho
  rw [set_slot]
  refine Finset.map_subset_map.mpr fun j hj => (mem_slot_rect s (inb_slot s) j).mpr ?_
  have h1 : s.val ≤ (j 0).val ∧ (j 0).val < s.val + 1 := (Rect.mem_set_unit.mp hj) 0
  exact Fin.ext (by omega)

/-- What a tile's load reads from a slot holding `X`. -/
theorem read_xTile (d : Bool) (s : Fin 2) (t : Fin 8) (o : Fin 3 → Nat) (i : ∀ a, o a + S1x256x2048.size a ≤ S2x2048x2048.size a) (ho : o = ![s.val, 256 * t.val, 0])
    (f : (commM d).view.ty.Contents (Elt F)) (X : S2048x2048.Idx → Elt F .bf16) (hX : (slotM d s).view.read (Elt F) f = X) :
    (commM d).view.readAt (Elt F) (Rect.unit (s := S2x2048x2048) o S1x256x2048.size i).toLoadRect f = xTile X t := by
  subst ho hX
  funext y
  refine Eq.trans ?_ (read_slot d s f _).symm
  refine congrArg ((commM d).view.read (Elt F) f) ?_
  funext a
  apply Fin.ext
  have hy : (y 0).val < 1 := (y 0).isLt
  match a with
  | ⟨0, _⟩ => show s.val + 1 * (y 0).val = s.val; omega
  | ⟨1, _⟩ => show 256 * t.val + 1 * (y 1).val = 256 * t.val + (y 1).val; omega
  | ⟨2, _⟩ => show 0 + 1 * (y 2).val = (y 2).val; omega

/-- A load or store through a staging slot's rectangle stays in the slot. -/
theorem access_stg (p : Fin 2) (o : Fin 3 → Nat) (i : ∀ a, o a + S1x256x4096.size a ≤ S2x256x4096.size a) (ho : o = ![p.val, 0, 0]) :
    (Rect.unit (s := S2x256x4096) o S1x256x4096.size i).set ⊆ stgSet p := by
  subst ho
  intro j hj
  exact (mem_stg p j).mpr ((mem_slot_rect p (inb_stg p) j).mp hj)

/-- What a staging slot reads back after a store of `w` through its rectangle. -/
theorem read_stg (p : Fin 2) (o o' : Fin 3 → Nat) (i : ∀ a, o a + S1x256x4096.size a ≤ S2x256x4096.size a) (i' : ∀ a, o' a + S1x256x4096.size a ≤ S2x256x4096.size a)
    (ho : o = ![p.val, 0, 0]) (ho' : o' = ![p.val, 0, 0]) (g : S2x256x4096.Idx → Elt F .bf16) (w : Vec F S1x256x4096 .bf16) :
    ((gM.slice (Rect.unit (s := S2x256x4096) o' S1x256x4096.size i') (fun _ => rfl)).squeeze S256x4096 squeezes_S1x256x4096_S256x4096).view.read (Elt F)
      ((gM.access (Rect.unit (s := S2x256x4096) o S1x256x4096.size i)).write (Elt F) g w Finset.univ) = fun x => w (ix3 (0 : Fin 1) (x 0) (x 1)) := by
  subst ho ho'
  funext x
  refine (congrFun (View.read_write_univ (v := gM.access (Rect.unit (s := S2x256x4096) ![p.val, 0, 0] S1x256x4096.size i)) g w) _).trans ?_
  refine congrArg w ?_
  exact (congrArg _ (eq_ix2 (n0 := 256) (n1 := 4096) x)).trans (reshapeEquiv_ix2_1ab _ _ _)

end Cert.KernelIdeal.Ring
-- ==== Proof.Base.lean ====
/- The algebra the kernel's proof is carried out in, and the assertions about its buffers. -/
module

public import proofs.«01_k».proof.Proof.Views
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The rounds' own algebra. -/
abbrev URing : Type := URounds (GSem nD τ sig) Bool
/-- The user algebra: the staging's, the rounds' and the local transfers'. -/
abbrev UU : Type := UR sig nD τ × (URing × Counters)

local notation "𝕄" => MT nD τ sig ℕ (Elt F) ℕ UU ℕ

/-- The staging's part of the algebra. -/
abbrev EP : Emb (UR sig nD τ) 𝕄 := embL
/-- The rounds' part of the algebra. -/
def ER : Emb URing 𝕄 := (Emb.inl : Emb URing (URing × Counters)).trans embR
/-- The rounds' component lands in the assertions' algebra. -/
instance : (ER (F := F)).LandsIn (upEmb : UEmb _ 𝕄) := by unfold ER embR; infer_instance
/-- The local transfers' part of the algebra. -/
abbrev EC : UEmb Counters 𝕄 := countersEmb

/-- No calls are made from inside the kernel. -/
abbrev 𝒱₀ : Variants := Variants.none

/-- A number's slot. -/
def sl (h : ℕ) : Fin 2 := ⟨h % 2, Nat.mod_lt _ (by decide)⟩
/-- Slots alternate. -/
theorem sl_add_two (h : ℕ) : sl (h + 2) = sl h := Fin.ext (by show (h + 2) % 2 = h % 2; omega)
/-- Consecutive slots differ. -/
theorem sl_succ_ne (h : ℕ) : sl h ≠ sl (h + 1) := by
  intro e; have : h % 2 = (h + 1) % 2 := congrArg Fin.val e; omega

/-- What core `c` owes, whatever it has waited for. -/
def ow (c : Dev nD) (O : CellTallies nD τ sig ℕ) : sProp 𝕄 := iprop(∃ W, owes (c : Thread nD τ) O W)

/-- Slot `s` of direction `d` on device `c` holds `X`. -/
def slotHas (d : Bool) (s : Fin 2) (q : PosShare TreeShare) (c : Dev nD) (X : S2048x2048.Idx → Elt F .bf16) : sProp 𝕄 :=
  iprop(∃ f, ⌜(slotM d s).view.read (Elt F) f = X⌝ ∗ ((slotM d s).view.loc (c : Thread nD τ) ↦[(slotM d s).view.set]{q} f))
/-- Slot `s` of direction `d` on device `c`, whatever it holds. -/
def slotAny (d : Bool) (s : Fin 2) (c : Dev nD) : sProp 𝕄 :=
  iprop(∃ f, ((slotM d s).view.loc (c : Thread nD τ) ↦[(slotM d s).view.set]{fullShare} f))
/-- `n` rows of the result on device `c`, from `b` on, hold what `f` says. -/
def outRows (c : Dev nD) (b n : ℕ) (f : S32768x4096.Idx → Elt F .bf16) : sProp 𝕄 :=
  iprop(oM.view.loc (c : Thread nD τ) ↦[rows b n]{fullShare} f)
/-- `n` rows of the result on device `c`, from `b` on, whatever they hold. -/
def outAny (c : Dev nD) (b n : ℕ) : sProp 𝕄 := iprop(∃ f, outRows (F := F) c b n f)
/-- The staged `B` on device `c`. -/
def bHas (c : Dev nD) (B : S2048x4096.Idx → Elt F .bf16) : sProp 𝕄 := iprop(bM.view.loc (c : Thread nD τ) ↦{fullShare} B)
/-- A staging slot, whatever it holds. -/
def stgAny (c : Dev nD) (p : Fin 2) : sProp 𝕄 :=
  iprop(∃ g, ((stgM p).view.loc (c : Thread nD τ) ↦[(stgM p).view.set]{fullShare} g))
/-- A staging slot no store reads. -/
def stgIdle (c : Dev nD) (p : Fin 2) : sProp 𝕄 := iprop(stgAny (F := F) c p ∗ semVal ((c : Thread nD τ), SemLoc.dma (stgS p)) 0)
/-- The units a tile's store counts. -/
def NT : ℕ := (oM.slice (Rect.unit (s := S32768x4096) ![0, 0] S256x4096.size (by decide +kernel)) (fun _ => rfl)).view.dmaCredit
/-- A staging slot whose store to the 256 rows from `b` on is under way. -/
def stgFlight (c : Dev nD) (p : Fin 2) (b : ℕ) (G : S32768x4096.Idx → Elt F .bf16) : sProp 𝕄 :=
  Flight EC (c : Thread nD τ) (SemLoc.dma (stgS p)) 0 NT iprop(outRows c b 256 G ∗ stgAny (F := F) c p)
/-- A staging slot as tile `u` finds it: under way since tile `u - 2`, if there was one. -/
def stgHold (c : Dev nD) (b : ℕ) (G : S32768x4096.Idx → Elt F .bf16) (u : ℕ) : sProp 𝕄 :=
  if u < 2 then stgIdle c (sl u) else stgFlight c (sl u) (b + 256 * (u - 2)) G

/-- Adjacent rows are held together or apart. -/
theorem outRows_append (c : Dev nD) (b n n' : ℕ) (f : S32768x4096.Idx → Elt F .bf16) :
    (outRows c b (n + n') f : sProp 𝕄) ⊣⊢ iprop(outRows c b n f ∗ outRows c (b + n) n' f) := by
  unfold outRows
  rw [← rows_append]
  exact pointsTo_union (rows_disjoint (.inl (le_refl _)))
/-- No rows at all. -/
theorem outRows_zero (c : Dev nD) (b : ℕ) (f : S32768x4096.Idx → Elt F .bf16) : (outRows c b 0 f : sProp 𝕄) ⊣⊢ emp := by
  unfold outRows
  rw [rows_zero, pointsTo_empty]
/-- Rows hold what any function with the same values there says. -/
theorem outRows_congr (c : Dev nD) (b n : ℕ) (f g : S32768x4096.Idx → Elt F .bf16) (h : ∀ i ∈ rows b n, f i = g i) :
    (outRows c b n f : sProp 𝕄) = outRows c b n g := pointsTo_congr h

end Cert.KernelIdeal.Ring
-- ==== Proof.Protocol.lean ====
/- The ring's protocol: which cell is paid when, with what, and what each device owes on the way. -/
module

public import proofs.«01_k».proof.Proof.Base
public import Mathlib.Tactic.DeriveFintype

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## The ring -/

/-- Sending on and receiving from undo each other. -/
theorem pv_nx (d : Bool) (c : Dev nD) : pv d (nx d c) = c := by revert d c; decide
/-- Receiving from and sending on undo each other. -/
theorem nx_pv (d : Bool) (c : Dev nD) : nx d (pv d c) = c := by revert d c; decide

/-- The device whose rows direction `d` holds on device `c` at hop `h`. -/
def org (d : Bool) (h : ℕ) (c : Dev nD) : Dev nD := (pv d)^[h] c
/-- One hop on, the next device holds the same rows. -/
theorem org_succ (d : Bool) (h : ℕ) (c : Dev nD) : org d (h + 1) (nx d c) = org d h c := by
  unfold org; rw [Function.iterate_succ_apply, pv_nx]

/-- Half `d` of a device's rows of `A`. -/
def halfOf (d : Bool) (A : S4096x2048.Idx → Elt F .bf16) : S2048x2048.Idx → Elt F .bf16 := (halfM d).view.read (Elt F) A
/-- What direction `d`'s slot holds on device `c` at hop `h`. -/
def chunk (A : Dev nD → S4096x2048.Idx → Elt F .bf16) (d : Bool) (h : ℕ) (c : Dev nD) : S2048x2048.Idx → Elt F .bf16 := halfOf d (A (org d h c))
/-- One hop on, the next device holds the same chunk. -/
theorem chunk_succ (A : Dev nD → S4096x2048.Idx → Elt F .bf16) (d : Bool) (h : ℕ) (c : Dev nD) : chunk A d (h + 1) (nx d c) = chunk A d h c := by
  unfold chunk; rw [org_succ]

/-! ## The cells -/

/-- The kernel's semaphores that devices share: the barrier's, and per direction and slot the send's, the receive's and the credit's. -/
inductive Kind where
  | bar
  | send (d : Bool) (s : Fin 2)
  | recv (d : Bool) (s : Fin 2)
  | cred (d : Bool) (s : Fin 2)
deriving DecidableEq, Fintype

/-- A kind's semaphore. -/
def ksem : Kind → SemLoc sig
  | .bar => .reg barS
  | .send d s => .dma (sendS d s)
  | .recv d s => .dma (recvS d s)
  | .cred d s => .reg (credS d s)
/-- Different kinds have different semaphores. -/
theorem ksem_inj : Function.Injective ksem := by
  have h : ∀ a b : Kind, ksem a = ksem b → a = b := by decide +kernel
  exact fun a b => h a b

/-- Kind `k`'s cell on device `c`. -/
abbrev cell (c : Dev nD) (k : Kind) : GSem nD τ sig := ((c : Thread nD τ), ksem k)
/-- The kind of a semaphore. -/
def kindOf (sm : SemLoc sig) : Option Kind := Function.partialInv ksem sm
/-- A kind is found again from its semaphore. -/
theorem kindOf_ksem (k : Kind) : kindOf (ksem k) = some k := Function.partialInv_left ksem_inj k

/-- The units a slot's transfer counts. -/
def NS : ℕ := (slotM false 0).view.dmaCredit
/-- Every slot is paid for by one amount. -/
theorem credit_slot (d : Bool) (s : Fin 2) : (slotM d s).view.dmaCredit = NS := by cases d <;> rfl
/-- That amount is positive. -/
theorem NS_pos : 0 < NS := View.dmaCredit_pos _ (by decide +kernel)

/-- The duties of a kind's round. -/
def dutiesK : Kind → ℕ → Finset Bool
  | .bar, r => if r = 0 then Finset.univ else ∅
  | .send _ s, r => if 2 * r + s.val ≤ 6 then {false} else ∅
  | .recv _ s, r => if 2 * r + (1 - s.val) ≤ 6 then {false} else ∅
  | .cred _ s, r => if 2 * r + s.val ≤ 5 then {false} else ∅
/-- The units of a kind's duty. -/
def amountK : Kind → ℕ
  | .bar => 1
  | .send _ _ => NS
  | .recv _ _ => NS
  | .cred _ _ => 1
/-- Every kind is paid a positive amount. -/
theorem amountK_pos (k : Kind) : 0 < amountK k := by cases k <;> first | exact Nat.one_pos | exact NS_pos

section Pay
variable (A : Dev nD → S4096x2048.Idx → Elt F .bf16)

/-- What a duty hands over. The barrier's: a neighbour's slot 1, ready to be written. A send's: the slot's lent half
    share back. A receive's: the slot with the chunk that arrived, and how far the sender's credit cell is. A
    credit's: the next device's slot, ready to be written again. -/
def payK (c : Dev nD) : Kind → ℕ → Bool → sProp 𝕄
  | .bar, _, e => iprop(slotAny e 1 (nx e c) ∗ reached ER (cell (nx e c) (.recv e 1)) 0)
  | .send d s, r, _ => slotHas d s fullShare.left c (chunk A d (2 * r + s.val) c)
  | .recv d s, r, _ => iprop(slotHas d s fullShare c (chunk A d (2 * r + (1 - s.val) + 1) c)
      ∗ reached ER (cell (pv d c) (.cred d (sl (2 * r + (1 - s.val))))) r)
  | .cred d s, r, _ => iprop(slotAny d s (nx d c) ∗ reached ER (cell (nx d c) (.recv d s)) ((2 * r + s.val + 1) / 2))

/-- A slot at given contents can be handed over by a semaphore. -/
instance slotHas_storable (d s q c X) : BI.Storable (upEmb : UEmb _ 𝕄) (slotHas (F := F) d s q c X) := by unfold slotHas; infer_instance
/-- A slot at any contents can be handed over by a semaphore. -/
instance slotAny_storable (d s c) : BI.Storable (upEmb : UEmb _ 𝕄) (slotAny (F := F) d s c) := by unfold slotAny; infer_instance
/-- Every payload can be handed over by a semaphore. -/
instance payK_storable (c k r d) : BI.Storable (upEmb : UEmb _ 𝕄) (payK A c k r d) := by
  cases k <;> (unfold payK; infer_instance)

/-- The schedule of every cell. -/
def Rd : Rounds.Schedule (GSem nD τ sig) Bool 𝕄 where
  duties g r := if g.1.2 = .tc then (match kindOf g.2 with | some k => dutiesK k r | none => ∅) else ∅
  unitless _ := False
  amount g _ _ := match kindOf g.2 with | some k => amountK k | none => 1
  payload g r d := match kindOf g.2 with | some k => payK A g.1.1 k r d | none => iprop(emp)
  amount_pos g _ _ _ := by
    cases kindOf g.2 with
    | some k => exact amountK_pos k
    | none => exact Nat.one_pos

/-- Every payload of the protocol's can be handed over by a semaphore. -/
instance Rd_payload_storable (g : GSem nD τ sig) (r : ℕ) (d : Bool) : BI.Storable (upEmb : UEmb _ 𝕄) ((Rd A).payload g r d) := by
  show BI.Storable upEmb (match kindOf g.2 with | some k => payK A g.1.1 k r d | none => iprop(emp))
  cases kindOf g.2 <;> infer_instance

/-- The protocol's duties at a cell are its kind's. -/
theorem Rd_duties (c : Dev nD) (k : Kind) (r : ℕ) : (Rd A).duties (cell c k) r = dutiesK k r := by
  dsimp only [Rd]; rw [if_pos rfl, kindOf_ksem]
/-- The protocol's amount at a cell is its kind's. -/
theorem Rd_amount (c : Dev nD) (k : Kind) (r : ℕ) (d : Bool) : (Rd A).amount (cell c k) r d = amountK k := by
  dsimp only [Rd]; rw [kindOf_ksem]
/-- The protocol's payload at a cell is its kind's. -/
theorem Rd_payload (c : Dev nD) (k : Kind) (r : ℕ) (d : Bool) : (Rd A).payload (cell c k) r d = payK A c k r d := by
  dsimp only [Rd]; rw [kindOf_ksem]
/-- A round of one duty expects its units. -/
theorem Rd_expect (c : Dev nD) (k : Kind) (r : ℕ) (h : dutiesK k r = {false}) : (Rd A).expect (cell c k) r = amountK k := by
  unfold Schedule.expect Schedule.amountOf; rw [Rd_duties, h, Finset.sum_singleton, Rd_amount]
/-- The barrier's round expects a unit from each neighbour. -/
theorem Rd_expect_bar (c : Dev nD) : (Rd A).expect (cell c .bar) 0 = 2 := by
  unfold Schedule.expect Schedule.amountOf
  rw [Rd_duties, Finset.sum_congr rfl fun d _ => Rd_amount A c .bar 0 d]
  rfl
/-- A round of one duty hands over its payload. -/
theorem Rd_rest (c : Dev nD) (k : Kind) (r : ℕ) (h : dutiesK k r = {false}) :
    bigSep ((Rd A).duties (cell c k) r \ ∅) (fun d => (Rd A).payload (cell c k) r d) = payK A c k r false := by
  rw [Finset.sdiff_empty, Rd_duties, h, bigSep_singleton, Rd_payload]
/-- The barrier's round hands over both neighbours' slots. -/
theorem Rd_rest_bar (c : Dev nD) :
    bigSep ((Rd A).duties (cell c .bar) 0 \ ∅) (fun d => (Rd A).payload (cell c .bar) 0 d) = iprop(payK A c .bar 0 false ∗ payK A c .bar 0 true) := by
  rw [Finset.sdiff_empty, Rd_duties, show dutiesK .bar 0 = Finset.univ from rfl, bigSep_univ_eq_bigSepL [false, true] (by decide) (by decide), bigSepL_cons_cons, bigSepL_singleton,
    Rd_payload, Rd_payload]
  rfl

end Pay

/-! ## Duties and payloads by hop -/

/-- A hop's slot is its parity. -/
theorem sl_val (h : ℕ) : (sl h).val = h % 2 := rfl
/-- Each send is one duty, up to the last hop. -/
theorem duties_send (d : Bool) {h : ℕ} (hh : h ≤ 6) : dutiesK (.send d (sl h)) (h / 2) = {false} :=
  if_pos (by rw [sl_val]; omega)
/-- Each arrival is one duty, up to the last hop. -/
theorem duties_recv (d : Bool) {h : ℕ} (hh : h ≤ 6) : dutiesK (.recv d (sl (h + 1))) (h / 2) = {false} :=
  if_pos (by rw [sl_val]; omega)
/-- Each credit is one duty, up to the last hop but one. -/
theorem duties_cred (d : Bool) {h : ℕ} (hh : h ≤ 5) : dutiesK (.cred d (sl h)) (h / 2) = {false} :=
  if_pos (by rw [sl_val]; omega)
/-- A send, when done, gives half of the slot back with the chunk it sent. -/
theorem pay_send (A : Dev nD → S4096x2048.Idx → Elt F .bf16) (c : Dev nD) (d : Bool) (h : ℕ) (e : Bool) :
    payK A c (.send d (sl h)) (h / 2) e = slotHas d (sl h) fullShare.left c (chunk A d h c) := by
  show slotHas d (sl h) fullShare.left c (chunk A d (2 * (h / 2) + h % 2) c) = _
  rw [Nat.div_add_mod]
/-- An arrival gives the slot with the next hop's chunk, and that the sender's credit has got so far. -/
theorem pay_recv (A : Dev nD → S4096x2048.Idx → Elt F .bf16) (c : Dev nD) (d : Bool) (h : ℕ) (e : Bool) :
    payK A c (.recv d (sl (h + 1))) (h / 2) e = iprop(slotHas d (sl (h + 1)) fullShare c (chunk A d (h + 1) c) ∗ reached ER (cell (pv d c) (.cred d (sl h))) (h / 2)) := by
  show iprop(slotHas d (sl (h + 1)) fullShare c (chunk A d (2 * (h / 2) + (1 - (h + 1) % 2) + 1) c)
      ∗ reached ER (cell (pv d c) (.cred d (sl (2 * (h / 2) + (1 - (h + 1) % 2))))) (h / 2)) = _
  rw [show 2 * (h / 2) + (1 - (h + 1) % 2) = h from by omega]
/-- A credit gives the next device's slot to write, and that its receive has got so far. -/
theorem pay_cred (A : Dev nD → S4096x2048.Idx → Elt F .bf16) (c : Dev nD) (d : Bool) (h : ℕ) (e : Bool) :
    payK A c (.cred d (sl h)) (h / 2) e = iprop(slotAny d (sl h) (nx d c) ∗ reached ER (cell (nx d c) (.recv d (sl h))) ((h + 1) / 2)) := by
  show iprop(slotAny d (sl h) (nx d c) ∗ reached ER (cell (nx d c) (.recv d (sl h))) ((2 * (h / 2) + h % 2 + 1) / 2)) = _
  rw [Nat.div_add_mod]

/-! ## What is owed, and the order it is paid in

Waits carry an index that is their level: 0 for a device's own transfers, 1 for the barrier, `2 k + 3` for what
arrives at hop `k` and `2 k + 4` for the credit after it. -/

/-- The units owed to the receive cell of hop `k`. -/
def oweR (c : Dev nD) (d : Bool) (k : ℕ) : CellTallies nD τ sig ℕ := tallyAt (cell (nx d c) (.recv d (sl (k + 1)))) (2 * k + 3) NS
/-- The unit owed to the credit cell of hop `k`. -/
def oweC (c : Dev nD) (d : Bool) (k : ℕ) : CellTallies nD τ sig ℕ := tallyAt (cell (pv d c) (.cred d (sl k))) (2 * k + 4) 1
/-- What is owed with the sends from hop `a` on and the credits from hop `b` on still to come. -/
def OO (a b : ℕ) (c : Dev nD) : CellTallies nD τ sig ℕ :=
  (∑ k ∈ Finset.Ico a 7, (oweR c false k + oweR c true k)) + ∑ k ∈ Finset.Ico b 6, (oweC c false k + oweC c true k)
/-- What is owed at the barrier. -/
def oweB (c p : Dev nD) : CellTallies nD τ sig ℕ := tallyAt (cell p .bar) 1 1
/-- What is owed at launch. -/
def O₀ (c : Dev nD) : CellTallies nD τ sig ℕ := OO 0 0 c + oweB c (nxt c) + oweB c (prv c)

/-- The first number of a range on its own. -/
theorem Ico_first {a b : ℕ} (h : a < b) : Finset.Ico a b = insert a (Finset.Ico (a + 1) b) := by
  ext k; simp only [Finset.mem_insert, Finset.mem_Ico]; omega
/-- The first term of a sum taken out. -/
theorem sum_first {M : Type} [AddCommMonoid M] {a b : ℕ} (h : a < b) (f : ℕ → M) : ∑ k ∈ Finset.Ico a b, f k = f a + ∑ k ∈ Finset.Ico (a + 1) b, f k := by
  rw [Ico_first h, Finset.sum_insert (by simp)]
/-- What is owed, with the sends of one hop taken out. -/
theorem OO_send {a : ℕ} (b : ℕ) (c : Dev nD) (h : a ≤ 6) : OO a b c = (OO (a + 1) b c + oweR c true a) + oweR c false a := by
  unfold OO; rw [sum_first (by omega : a < 7)]; ac_rfl
/-- What is owed, with the credits after one hop taken out. -/
theorem OO_cred (a : ℕ) {b : ℕ} (c : Dev nD) (h : b ≤ 5) : OO a b c = (OO a (b + 1) c + oweC c true b) + oweC c false b := by
  unfold OO; rw [sum_first (by omega : b < 6)]; ac_rfl
/-- At the end nothing is owed. -/
theorem OO_end (c : Dev nD) : OO 7 6 c = 0 := by
  unfold OO; rw [Finset.Ico_self, Finset.Ico_self, Finset.sum_empty, Finset.sum_empty, add_zero]

/-- The indices of a cell's waits. -/
def L (g : GSem nD τ sig) : Finset ℕ := if g.1.2 = .tc then Finset.range 20 else ∅
/-- An index is its level. -/
def lv (_ : GSem nD τ sig) (ι : ℕ) : ℕ := ι
/-- Only the devices' own threads have levels. -/
theorem L_of_ne (g : GSem nD τ sig) (h : g.1.2 ≠ .tc) : L g = ∅ := if_neg h
/-- A device's cells have twenty levels. -/
theorem L_tc (c : Dev nD) (sm : SemLoc sig) : L ((c : Thread nD τ), sm) = Finset.range 20 := if_pos rfl

/-- What a positive debt is. -/
theorem OO_pos {a b : ℕ} {c : Dev nD} {g : GSem nD τ sig} {u : ℕ} (h : 0 < OO a b c g u) :
    (∃ p : Dev nD, ∃ sm, g = ((p : Thread nD τ), sm)) ∧ u < 20 ∧ (2 * a + 3 ≤ u ∨ 2 * b + 4 ≤ u) := by
  have tally {p : Dev nD} {sm : SemLoc sig} {ι n : ℕ} (h : tallyAt ((p : Thread nD τ), sm) ι n g u ≠ 0) : g = ((p : Thread nD τ), sm) ∧ u = ι := by
    rw [tallyAt_apply] at h
    by_contra hn
    exact h (if_neg hn)
  unfold OO at h
  rw [Pi.add_apply, Finsupp.add_apply, Finset.sum_apply, Finset.sum_apply, Finsupp.finset_sum_apply, Finsupp.finset_sum_apply] at h
  rcases Nat.add_pos_iff_pos_or_pos.mp h with h | h
  · obtain ⟨k, hk, hp⟩ := Finset.exists_ne_zero_of_sum_ne_zero (Nat.pos_iff_ne_zero.mp h)
    rw [Finset.mem_Ico] at hk
    rw [Pi.add_apply, Finsupp.add_apply] at hp
    have : oweR c false k g u ≠ 0 ∨ oweR c true k g u ≠ 0 := by omega
    rcases this with h | h <;> obtain ⟨rfl, rfl⟩ := tally h <;> exact ⟨⟨_, _, rfl⟩, by omega, .inl (by omega)⟩
  · obtain ⟨k, hk, hp⟩ := Finset.exists_ne_zero_of_sum_ne_zero (Nat.pos_iff_ne_zero.mp h)
    rw [Finset.mem_Ico] at hk
    rw [Pi.add_apply, Finsupp.add_apply] at hp
    have : oweC c false k g u ≠ 0 ∨ oweC c true k g u ≠ 0 := by omega
    rcases this with h | h <;> obtain ⟨rfl, rfl⟩ := tally h <;> exact ⟨⟨_, _, rfl⟩, by omega, .inr (by omega)⟩

/-- A device may wait at a level below everything it owes. -/
theorem mayWait (c : Dev nD) (sm : SemLoc sig) {ι a b : ℕ} (hι : ι < 20) (ha : ι < 2 * a + 3) (hb : ι < 2 * b + 4) :
    (levAts L lv : sProp 𝕄) ⊢ MayWait (c : Thread nD τ) sm ι (OO a b c) :=
  MayOwe.of_cut (L := L) (lev := lv) ι (fun p hp => by rw [Finset.mem_singleton.mp hp, L_tc]; exact Finset.mem_range.mpr hι)
    (fun g u hg => by obtain ⟨⟨p, sm, rfl⟩, hu, -⟩ := OO_pos hg; rw [L_tc]; exact Finset.mem_range.mpr hu)
    (fun p hp => by rw [Finset.mem_singleton.mp hp]; exact le_refl _)
    (fun g u hg => by obtain ⟨-, -, hu⟩ := OO_pos hg; show ι < u; omega)

/-- The launch's debt is of the barrier's level at least. -/
theorem O₀_pos {c : Dev nD} {g : GSem nD τ sig} {u : ℕ} (h : 0 < O₀ c g u) : (∃ p : Dev nD, ∃ sm, g = ((p : Thread nD τ), sm)) ∧ u < 20 ∧ 1 ≤ u := by
  have tally {p : Dev nD} (h : oweB c p g u ≠ 0) : g = cell p .bar ∧ u = 1 := by
    unfold oweB at h
    rw [tallyAt_apply] at h
    by_contra hn
    exact h (if_neg hn)
  unfold O₀ at h
  rw [Pi.add_apply, Finsupp.add_apply, Pi.add_apply, Finsupp.add_apply] at h
  have : 0 < OO 0 0 c g u ∨ oweB c (nxt c) g u ≠ 0 ∨ oweB c (prv c) g u ≠ 0 := by omega
  rcases this with h | h | h
  · obtain ⟨h1, h2, h3⟩ := OO_pos h; exact ⟨h1, h2, by omega⟩
  · obtain ⟨rfl, rfl⟩ := tally h; exact ⟨⟨_, _, rfl⟩, by omega, le_refl _⟩
  · obtain ⟨rfl, rfl⟩ := tally h; exact ⟨⟨_, _, rfl⟩, by omega, le_refl _⟩

/-- At launch a device may wait at level 0. -/
theorem mayWait_launch (c : Dev nD) (sm : SemLoc sig) : (levAts L lv : sProp 𝕄) ⊢ MayWait (c : Thread nD τ) sm 0 (O₀ c) :=
  MayOwe.of_cut (L := L) (lev := lv) 0 (fun p hp => by rw [Finset.mem_singleton.mp hp, L_tc]; exact Finset.mem_range.mpr (show 0 < 20 by omega))
    (fun g u hg => by obtain ⟨⟨p, sm, rfl⟩, hu, -⟩ := O₀_pos hg; rw [L_tc]; exact Finset.mem_range.mpr hu)
    (fun p hp => by rw [Finset.mem_singleton.mp hp]; exact le_refl _)
    (fun g u hg => by obtain ⟨-, -, hu⟩ := O₀_pos hg; exact hu)

/-- A device may wait for its own transfers at any point after the barrier's signals. -/
theorem mayWaits (c : Dev nD) (a b : ℕ) : (levAts L lv : sProp 𝕄) ⊢ MayWaits (c : Thread nD τ) 0 (OO a b c) :=
  MayWaits.intro fun sm => mayWait c sm (by omega) (by omega) (by omega)

end Cert.KernelIdeal.Ring
-- ==== Proof.Moves.lean ====
/- The kernel's steps between devices: sends, waits and credits, and the load of a device's own rows. -/
module

public import proofs.«01_k».proof.Proof.Protocol

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (A : Dev nD → S4096x2048.Idx → Elt F .bf16)

/-- Every cell's invariant. -/
def recs (K : Dev nD × Kind → ℕ) : sProp 𝕄 := bigSep Finset.univ fun p : Dev nD × Kind => cellInv ER (Rd A) (K p) (cell p.1 p.2)
/-- The records may be kept and copied. -/
instance recs_persistent (K : Dev nD × Kind → ℕ) : BI.Persistent (recs A K) := by unfold recs; infer_instance
/-- One cell's invariant. -/
theorem inv_at (K : Dev nD × Kind → ℕ) (c : Dev nD) (k : Kind) : recs A K ⊢ cellInv ER (Rd A) (K (c, k)) (cell c k) :=
  bigSep_elim (i := (c, k)) (Finset.mem_univ _)
/-- A device has consumed `R` rounds of a cell of its own. -/
def pos (c : Dev nD) (k : Kind) (R : ℕ) : sProp 𝕄 := iprop(atPos ER (cell c k) R ∅ 0 ∗ reached ER (cell c k) R)

/-- A slot's two half shares are the slot. -/
theorem slot_halves (d : Bool) (s : Fin 2) (c : Dev nD) (X : S2048x2048.Idx → Elt F .bf16) :
    (slotHas d s fullShare c X : sProp 𝕄) ⊢ iprop(slotHas d s fullShare.left c X ∗ slotHas d s fullShare.right c X) := by
  unfold slotHas
  iintro ⟨%f, %hf, H⟩
  ihave H := (pointsTo_share (PosShare.mem_left_op_right fullShare)).1 $$ H
  icases H with ⟨Hl, Hr⟩
  isplitl [Hl]
  · iexists f; isplitr; · ipureintro; exact hf
    iexact Hl
  · iexists f; isplitr; · ipureintro; exact hf
    iexact Hr
/-- The two half shares of the same elements make the full share. -/
theorem half_join (ℓ : Loc nD τ sig) (I : Finset (Idx ℓ)) (f g : Buf (Elt F) ℓ) :
    iprop((ℓ ↦[I]{fullShare.left} f) ∗ (ℓ ↦[I]{fullShare.right} g)) ⊢ (ℓ ↦[I]{fullShare} f : sProp 𝕄) := by
  have ha : iprop((ℓ ↦[I]{fullShare.left} f) ∗ (ℓ ↦[I]{fullShare.right} g)) ⊢ (⌜∀ i ∈ I ∩ I, f i = g i⌝ : sProp 𝕄) :=
    pointsTo_agree.trans (Laws.pure_mono fun h i hi => (h i hi).1)
  iintro H
  ihave H := (persistent_entails_right ha) $$ H
  icases H with ⟨%hag, Hl, Hr⟩
  ihave Hr := (Entails.of_eq (pointsTo_congr (q := fullShare.right) (f := g) (g := f) (fun i hi => (hag i (Finset.mem_inter.mpr ⟨hi, hi⟩)).symm))) $$ Hr
  iapply (pointsTo_share (PosShare.mem_left_op_right fullShare)).2
  isplitl [Hl] <;> iassumption
/-- Half shares of a slot with different descriptions agree, and make the whole. -/
theorem slot_join (d : Bool) (s : Fin 2) (c : Dev nD) (X Y : S2048x2048.Idx → Elt F .bf16) :
    iprop(slotHas d s fullShare.left c X ∗ slotHas d s fullShare.right c Y) ⊢ (slotHas d s fullShare c X : sProp 𝕄) := by
  unfold slotHas
  iintro ⟨⟨%f, %hf, Hl⟩, ⟨%g, %hg, Hr⟩⟩
  have key := half_join (F := F) ((slotM d s).view.loc (c : Thread nD τ)) (slotM d s).view.set f g
  iexists f
  isplitr; · ipureintro; exact hf
  iapply key
  isplitl [Hl] <;> iassumption
/-- A slot's contents forgotten. -/
theorem slot_any (d : Bool) (s : Fin 2) (c : Dev nD) (X : S2048x2048.Idx → Elt F .bf16) : (slotHas d s fullShare c X : sProp 𝕄) ⊢ slotAny d s c := by
  unfold slotHas slotAny
  iintro ⟨%f, -, H⟩
  iexists f; iexact H

/-- A wait for a round of one duty advances the cell and hands over the duty's payload. -/
theorem wp_await (K : Dev nD × Kind → ℕ) (c : Dev nD) (k : Kind) (R : ℕ) (hd : dutiesK k R = {false}) (ι : ℕ) (O : CellTallies nD τ sig ℕ)
    {w : TpuEff nD τ sig (Elt F) Λ₀ .tc PUnit} (hw : ∀ P : PUnit → sProp 𝕄, wpE defs₀ 𝒱₀ (c : Thread nD τ) none Set.univ w P = waitSpec (c : Thread nD τ) Set.univ (ksem k) (amountK k) P)
    {α : Type} {kk : PUnit → KProg F α} {Q : α → sProp 𝕄} :
    iprop(recs A K ∗ cred (tallyAt (cell c k) ι (amountK k)) ∗ ow c O ∗ MayWait (c : Thread nD τ) (ksem k) ι O ∗ pos c k R)
      ⊢ iprop((iprop(ow c O ∗ pos c k (R + 1) ∗ payK A c k R false) -∗ wp frame (wpE defs₀ 𝒱₀ (c : Thread nD τ) none) Set.univ (kk ⟨⟩) Q)
        -∗ wp frame (wpE defs₀ 𝒱₀ (c : Thread nD τ) none) Set.univ (.op w kk) Q) := by
  unfold ow pos
  iintro ⟨#HR, Hc, ⟨%W, HO⟩, HM, Hat, -⟩ Hk
  iapply (Rounds.wp_wait_rest_token 𝒱₀ ER (Rd A) (c : Thread nD τ) none (κ := K (c, k)) (sm := ksem k) (k' := amountK k)
      hw (Set.mem_univ _) ι (O := O) (W := W) (R := R) (m := 0) (T := ∅)
      (by rw [Nat.zero_add, Rd_expect A c k R hd])) $$ [Hc HO HM Hat]
  · isplitr; · iapply (inv_at A K c k); iexact HR
    isplitl [Hc]; · iexact Hc
    isplitl [HO]; · iexact HO
    isplitl [HM]; · iexact HM
    iexact Hat
  iintro ⟨HO, Hat, Hr, Hpay⟩
  iapply Hk
  isplitl [HO]; · iexists _; iexact HO
  isplitl [Hat Hr]; · isplitl [Hat] <;> iassumption
  iapply (Entails.of_eq (Rd_rest A c k R hd)); iexact Hpay

/-- The send of hop `h`: the slot's left half share is lent until the send is waited for. -/
theorem wp_send (K : Dev nD × Kind → ℕ) (d : Bool) (h : ℕ) (hh : h ≤ 6) (c n : Dev nD) (hn : n = nx d c) (O : CellTallies nD τ sig ℕ)
    {α : Type} {k : PUnit → KProg F α} {Q : α → sProp 𝕄} :
    iprop(recs A K ∗ slotHas d (sl h) fullShare c (chunk A d h c) ∗ slotAny d (sl (h + 1)) (nx d c) ∗ ow c (O + oweR c d h)
        ∗ dutyTok ER (cell c (.send d (sl h))) (h / 2) false ∗ reached ER (cell c (.send d (sl h))) (h / 2)
        ∗ dutyTok ER (cell (nx d c) (.recv d (sl (h + 1)))) (h / 2) false ∗ reached ER (cell (nx d c) (.recv d (sl (h + 1)))) (h / 2)
        ∗ reached ER (cell c (.cred d (sl h))) (h / 2))
      ⊢ iprop((iprop(cred (tallyAt (cell c (.send d (sl h))) 0 NS) ∗ ow c O ∗ slotHas d (sl h) fullShare.right c (chunk A d h c))
          -∗ wp frame (wpE defs₀ 𝒱₀ (c : Thread nD τ) none) Set.univ (k ⟨⟩) Q)
        -∗ wp frame (wpE defs₀ 𝒱₀ (c : Thread nD τ) none) Set.univ (sendP d (sl h) (sl (h + 1)) n >>= k) Q) := by
  subst hn
  have core (fs fd W) (hfs : (slotM d (sl h)).view.read (Elt F) fs = chunk A d h c) := Rounds.wp_send_pointsTo_with (Γ := .empty) (defs := defs₀) (F := reached ER (cell c (.cred d (sl h))) (h / 2)) 𝒱₀ ER (Rd A) (c : Thread nD τ) none (c' := ((nx d c : Dev nD) : Thread nD τ))
    (src := slotM d (sl h)) (dst := slotM d (sl (h + 1))) (sS := .dma (sendS d (sl h))) (sem := .dma (recvS d (sl (h + 1)))) (hsc := rfl)
    (hsrc := slotM_exact d _) (hdst := slotM_exact d _) (hsem := ⟨⟨rfl, Or.inl rfl⟩, trivial⟩) (k := k) (Q := Q) (q := fullShare.left)
    (κ₁ := K (c, .send d (sl h))) (κ₂ := K (nx d c, .recv d (sl (h + 1)))) (r₁ := h / 2) (r₂ := h / 2) (d₁ := false) (d₂ := false) (fs := fs) (fd := fd)
    (by show false ∈ (Rd A).duties (cell c (.send d (sl h))) (h / 2); rw [Rd_duties, duties_send d hh]; exact Finset.mem_singleton_self _)
    (by show false ∈ (Rd A).duties (cell (nx d c) (.recv d (sl (h + 1)))) (h / 2); rw [Rd_duties, duties_recv d hh]; exact Finset.mem_singleton_self _)
    (2 * h + 3) 0 NS (credit_slot d _) (Rd_amount A c (.send d (sl h)) _ _) (Rd_amount A (nx d c) (.recv d (sl (h + 1))) _ _) O (O₀ := O + oweR c d h) rfl (W := W)
    (by
      show _ ⊢ (Rd A).payload (cell c (.send d (sl h))) (h / 2) false
      rw [Rd_payload, pay_send]; unfold slotHas
      iintro H; iexists fs; isplitr; · ipureintro; exact hfs
      iexact H)
    (by
      show _ ⊢ (Rd A).payload (cell (nx d c) (.recv d (sl (h + 1)))) (h / 2) false
      rw [Rd_payload, pay_recv, pv_nx, chunk_succ]; unfold slotHas
      iintro ⟨H, Hr⟩
      isplitl [H]
      · iexists (slotM d (sl (h + 1))).view.write (Elt F) fd ((slotM d (sl h)).view.read (Elt F) fs) Finset.univ; isplitr; · ipureintro; exact (View.read_write_univ _ _).trans hfs
        iexact H
      iexact Hr)
    (Es := Set.univ)
  unfold sendP
  simp only [Prog.lift, Prog.bind_op, Prog.bind_ret]
  unfold ow slotAny
  iintro ⟨#HR, Hs, ⟨%fd, Hd⟩, ⟨%W, HO⟩, Ht, Hr, Ht', Hr', Hcr⟩ Hk
  ihave Hs := (slot_halves d (sl h) c (chunk A d h c)) $$ Hs
  icases Hs with ⟨Hl, Hright⟩
  ihave Hl := (Entails.of_eq (show slotHas d (sl h) fullShare.left c (chunk A d h c) = iprop(∃ f, ⌜(slotM d (sl h)).view.read (Elt F) f = chunk A d h c⌝ ∗ ((slotM d (sl h)).view.loc (c : Thread nD τ) ↦[(slotM d (sl h)).view.set]{fullShare.left} f)) from rfl)) $$ Hl
  icases Hl with ⟨%fs, %hfs, Hl⟩
  iapply (core fs fd W hfs) $$ [Hl Hd HO Ht Hr Ht' Hr' Hcr]
  · isplitr; · iapply (inv_at A K c (.send d (sl h))); iexact HR
    isplitr; · iapply (inv_at A K (nx d c) (.recv d (sl (h + 1)))); iexact HR
    isplitl [Hl]; · iexact Hl
    isplitl [Hd Hcr]; · isplitl [Hd] <;> iassumption
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  isplitl [HO]; · iexists W; iexact HO
  iexact Hright

/-- The credit after hop `h`: this device's slot, ready to be written, goes to the device it receives from. -/
theorem wp_credit (K : Dev nD × Kind → ℕ) (d : Bool) (h : ℕ) (hh : h ≤ 5) (c n : Dev nD) (hn : n = pv d c) (O : CellTallies nD τ sig ℕ)
    {α : Type} {k : PUnit → KProg F α} {Q : α → sProp 𝕄} :
    iprop(recs A K ∗ slotAny d (sl h) c ∗ reached ER (cell c (.recv d (sl h))) ((h + 1) / 2) ∗ ow c (O + oweC c d h)
        ∗ dutyTok ER (cell (pv d c) (.cred d (sl h))) (h / 2) false ∗ reached ER (cell (pv d c) (.cred d (sl h))) (h / 2))
      ⊢ iprop((ow c O -∗ wp frame (wpE defs₀ 𝒱₀ (c : Thread nD τ) none) Set.univ (k ⟨⟩) Q)
        -∗ wp frame (wpE defs₀ 𝒱₀ (c : Thread nD τ) none) Set.univ (creditP d (sl h) n >>= k) Q) := by
  subst hn
  have core (W) := Rounds.wp_signal (Γ := .empty) (defs := defs₀) 𝒱₀ ER (Rd A) (c : Thread nD τ) none (dst := ((pv d c : Dev nD) : Thread nD τ)) (sem := credS d (sl h)) (κ := K (pv d c, .cred d (sl h)))
    (r := h / 2) (d := false) (k' := (1#32).toNat) (k := k) (Q := Q)
    (by show false ∈ (Rd A).duties (cell (pv d c) (.cred d (sl h))) (h / 2); rw [Rd_duties, duties_cred d hh]; exact Finset.mem_singleton_self _)
    (Rd_amount A (pv d c) (.cred d (sl h)) _ _) (2 * h + 4) O (O₀ := O + oweC c d h) rfl (W := W) (Es := Set.univ)
  have hp : (Rd A).payload (cell (pv d c) (.cred d (sl h))) (h / 2) false = iprop(slotAny d (sl h) c ∗ reached ER (cell c (.recv d (sl h))) ((h + 1) / 2)) := by
    rw [Rd_payload, pay_cred, nx_pv]
  have hp' : iprop(slotAny d (sl h) c ∗ reached ER (cell c (.recv d (sl h))) ((h + 1) / 2)) ⊢ (Rd A).payload (((pv d c : Dev nD) : Thread nD τ), SemLoc.reg (credS d (sl h))) (h / 2) false := Entails.of_eq hp.symm
  unfold creditP
  simp only [semSignalWord, Prog.lift, Prog.bind_op, Prog.bind_ret]
  unfold ow
  iintro ⟨#HR, Hs, Hrr, ⟨%W, HO⟩, Ht, Hr⟩ Hk
  iapply (core W) $$ [Hs Hrr HO Ht Hr]
  · isplitr; · iapply (inv_at A K (pv d c) (.cred d (sl h))); iexact HR
    isplitl [HO]; · iexact HO
    isplitl [Ht]; · iexact Ht
    isplitl [Hs Hrr]
    · iapply hp'; isplitl [Hs] <;> iassumption
    iexact Hr
  iintro HO
  iapply Hk
  iexists W; iexact HO

/-- The wait for the credit after hop `h`. -/
theorem wp_grant (K : Dev nD × Kind → ℕ) (d : Bool) (h : ℕ) (hh : h ≤ 5) (c : Dev nD) (O : CellTallies nD τ sig ℕ)
    {α : Type} {k : PUnit → KProg F α} {Q : α → sProp 𝕄} :
    iprop(recs A K ∗ cred (tallyAt (cell c (.cred d (sl h))) (2 * h + 4) 1) ∗ ow c O ∗ MayWait (c : Thread nD τ) (ksem (.cred d (sl h))) (2 * h + 4) O ∗ pos c (.cred d (sl h)) (h / 2))
      ⊢ iprop((iprop(ow c O ∗ pos c (.cred d (sl h)) (h / 2 + 1) ∗ slotAny d (sl h) (nx d c) ∗ reached ER (cell (nx d c) (.recv d (sl h))) ((h + 1) / 2))
          -∗ wp frame (wpE defs₀ 𝒱₀ (c : Thread nD τ) none) Set.univ (k ⟨⟩) Q)
        -∗ wp frame (wpE defs₀ 𝒱₀ (c : Thread nD τ) none) Set.univ (grantP d (sl h) >>= k) Q) := by
  have core := wp_await A K c (.cred d (sl h)) (h / 2) (duties_cred d hh) (2 * h + 4) O (w := .semWait (credS d (sl h)) (1#32).toNat)
    (fun P => wpE_semWait_eq 𝒱₀ (c : Thread nD τ) none Set.univ P) (kk := k) (Q := Q)
  rw [pay_cred] at core
  unfold grantP
  simp only [semWaitWord, Prog.lift, Prog.bind_op, Prog.bind_ret]
  exact core

/-- The waits of hop `h` for the send and for what arrives. -/
theorem wp_arrive (K : Dev nD × Kind → ℕ) (d : Bool) (h : ℕ) (hh : h ≤ 6) (c : Dev nD) (O : CellTallies nD τ sig ℕ)
    {α : Type} {k : PUnit → KProg F α} {Q : α → sProp 𝕄} :
    iprop(recs A K ∗ cred (tallyAt (cell c (.send d (sl h))) 0 NS) ∗ cred (tallyAt (cell c (.recv d (sl (h + 1)))) (2 * h + 3) NS) ∗ ow c O
        ∗ MayWait (c : Thread nD τ) (ksem (.send d (sl h))) 0 O ∗ MayWait (c : Thread nD τ) (ksem (.recv d (sl (h + 1)))) (2 * h + 3) O
        ∗ pos c (.send d (sl h)) (h / 2) ∗ pos c (.recv d (sl (h + 1))) (h / 2))
      ⊢ iprop((iprop(ow c O ∗ pos c (.send d (sl h)) (h / 2 + 1) ∗ pos c (.recv d (sl (h + 1))) (h / 2 + 1) ∗ slotHas d (sl h) fullShare.left c (chunk A d h c)
            ∗ slotHas d (sl (h + 1)) fullShare c (chunk A d (h + 1) c) ∗ reached ER (cell (pv d c) (.cred d (sl h))) (h / 2))
          -∗ wp frame (wpE defs₀ 𝒱₀ (c : Thread nD τ) none) Set.univ (k ⟨⟩) Q)
        -∗ wp frame (wpE defs₀ 𝒱₀ (c : Thread nD τ) none) Set.univ (arriveP d (sl h) (sl (h + 1)) >>= k) Q) := by
  have core {k' : PUnit → KProg F α} := wp_await A K c (.send d (sl h)) (h / 2) (duties_send d hh) 0 O (w := .waitDma2 (sendS d (sl h)) (slotM d (sl (h + 1))) (slotM d (sl h)) (slotM_exact d _) (slotM_exact d _))
    (fun P => by
      refine (wpE_waitDma2_eq 𝒱₀ (c : Thread nD τ) none Set.univ P).trans ?_
      rw [credit_slot]; rfl) (kk := k') (Q := Q)
  have core' {k' : PUnit → KProg F α} := wp_await A K c (.recv d (sl (h + 1))) (h / 2) (duties_recv d hh) (2 * h + 3) O (w := .waitDma2 (recvS d (sl (h + 1))) (slotM d (sl h)) (slotM d (sl (h + 1))) (slotM_exact d _) (slotM_exact d _))
    (fun P => by
      refine (wpE_waitDma2_eq 𝒱₀ (c : Thread nD τ) none Set.univ P).trans ?_
      rw [credit_slot]; rfl) (kk := k') (Q := Q)
  rw [pay_send] at core
  rw [pay_recv] at core'
  unfold arriveP
  simp only [Prog.lift, Prog.bind_op, Prog.bind_ret]
  iintro ⟨#HR, Hc, Hc', HO, HM, HM', Hp, Hp'⟩ Hk
  iapply core $$ [Hc HO HM Hp]
  · isplitr; · iexact HR
    isplitl [Hc]; · iexact Hc
    isplitl [HO]; · iexact HO
    isplitl [HM] <;> iassumption
  iintro ⟨HO, Hp, Hs⟩
  iapply core' $$ [Hc' HO HM' Hp']
  · isplitr; · iexact HR
    isplitl [Hc']; · iexact Hc'
    isplitl [HO]; · iexact HO
    isplitl [HM'] <;> iassumption
  iintro ⟨HO, Hp', Hs', Hr⟩
  iapply Hk
  isplitl [HO]; · iexact HO
  isplitl [Hp]; · iexact Hp
  isplitl [Hp']; · iexact Hp'
  isplitl [Hs]; · iexact Hs
  isplitl [Hs'] <;> iassumption

end Cert.KernelIdeal.Ring
-- ==== Proof.Entry.lean ====
/- The kernel's beginning: the barrier and the load of a device's own rows. -/
module

public import proofs.«01_k».proof.Proof.Moves

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (A : Dev nD → S4096x2048.Idx → Elt F .bf16)

/-- A signal at the barrier hands this device's slot 1 of one direction to the device it receives from. -/
theorem wp_knock (K : Dev nD × Kind → ℕ) (d : Bool) (c n : Dev nD) (hn : n = pv d c) (O : CellTallies nD τ sig ℕ)
    {α : Type} {k : PUnit → KProg F α} {Q : α → sProp 𝕄} :
    iprop(recs A K ∗ slotAny d 1 c ∗ reached ER (cell c (.recv d 1)) 0 ∗ ow c (O + oweB c (pv d c))
        ∗ dutyTok ER (cell (pv d c) .bar) 0 d ∗ reached ER (cell (pv d c) .bar) 0)
      ⊢ iprop((ow c O -∗ wp frame (wpE defs₀ 𝒱₀ (c : Thread nD τ) none) Set.univ (k ⟨⟩) Q)
        -∗ wp frame (wpE defs₀ 𝒱₀ (c : Thread nD τ) none) Set.univ (semSignalWord n barS 1#32 >>= k) Q) := by
  subst hn
  have core (W) := Rounds.wp_signal (Γ := .empty) (defs := defs₀) 𝒱₀ ER (Rd A) (c : Thread nD τ) none (dst := ((pv d c : Dev nD) : Thread nD τ)) (sem := barS) (κ := K (pv d c, .bar))
    (r := 0) (d := d) (k' := (1#32).toNat) (k := k) (Q := Q)
    (by show d ∈ (Rd A).duties (cell (pv d c) .bar) 0; rw [Rd_duties]; exact Finset.mem_univ _)
    (Rd_amount A (pv d c) .bar _ _) 1 O (O₀ := O + oweB c (pv d c)) rfl (W := W) (Es := Set.univ)
  have hp : (Rd A).payload (cell (pv d c) .bar) 0 d = iprop(slotAny d 1 c ∗ reached ER (cell c (.recv d 1)) 0) := by
    rw [Rd_payload]
    show iprop(slotAny d 1 (nx d (pv d c)) ∗ reached ER (cell (nx d (pv d c)) (.recv d 1)) 0) = _
    rw [nx_pv]
  have hp' : iprop(slotAny d 1 c ∗ reached ER (cell c (.recv d 1)) 0) ⊢ (Rd A).payload (((pv d c : Dev nD) : Thread nD τ), SemLoc.reg barS) 0 d := Entails.of_eq hp.symm
  simp only [semSignalWord, Prog.lift, Prog.bind_op, Prog.bind_ret]
  unfold ow
  iintro ⟨#HR, Hs, Hrr, ⟨%W, HO⟩, Ht, Hr⟩ Hk
  iapply (core W) $$ [Hs Hrr HO Ht Hr]
  · isplitr; · iapply (inv_at A K (pv d c) .bar); iexact HR
    isplitl [HO]; · iexact HO
    isplitl [Ht]; · iexact Ht
    isplitl [Hs Hrr]
    · iapply hp'; isplitl [Hs] <;> iassumption
    iexact Hr
  iintro HO
  iapply Hk
  iexists W; iexact HO

/-- The wait at the barrier: both neighbours' slots 1 are this device's to write. -/
theorem wp_gate (K : Dev nD × Kind → ℕ) (c : Dev nD) (O : CellTallies nD τ sig ℕ)
    {α : Type} {k : PUnit → KProg F α} {Q : α → sProp 𝕄} :
    iprop(recs A K ∗ cred (tallyAt (cell c .bar) 1 2) ∗ ow c O ∗ MayWait (c : Thread nD τ) (ksem .bar) 1 O ∗ pos c .bar 0)
      ⊢ iprop((iprop(ow c O ∗ pos c .bar 1 ∗ payK A c .bar 0 false ∗ payK A c .bar 0 true)
          -∗ wp frame (wpE defs₀ 𝒱₀ (c : Thread nD τ) none) Set.univ (k ⟨⟩) Q)
        -∗ wp frame (wpE defs₀ 𝒱₀ (c : Thread nD τ) none) Set.univ (semWaitWord barS 2#32 >>= k) Q) := by
  have core (W) := Rounds.wp_wait_rest_token (Γ := .empty) (defs := defs₀) 𝒱₀ ER (Rd A) (c : Thread nD τ) none (κ := K (c, .bar)) (sm := ksem .bar) (k' := 2)
      (w := .semWait barS (2#32).toNat) (fun P => wpE_semWait_eq 𝒱₀ (c : Thread nD τ) none Set.univ P) (Es := Set.univ) (Set.mem_univ _) 1 (O := O) (W := W) (R := 0) (m := 0) (T := ∅)
      (by rw [Nat.zero_add, Rd_expect_bar A c]) (k := k) (Q := Q)
  simp only [semWaitWord, Prog.lift, Prog.bind_op, Prog.bind_ret]
  unfold ow pos
  iintro ⟨#HR, Hc, ⟨%W, HO⟩, HM, Hat, -⟩ Hk
  iapply (core W) $$ [Hc HO HM Hat]
  · isplitr; · iapply (inv_at A K c .bar); iexact HR
    isplitl [Hc]; · iexact Hc
    isplitl [HO]; · iexact HO
    isplitl [HM]; · iexact HM
    iexact Hat
  iintro ⟨HO, Hat, Hr, Hpay⟩
  iapply Hk
  isplitl [HO]; · iexists _; iexact HO
  isplitl [Hat Hr]; · isplitl [Hat] <;> iassumption
  iapply (Entails.of_eq (Rd_rest_bar A c)); iexact Hpay

/-- A device's own rows of `A`. -/
def aHas (c : Dev nD) (X : S4096x2048.Idx → Elt F .bf16) : sProp 𝕄 := iprop(aM.view.loc (c : Thread nD τ) ↦{fullShare} X)

/-- The load of one half of a device's rows into slot 0. -/
theorem wp_half (d : Bool) (c : Dev nD) (X : S4096x2048.Idx → Elt F .bf16) (O : CellTallies nD τ sig ℕ)
    {α : Type} {k : PUnit → KProg F α} {Q : α → sProp 𝕄} :
    iprop(aHas c X ∗ slotAny d 0 c ∗ semVal ((c : Thread nD τ), SemLoc.dma loadS) 0 ∗ ow c O ∗ MayWait (c : Thread nD τ) (SemLoc.dma loadS) 0 O)
      ⊢ iprop((iprop(aHas c X ∗ slotHas d 0 fullShare c (halfOf d X) ∗ semVal ((c : Thread nD τ), SemLoc.dma loadS) 0 ∗ ow c O)
          -∗ wp frame (wpE defs₀ 𝒱₀ (c : Thread nD τ) none) Set.univ (k ⟨⟩) Q)
        -∗ wp frame (wpE defs₀ 𝒱₀ (c : Thread nD τ) none) Set.univ (loadP d >>= k) Q) := by
  have hset : (halfM d).view.set ⊆ (Finset.univ : Finset (Idx (aM.view.loc (c : Thread nD τ)))) := Finset.subset_univ _
  have carve : (aHas c X : sProp 𝕄) ⊣⊢ iprop(((halfM d).view.loc (c : Thread nD τ) ↦[(halfM d).view.set]{fullShare} X)
      ∗ (aM.view.loc (c : Thread nD τ) ↦[Finset.univ \ (halfM d).view.set]{fullShare} X)) := pointsTo_split_subset hset
  have core (fd : Buf (Elt F) ((slotM d 0).view.loc (c : Thread nD τ))) {k' : PUnit → KProg F α} : iprop(((halfM d).view.loc (c : Thread nD τ) ↦[(halfM d).view.set]{fullShare} X) ∗ ((slotM d 0).view.loc (c : Thread nD τ) ↦[(slotM d 0).view.set]{fullShare} fd)
        ∗ semVal ((c : Thread nD τ), SemLoc.dma loadS) 0)
      ⊢ iprop((Flight EC (c : Thread nD τ) (.dma loadS) 0 NS iprop(((slotM d 0).view.loc (c : Thread nD τ) ↦[(slotM d 0).view.set]{fullShare} ((slotM d 0).view.write (Elt F) fd ((halfM d).view.read (Elt F) X) Finset.univ))
                                    ∗ ((halfM d).view.loc (c : Thread nD τ) ↦[(halfM d).view.set]{fullShare} X))
              -∗ wp frame (wpE defs₀ 𝒱₀ (c : Thread nD τ) none) Set.univ (k' ⟨⟩) Q)
          -∗ wp frame (wpE defs₀ 𝒱₀ (c : Thread nD τ) none) Set.univ (.op (.enqueueDma (halfM d) (.here (slotM d 0)) (.dma loadS) (halfM_exact d) (slotM_exact d 0) ⟨Or.inl rfl, trivial⟩) k') Q) :=
    wp_dmaLocal EC 𝒱₀ (c : Thread nD τ) none (src := halfM d) (via := .same) (dst := slotM d 0) (sm := SemLoc.dma loadS) (q := fullShare) (fs := X) (Sd := (slotM d 0).view.set) (fd := fd)
      0 NS (credit_slot d 0) NS_pos (Finset.Subset.refl _)
  have hr (fd) : (slotM d 0).view.read (Elt F) ((slotM d 0).view.write (Elt F) fd ((halfM d).view.read (Elt F) X) Finset.univ) = halfOf d X := View.read_write_univ _ _
  unfold loadP
  simp only [Prog.lift, Prog.bind_op, Prog.bind_ret]
  unfold ow slotAny slotHas
  iintro ⟨Ha, ⟨%fd, Hs⟩, Hv, ⟨%W, HO⟩, HM⟩ Hk
  ihave Ha := carve.1 $$ Ha
  icases Ha with ⟨Hh, Hrest⟩
  iapply (core fd) $$ [Hh Hs Hv]
  · isplitl [Hh]; · iexact Hh
    isplitl [Hs] <;> iassumption
  iintro Hf
  iapply (wp_waitLocalO EC 𝒱₀ (c : Thread nD τ) none (sem := loadS) 0 (N := NS) (credit_slot d 0)) $$ [Hf HO HM]
  · isplitl [Hf]; · iexact Hf
    isplitl [HO] <;> iassumption
  iintro ⟨⟨Hs, Hh⟩, Hv, HO⟩
  iapply Hk
  isplitl [Hh Hrest]
  · iapply carve.2; isplitl [Hh] <;> iassumption
  isplitl [Hs]
  · iexists _; isplitr; · ipureintro; exact hr fd
    iexact Hs
  isplitl [Hv]; · iexact Hv
  iexists _; iexact HO

end Cert.KernelIdeal.Ring
-- ==== Proof.Tile.lean ====
/- One half-block's product: the specification of a tile, of the loop over the eight tiles, and of the waits that end it. -/
module

public import proofs.«01_k».proof.Proof.Base

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-- The tile waits for its staging slot's last store from the third tile on. -/
theorem cond_iff (t : Fin 8) : k0_cond1 t = 1#1 ↔ 2 ≤ t.val := by
  fin_cases t <;> decide +kernel

/-- A tile's store pays one amount wherever the tile lies. -/
theorem amount_tile (o : Fin 2 → Nat) (i : ∀ a, o a + S256x4096.size a ≤ S32768x4096.size a) :
    (oM.slice (Rect.unit (s := S32768x4096) o S256x4096.size i) (fun _ => rfl)).view.dmaCredit = NT := rfl
/-- That amount is positive. -/
theorem NT_pos : 0 < NT := View.dmaCredit_pos _ (by decide +kernel)

/-- What the loop over a half-block's tiles keeps: after `t` tiles the rows of all but the last two stores are
    done, the last two stores may be under way, and the rows from tile `t` on are as they were. -/
def tileI (d : Bool) (s : Fin 2) (q : PosShare TreeShare) (c : Dev nD) (X : S2048x2048.Idx → Elt F .bf16) (B : S2048x4096.Idx → Elt F .bf16) (b : ℕ)
    (G : S32768x4096.Idx → Elt F .bf16) (O : CellTallies nD τ sig ℕ) (t : ℕ) : sProp 𝕄 :=
  iprop(slotHas d s q c X ∗ bHas c B ∗ ow c O ∗ MayWaits (c : Thread nD τ) 0 O ∗ stgHold c b G t ∗ stgHold c b G (t + 1)
    ∗ outAny c (b + 256 * t) (256 * (8 - t)) ∗ outRows c b (256 * (t - 2)) G)

/-- Waiting for a staging slot's last store, when there is one, frees the slot and finishes the store's rows. -/
theorem wp_tile_wait (d : Bool) (s : Fin 2) (c : Dev nD) (b : ℕ) (G : S32768x4096.Idx → Elt F .bf16) (O : CellTallies nD τ sig ℕ)
    (t : Fin 8) (a : TileArgs) (ha : a.Is s b t) {Q : Unit → sProp 𝕄} :
    iprop(ow c O ∗ MayWaits (c : Thread nD τ) 0 O ∗ stgHold c b G t.val ∗ outRows c b (256 * (t.val - 2)) G)
      ⊢ iprop((iprop(ow c O ∗ stgIdle c (sl t.val) ∗ outRows c b (256 * (t.val + 1 - 2)) G) -∗
          wp frame (wpE defs₀ 𝒱₀ (c : Thread nD τ) none) Set.univ (tileWorkP d a) Q) -∗
        wp frame (wpE defs₀ 𝒱₀ (c : Thread nD τ) none) Set.univ (tileP d a) Q) := by
  obtain ⟨cond, o1, i1, o2, i2, w2, o3, i3, w3, o4, i4, o5, i5, p5, o6, i6, o7, i7, w7, o8, i8, w8⟩ := a
  obtain ⟨h0, h1, h4, h5, h6, h7, h8⟩ := ha
  simp only at h0 h1 h4 h5 h6 h7 h8
  subst h0 h1
  unfold tileP
  by_cases ht : 2 ≤ t.val
  · rw [dif_pos ((cond_iff t).mpr ht)]
    unfold stgHold ow
    rw [if_neg (by omega)]
    unfold stgFlight
    simp only [Prog.lift, Prog.bind_op, Prog.bind_ret, Prog.pure_eq_ret]
    iintro ⟨⟨%W, Ho⟩, #Hmw, Hst, Hdone⟩ Hk
    iapply (wp_waitLocalO EC 𝒱₀ (c : Thread nD τ) none (sem := stgS (sl t.val)) 0 (N := NT) (amount_tile o2 (i2 ((cond_iff t).mpr ht)))) $$ [Hst Ho]
    · isplitl [Hst]; · iexact Hst
      isplitl [Ho]; · iexact Ho
      iapply (MayWaits.elim (SemLoc.dma (stgS (sl t.val)))); iexact Hmw
    iintro ⟨⟨Hrows, Hstg⟩, Hsem, Ho⟩
    iapply Hk
    isplitl [Ho]; · iexists _; iexact Ho
    isplitl [Hstg Hsem]
    · unfold stgIdle; isplitl [Hstg] <;> iassumption
    rw [show 256 * (t.val + 1 - 2) = 256 * (t.val - 2) + 256 from by omega]
    iapply (outRows_append c b (256 * (t.val - 2)) 256 G).2
    isplitl [Hdone] <;> iassumption
  · rw [dif_neg (fun h => ht ((cond_iff t).mp h))]
    unfold stgHold
    rw [if_pos (by omega), show 256 * (t.val + 1 - 2) = 256 * (t.val - 2) from by omega]
    iintro ⟨Ho, -, Hst, Hdone⟩ Hk
    iapply Hk
    isplitl [Ho]; · iexact Ho
    isplitl [Hst] <;> iassumption

/-- The load of all of `B`. -/
theorem read_b (B : S2048x4096.Idx → Elt F .bf16) (i) :
    bM.view.readAt (Elt F) (Rect.unit (s := S2048x4096) ![0, 0] S2048x4096.size i).toLoadRect B = B := by
  funext j
  refine congrArg B ?_
  funext a
  apply Fin.ext
  match a with
  | ⟨0, _⟩ => show 0 + 1 * (j 0).val = (j 0).val; omega
  | ⟨1, _⟩ => show 0 + 1 * (j 1).val = (j 1).val; omega

/-- A tile's load reads its rows of the slot. -/
theorem wp_load_slot (d : Bool) (s : Fin 2) (q : PosShare TreeShare) (c : Dev nD) (X : S2048x2048.Idx → Elt F .bf16) (t : Fin 8)
    (o : Fin 3 → Nat) (i : ∀ a, o a + S1x256x2048.size a ≤ S2x2048x2048.size a) (ho : o = ![s.val, 256 * t.val, 0])
    {k : Vec F S1x256x2048 .bf16 → KProg F Unit} {hl : (commM d).view.LoadsAt (Rect.unit (s := S2x2048x2048) o S1x256x2048.size i).toLoadRect} {Q : Unit → sProp 𝕄} :
    (slotHas d s q c X : sProp 𝕄) ⊢ iprop((slotHas d s q c X -∗ wp frame (wpE defs₀ 𝒱₀ (c : Thread nD τ) none) Set.univ (k (xTile X t)) Q)
      -∗ wp frame (wpE defs₀ 𝒱₀ (c : Thread nD τ) none) Set.univ (.op (.load (commM d) (Rect.unit (s := S2x2048x2048) o S1x256x2048.size i).toLoadRect hl) k) Q) := by
  have h (f) (hX : (slotM d s).view.read (Elt F) f = X) :
      ((slotM d s).view.loc (c : Thread nD τ) ↦[(slotM d s).view.set]{q} f : sProp 𝕄)
        ⊢ iprop((((slotM d s).view.loc (c : Thread nD τ) ↦[(slotM d s).view.set]{q} f) -∗ wp frame (wpE defs₀ 𝒱₀ (c : Thread nD τ) none) Set.univ (k (xTile X t)) Q)
          -∗ wp frame (wpE defs₀ 𝒱₀ (c : Thread nD τ) none) Set.univ (.op (.load (commM d) (Rect.unit (s := S2x2048x2048) o S1x256x2048.size i).toLoadRect hl) k) Q) := by
    rw [← read_xTile d s t o i ho f X hX]
    exact wp_load 𝒱₀ (c : Thread nD τ) none Set.univ (m := commM d) (load_slot d s t o i ho)
  unfold slotHas
  iintro ⟨%f, %hX, Hs⟩ Hk
  iapply (h f hX) $$ Hs
  iintro Hs
  iapply Hk
  iexists f
  isplitr; · ipureintro; exact hX
  iexact Hs

/-- A load through a staging slot leaves it as it is. -/
theorem wp_load_stg (p : Fin 2) (c : Dev nD) (o : Fin 3 → Nat) (i : ∀ a, o a + S1x256x4096.size a ≤ S2x256x4096.size a) (ho : o = ![p.val, 0, 0])
    {k : Vec F S1x256x4096 .bf16 → KProg F Unit} {hl : gM.view.LoadsAt (Rect.unit (s := S2x256x4096) o S1x256x4096.size i).toLoadRect} {Q : Unit → sProp 𝕄} :
    (stgAny (F := F) c p : sProp 𝕄) ⊢ iprop((∀ w, stgAny (F := F) c p -∗ wp frame (wpE defs₀ 𝒱₀ (c : Thread nD τ) none) Set.univ (k w) Q)
      -∗ wp frame (wpE defs₀ 𝒱₀ (c : Thread nD τ) none) Set.univ (.op (.load gM (Rect.unit (s := S2x256x4096) o S1x256x4096.size i).toLoadRect hl) k) Q) := by
  have h (g) : ((stgM p).view.loc (c : Thread nD τ) ↦[(stgM p).view.set]{fullShare} g : sProp 𝕄)
        ⊢ iprop((((stgM p).view.loc (c : Thread nD τ) ↦[(stgM p).view.set]{fullShare} g) -∗ wp frame (wpE defs₀ 𝒱₀ (c : Thread nD τ) none) Set.univ (k (gM.view.readAt (Elt F) (Rect.unit (s := S2x256x4096) o S1x256x4096.size i).toLoadRect g)) Q)
          -∗ wp frame (wpE defs₀ 𝒱₀ (c : Thread nD τ) none) Set.univ (.op (.load gM (Rect.unit (s := S2x256x4096) o S1x256x4096.size i).toLoadRect hl) k) Q) :=
    wp_load 𝒱₀ (c : Thread nD τ) none Set.univ (m := gM) (S := stgSet p) (by
      refine Finset.Subset.trans ?_ (access_stg p o i ho)
      intro j hj
      obtain ⟨j', hj', rfl⟩ := Finset.mem_map.mp hj
      exact hj')
  unfold stgAny
  iintro ⟨%g, Hg⟩ Hk
  iapply (h g) $$ Hg
  iintro Hg
  iapply Hk
  iexists g; iexact Hg

/-- A store through a staging slot puts there what its store to the result reads. -/
theorem wp_store_stg (p : Fin 2) (c : Dev nD) (o o' : Fin 3 → Nat) (i : ∀ a, o a + S1x256x4096.size a ≤ S2x256x4096.size a)
    (i' : ∀ a, o' a + S1x256x4096.size a ≤ S2x256x4096.size a) (ho : o = ![p.val, 0, 0]) (ho' : o' = ![p.val, 0, 0])
    (X : S2048x2048.Idx → Elt F .bf16) (B : S2048x4096.Idx → Elt F .bf16) (t : Fin 8)
    {k : PUnit → KProg F Unit} {hx : (gM.access (Rect.unit (s := S2x256x4096) o S1x256x4096.size i)).Stores Finset.univ}
    {hm : (Finset.univ : Finset (Rect.unit (s := S2x256x4096) o S1x256x4096.size i).shape.Idx) = Finset.univ ∨ ∀ a, (Rect.unit (s := S2x256x4096) o S1x256x4096.size i).stride a = 1} {Q : Unit → sProp 𝕄} :
    (stgAny (F := F) c p : sProp 𝕄) ⊢ iprop(((∃ g, ⌜((gM.slice (Rect.unit (s := S2x256x4096) o' S1x256x4096.size i') (fun _ => rfl)).squeeze S256x4096 squeezes_S1x256x4096_S256x4096).view.read (Elt F) g = tileVal X B t⌝
          ∗ (((gM.slice (Rect.unit (s := S2x256x4096) o' S1x256x4096.size i') (fun _ => rfl)).squeeze S256x4096 squeezes_S1x256x4096_S256x4096).view.loc (c : Thread nD τ) ↦[((gM.slice (Rect.unit (s := S2x256x4096) o' S1x256x4096.size i') (fun _ => rfl)).squeeze S256x4096 squeezes_S1x256x4096_S256x4096).view.set]{fullShare} g))
        -∗ wp frame (wpE defs₀ 𝒱₀ (c : Thread nD τ) none) Set.univ (k ⟨⟩) Q)
      -∗ wp frame (wpE defs₀ 𝒱₀ (c : Thread nD τ) none) Set.univ (.op (.store gM (Rect.unit (s := S2x256x4096) o S1x256x4096.size i) (k0_pay1 (xTile X t) B) Finset.univ hx hm) k) Q) := by
  have hr (g : S2x256x4096.Idx → Elt F .bf16) := read_stg p o o' i i' ho ho' g (k0_pay1 (xTile X t) B)
  subst ho'
  have h (g : S2x256x4096.Idx → Elt F .bf16) : ((stgM p).view.loc (c : Thread nD τ) ↦[(stgM p).view.set]{fullShare} g : sProp 𝕄)
        ⊢ iprop((((stgM p).view.loc (c : Thread nD τ) ↦[(stgM p).view.set]{fullShare} ((gM.access (Rect.unit (s := S2x256x4096) o S1x256x4096.size i)).write (Elt F) g (k0_pay1 (xTile X t) B) Finset.univ))
            -∗ wp frame (wpE defs₀ 𝒱₀ (c : Thread nD τ) none) Set.univ (k ⟨⟩) Q)
          -∗ wp frame (wpE defs₀ 𝒱₀ (c : Thread nD τ) none) Set.univ (.op (.store gM (Rect.unit (s := S2x256x4096) o S1x256x4096.size i) (k0_pay1 (xTile X t) B) Finset.univ hx hm) k) Q) :=
    wp_store 𝒱₀ (c : Thread nD τ) none Set.univ (m := gM) (r := Rect.unit (s := S2x256x4096) o S1x256x4096.size i) (Mk := Finset.univ) (S := stgSet p) (by
      refine Finset.Subset.trans ?_ (access_stg p o i ho)
      refine (View.setOn_subset_set _ _).trans ?_
      exact (View.set_slice_whole _ _).subset)
  unfold stgAny
  iintro ⟨%g, Hg⟩ Hk
  iapply (h g) $$ Hg
  iintro Hg
  iapply Hk
  iexists _
  isplitr; · ipureintro; exact hr g
  iexact Hg

/-- The store of a tile, from its staging slot to its rows of the result. -/
theorem wp_store_out (p : Fin 2) (c : Dev nD) (o' : Fin 3 → Nat) (o : Fin 2 → Nat) (i' : ∀ a, o' a + S1x256x4096.size a ≤ S2x256x4096.size a)
    (i : ∀ a, o a + S256x4096.size a ≤ S32768x4096.size a) (b : ℕ) (t : Fin 8) (ho' : o' = ![p.val, 0, 0]) (ho : o = ![b + 256 * t.val, 0])
    (X : S2048x2048.Idx → Elt F .bf16) (B : S2048x4096.Idx → Elt F .bf16) (G : S32768x4096.Idx → Elt F .bf16) (hG : Holds G b X B)
    {hs hd ht} {k : PUnit → KProg F Unit} {Q : Unit → sProp 𝕄} :
    iprop((∃ g, ⌜((gM.slice (Rect.unit (s := S2x256x4096) o' S1x256x4096.size i') (fun _ => rfl)).squeeze S256x4096 squeezes_S1x256x4096_S256x4096).view.read (Elt F) g = tileVal X B t⌝
          ∗ (((gM.slice (Rect.unit (s := S2x256x4096) o' S1x256x4096.size i') (fun _ => rfl)).squeeze S256x4096 squeezes_S1x256x4096_S256x4096).view.loc (c : Thread nD τ) ↦[((gM.slice (Rect.unit (s := S2x256x4096) o' S1x256x4096.size i') (fun _ => rfl)).squeeze S256x4096 squeezes_S1x256x4096_S256x4096).view.set]{fullShare} g))
        ∗ outAny (F := F) c (b + 256 * t.val) 256 ∗ semVal ((c : Thread nD τ), SemLoc.dma (stgS p)) 0)
      ⊢ iprop((stgFlight c p (b + 256 * t.val) G -∗ wp frame (wpE defs₀ 𝒱₀ (c : Thread nD τ) none) Set.univ (k ⟨⟩) Q)
      -∗ wp frame (wpE defs₀ 𝒱₀ (c : Thread nD τ) none) Set.univ
          (.op (.enqueueDma ((gM.slice (Rect.unit (s := S2x256x4096) o' S1x256x4096.size i') (fun _ => rfl)).squeeze S256x4096 squeezes_S1x256x4096_S256x4096)
            (.here (oM.slice (Rect.unit (s := S32768x4096) o S256x4096.size i) (fun _ => rfl))) (.dma (stgS p)) hs hd ht) k) Q) := by
  have hw (f) := write_tile o i b t ho f G X B hG
  have hset := set_tile o i _ ho
  subst ho'
  iintro ⟨⟨%g, %hg, Hg⟩, Hout, Hsem⟩ Hk
  unfold outAny
  icases Hout with ⟨%f, Hout⟩
  have h : iprop(((stgM p).view.loc (c : Thread nD τ) ↦[(stgM p).view.set]{fullShare} g) ∗ outRows c (b + 256 * t.val) 256 f ∗ semVal ((c : Thread nD τ), SemLoc.dma (stgS p)) 0)
    ⊢ iprop((stgFlight c p (b + 256 * t.val) G -∗ wp frame (wpE defs₀ 𝒱₀ (c : Thread nD τ) none) Set.univ (k ⟨⟩) Q)
      -∗ wp frame (wpE defs₀ 𝒱₀ (c : Thread nD τ) none) Set.univ
          (.op (.enqueueDma (stgM p) (.here (oM.slice (Rect.unit (s := S32768x4096) o S256x4096.size i) (fun _ => rfl))) (.dma (stgS p)) hs hd ht) k) Q) := by
    refine (wp_dmaLocal EC 𝒱₀ (c : Thread nD τ) none (src := stgM p) (via := .same) (dst := oM.slice (Rect.unit (s := S32768x4096) o S256x4096.size i) (fun _ => rfl))
      (sm := SemLoc.dma (stgS p)) (q := fullShare) (fs := g) (Sd := rows (b + 256 * t.val) 256) (fd := f) 0 NT rfl NT_pos hset.subset (k := k)).trans
        (wand_mono_left (wand_mono_left ?_))
    unfold stgFlight
    have e : ReadAs.same.apply ((stgM p).view.read (Elt F) g) = tileVal X B t := hg
    have he : ((oM.slice (Rect.unit (s := S32768x4096) o S256x4096.size i) (fun _ => rfl)).view.loc (c : Thread nD τ) ↦[rows (b + 256 * t.val) 256]{fullShare}
        ((oM.slice (Rect.unit (s := S32768x4096) o S256x4096.size i) (fun _ => rfl)).view.write (Elt F) f (ReadAs.same.apply ((stgM p).view.read (Elt F) g)) Finset.univ) : sProp 𝕄)
        ⊢ outRows c (b + 256 * t.val) 256 G := by
      rw [e]
      exact (outRows_congr c (b + 256 * t.val) 256 _ G (hw f)).le
    refine Flight_mono EC _ ?_
    unfold stgAny
    iintro ⟨Hd, Hs⟩
    isplitl [Hd]
    · iapply he $$ Hd
    · iexists g; iexact Hs
  iapply h $$ [Hg Hout Hsem] Hk
  isplitl [Hg]; · iexact Hg
  isplitl [Hout] <;> iassumption

/-- A tile's work, from idle staging: its rows' store is under way when it ends. -/
theorem wp_tile_work (d : Bool) (s : Fin 2) (q : PosShare TreeShare) (c : Dev nD) (X : S2048x2048.Idx → Elt F .bf16) (B : S2048x4096.Idx → Elt F .bf16) (b : ℕ)
    (G : S32768x4096.Idx → Elt F .bf16) (hG : Holds G b X B) (t : Fin 8) (a : TileArgs) (ha : a.Is s b t) {Q : Unit → sProp 𝕄} :
    iprop(slotHas d s q c X ∗ bHas c B ∗ stgIdle c (sl t.val) ∗ outAny (F := F) c (b + 256 * t.val) 256)
      ⊢ iprop((iprop(slotHas d s q c X ∗ bHas c B ∗ stgFlight c (sl t.val) (b + 256 * t.val) G) -∗ Q ⟨⟩) -∗
        wp frame (wpE defs₀ 𝒱₀ (c : Thread nD τ) none) Set.univ (tileWorkP d a) Q) := by
  obtain ⟨cond, o1, i1, o2, i2, w2, o3, i3, w3, o4, i4, o5, i5, p5, o6, i6, o7, i7, w7, o8, i8, w8⟩ := a
  obtain ⟨h0, h1, h4, h5, h6, h7, h8⟩ := ha
  simp only at h0 h1 h4 h5 h6 h7 h8
  subst h6
  unfold tileWorkP stgIdle bHas
  simp only [Prog.lift, Prog.bind_op, Prog.bind_ret, Prog.pure_eq_ret]
  iintro ⟨Hs, Hb, ⟨Hg, Hsem⟩, Hout⟩ Hk
  iapply (wp_load_slot d s q c X t o4 i4 h4) $$ Hs; iintro Hs
  iapply (wp_load 𝒱₀ (c : Thread nD τ) none Set.univ (m := bM) (Finset.subset_univ _)) $$ Hb; iintro Hb
  rw [read_b]
  iapply (wp_load_stg (sl t.val) c o5 i5 h5) $$ Hg; iintro %w Hg
  iapply (wp_store_stg (sl t.val) c o5 o8 i5 i8 h5 h8 X B t) $$ Hg; iintro Hg
  iapply (wp_store_out (sl t.val) c o8 o7 i8 i7 b t h8 h7 X B G hG) $$ [Hg Hout Hsem]
  · isplitl [Hg]; · iexact Hg
    isplitl [Hout] <;> iassumption
  iintro Hf
  rw [wp_ret]; imodintro
  iapply Hk
  isplitl [Hs]; · iexact Hs
  isplitl [Hb] <;> iassumption

/-- One tile takes the loop's state at `t` to its state at `t + 1`. -/
theorem wp_tile (d : Bool) (s : Fin 2) (q : PosShare TreeShare) (c : Dev nD) (X : S2048x2048.Idx → Elt F .bf16) (B : S2048x4096.Idx → Elt F .bf16) (b : ℕ)
    (G : S32768x4096.Idx → Elt F .bf16) (hG : Holds G b X B) (O : CellTallies nD τ sig ℕ) (t : Fin 8) (a : TileArgs) (ha : a.Is s b t) :
    tileI d s q c X B b G O t.val
      ⊢ wp frame (wpE defs₀ 𝒱₀ (c : Thread nD τ) none) Set.univ (tileP d a) (fun _ => tileI d s q c X B b G O (t.val + 1)) := by
  unfold tileI
  have ht := t.isLt
  have hh : stgHold (F := F) c b G (t.val + 1 + 1) = stgFlight c (sl t.val) (b + 256 * t.val) G := by
    unfold stgHold
    rw [if_neg (by omega), sl_add_two]
    exact congrArg (fun k => stgFlight c (sl t.val) (b + 256 * k) G) (by omega)
  have hsplit : outAny (F := F) c (b + 256 * t.val) (256 * (8 - t.val)) ⊢ iprop(outAny (F := F) c (b + 256 * t.val) 256 ∗ outAny (F := F) c (b + 256 * (t.val + 1)) (256 * (8 - (t.val + 1)))) := by
    unfold outAny
    rw [show 256 * (8 - t.val) = 256 + 256 * (8 - (t.val + 1)) from by omega, show b + 256 * (t.val + 1) = b + 256 * t.val + 256 from by omega]
    iintro ⟨%f, H⟩
    ihave H := (outRows_append c (b + 256 * t.val) 256 (256 * (8 - (t.val + 1))) f).1 $$ H
    icases H with ⟨H1, H2⟩
    isplitl [H1] <;> (iexists f; iassumption)
  rw [hh]
  iintro ⟨Hs, Hb, Ho, #Hmw, Hst, Hst', Hrest, Hdone⟩
  iapply (wp_tile_wait d s c b G O t a ha) $$ [Ho Hst Hdone]
  · isplitl [Ho]; · iexact Ho
    isplitr; · iexact Hmw
    isplitl [Hst] <;> iassumption
  iintro ⟨Ho, Hidle, Hdone⟩
  ihave Hrest := hsplit $$ Hrest
  icases Hrest with ⟨Hnow, Hrest⟩
  iapply (wp_tile_work d s q c X B b G hG t a ha) $$ [Hs Hb Hidle Hnow]
  · isplitl [Hs]; · iexact Hs
    isplitl [Hb]; · iexact Hb
    isplitl [Hidle] <;> iassumption
  iintro ⟨Hs, Hb, Hf⟩
  isplitl [Hs]; · iexact Hs
  isplitl [Hb]; · iexact Hb
  isplitl [Ho]; · iexact Ho
  isplitr; · iexact Hmw
  isplitl [Hst']; · iexact Hst'
  isplitl [Hf]; · iexact Hf
  isplitl [Hrest] <;> iassumption

/-- The wait for the last store from a staging slot. -/
theorem wp_drain (p : Fin 2) (c : Dev nD) (b : ℕ) (G : S32768x4096.Idx → Elt F .bf16) (O : CellTallies nD τ sig ℕ) (u : DrainArgs)
    {α : Type} {k : PUnit → KProg F α} {Q : α → sProp 𝕄} :
    iprop(ow c O ∗ MayWaits (c : Thread nD τ) 0 O ∗ stgFlight c p b G)
      ⊢ iprop((iprop(ow c O ∗ stgIdle c p ∗ outRows c b 256 G) -∗ wp frame (wpE defs₀ 𝒱₀ (c : Thread nD τ) none) Set.univ (k ⟨⟩) Q) -∗
        wp frame (wpE defs₀ 𝒱₀ (c : Thread nD τ) none) Set.univ (drainP p u >>= k) Q) := by
  unfold drainP ow stgFlight stgIdle
  simp only [Prog.lift, Prog.bind_op, Prog.bind_ret]
  iintro ⟨⟨%W, Ho⟩, #Hmw, Hst⟩ Hk
  iapply (wp_waitLocalO EC 𝒱₀ (c : Thread nD τ) none (sem := stgS p) 0 (N := NT) (amount_tile u.o u.i)) $$ [Hst Ho]
  · isplitl [Hst]; · iexact Hst
    isplitl [Ho]; · iexact Ho
    iapply (MayWaits.elim (SemLoc.dma (stgS p))); iexact Hmw
  iintro ⟨⟨Hrows, Hstg⟩, Hsem, Ho⟩
  iapply Hk
  isplitl [Ho]; · iexists _; iexact Ho
  isplitl [Hstg Hsem]
  · isplitl [Hstg] <;> iassumption
  iexact Hrows

/-- One half-block's product: the 2048 rows from `b` on come to hold the product of the slot's contents with `B`. -/
theorem wp_product (d : Bool) (s : Fin 2) (q : PosShare TreeShare) (c : Dev nD) (X : S2048x2048.Idx → Elt F .bf16) (B : S2048x4096.Idx → Elt F .bf16) (b : ℕ)
    (G : S32768x4096.Idx → Elt F .bf16) (hG : Holds G b X B) (O : CellTallies nD τ sig ℕ) (a : Fin 8 → TileArgs) (ha : ∀ t, (a t).Is s b t) (u v : DrainArgs)
    {α : Type} {k : PUnit → KProg F α} {Q : α → sProp 𝕄} :
    iprop((slotHas d s q c X ∗ bHas c B ∗ ow c O ∗ stgIdle c 0 ∗ stgIdle c 1 ∗ outAny (F := F) c b 2048) ∗ MayWaits (c : Thread nD τ) 0 O)
      ⊢ iprop((iprop(slotHas d s q c X ∗ bHas c B ∗ ow c O ∗ stgIdle c 0 ∗ stgIdle c 1 ∗ outRows c b 2048 G) -∗
          wp frame (wpE defs₀ 𝒱₀ (c : Thread nD τ) none) Set.univ (k ⟨⟩) Q) -∗
        wp frame (wpE defs₀ 𝒱₀ (c : Thread nD τ) none) Set.univ (productP d a u v >>= k) Q) := by
  have h0 : stgHold (F := F) c b G 0 = stgIdle c 0 := if_pos (by decide)
  have h1 : stgHold (F := F) c b G 1 = stgIdle c 1 := if_pos (by decide)
  have h8 : stgHold (F := F) c b G 8 = stgFlight c 0 (b + 256 * 6) G := if_neg (by decide)
  have h9 : stgHold (F := F) c b G 9 = stgFlight c 1 (b + 256 * 7) G := if_neg (by decide)
  unfold productP tilesP
  simp only [Prog.bind_assoc]
  iintro ⟨⟨Hs, Hb, Ho, Hi0, Hi1, Hout⟩, #Hmw⟩ Hk
  iapply (Scf.wp_for_bind _ (wpE defs₀ 𝒱₀ (c : Thread nD τ) none) Set.univ _ _ _ k0_t1_ok ⟨⟩ (fun t _ => tileP d (a t))
    (fun t _ => tileI d s q c X B b G O t) (fun t _ => wp_tile d s q c X B b G hG O t (a t) (ha t))) $$ [Hs Hb Ho Hi0 Hi1 Hout]
  · unfold tileI
    rw [h0, h1]
    isplitl [Hs]; · iexact Hs
    isplitl [Hb]; · iexact Hb
    isplitl [Ho]; · iexact Ho
    isplitr; · iexact Hmw
    isplitl [Hi0]; · iexact Hi0
    isplitl [Hi1]; · iexact Hi1
    isplitl [Hout]; · iexact Hout
    iapply (outRows_zero c b G).2
    iempintro
  iintro %acc HI
  have hI : tileI d s q c X B b G O (Scf.trips k0_t1_loop.lb k0_t1_loop.ub k0_t1_loop.st) ⊢ iprop(slotHas d s q c X ∗ bHas c B ∗ ow c O ∗ stgFlight c 0 (b + 256 * 6) G ∗ stgFlight c 1 (b + 256 * 7) G ∗ outRows c b (256 * 6) G) := by
    rw [show Scf.trips k0_t1_loop.lb k0_t1_loop.ub k0_t1_loop.st = 8 from by decide +kernel]
    unfold tileI
    rw [h8, h9]
    iintro ⟨Hs, Hb, Ho, -, Hf, Hf', -, Hd⟩
    isplitl [Hs]; · iexact Hs
    isplitl [Hb]; · iexact Hb
    isplitl [Ho]; · iexact Ho
    isplitl [Hf]; · iexact Hf
    isplitl [Hf'] <;> iassumption
  ihave HI := hI $$ HI
  icases HI with ⟨Hs, Hb, Ho, Hf, Hf', Hd⟩
  iapply (wp_drain 0 c (b + 256 * 6) G O u) $$ [Ho Hf]
  · isplitl [Ho]; · iexact Ho
    isplitr; · iexact Hmw
    iexact Hf
  iintro ⟨Ho, Hi0, Hd'⟩
  iapply (wp_drain 1 c (b + 256 * 7) G O v) $$ [Ho Hf']
  · isplitl [Ho]; · iexact Ho
    isplitr; · iexact Hmw
    iexact Hf'
  iintro ⟨Ho, Hi1, Hd''⟩
  iapply Hk
  isplitl [Hs]; · iexact Hs
  isplitl [Hb]; · iexact Hb
  isplitl [Ho]; · iexact Ho
  isplitl [Hi0]; · iexact Hi0
  isplitl [Hi1]; · iexact Hi1
  iapply (outRows_append c b (256 * 7) 256 G).2
  isplitr [Hd'']
  · iapply (outRows_append c b (256 * 6) 256 G).2
    isplitl [Hd] <;> iassumption
  iexact Hd''

end Cert.KernelIdeal.Ring
-- ==== Proof.Hop.lean ====
/- One hop of the ring, in both directions, and the credits between two hops. -/
module

public import proofs.«01_k».proof.Proof.Entry
public import proofs.«01_k».proof.Proof.Tile

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (A : Dev nD → S4096x2048.Idx → Elt F .bf16)

/-- The first row of the result that direction `d`'s product at hop `h` writes on device `c`. -/
def base (d : Bool) (h : ℕ) (c : Dev nD) : ℕ := 4096 * (org d h c).val + bif d then 2048 else 0

/-- What direction `d` has on device `c` before hop `h`: its own slot with the chunk to send, the next device's slot
    to send it to, and how far each of its cells is. -/
def DirPre (d : Bool) (h : ℕ) (c : Dev nD) : sProp 𝕄 :=
  iprop(slotHas d (sl h) fullShare c (chunk A d h c) ∗ slotAny d (sl (h + 1)) (nx d c) ∗ reached ER (cell (nx d c) (.recv d (sl (h + 1)))) (h / 2)
    ∗ pos c (.send d (sl h)) (h / 2) ∗ pos c (.send d (sl (h + 1))) ((h + 1) / 2) ∗ pos c (.recv d (sl (h + 1))) (h / 2) ∗ pos c (.recv d (sl h)) ((h + 1) / 2)
    ∗ pos c (.cred d (sl h)) (h / 2) ∗ pos c (.cred d (sl (h + 1))) ((h + 1) / 2))
/-- The same between hop `h` and its credits: both slots are its own, with the chunk sent and the one that arrived. -/
def DirMid (d : Bool) (h : ℕ) (c : Dev nD) : sProp 𝕄 :=
  iprop(slotHas d (sl h) fullShare c (chunk A d h c) ∗ slotHas d (sl (h + 1)) fullShare c (chunk A d (h + 1) c) ∗ reached ER (cell (pv d c) (.cred d (sl h))) (h / 2)
    ∗ pos c (.send d (sl h)) (h / 2 + 1) ∗ pos c (.send d (sl (h + 1))) ((h + 1) / 2) ∗ pos c (.recv d (sl (h + 1))) (h / 2 + 1) ∗ pos c (.recv d (sl h)) ((h + 1) / 2)
    ∗ pos c (.cred d (sl h)) (h / 2) ∗ pos c (.cred d (sl (h + 1))) ((h + 1) / 2))
/-- Before the next hop, with this hop's slots. -/
theorem dirPre_succ (d : Bool) (h : ℕ) (c : Dev nD) : DirPre A d (h + 1) c =
    iprop(slotHas d (sl (h + 1)) fullShare c (chunk A d (h + 1) c) ∗ slotAny d (sl h) (nx d c) ∗ reached ER (cell (nx d c) (.recv d (sl h))) ((h + 1) / 2)
      ∗ pos c (.send d (sl (h + 1))) ((h + 1) / 2) ∗ pos c (.send d (sl h)) (h / 2 + 1) ∗ pos c (.recv d (sl h)) ((h + 1) / 2) ∗ pos c (.recv d (sl (h + 1))) (h / 2 + 1)
      ∗ pos c (.cred d (sl (h + 1))) ((h + 1) / 2) ∗ pos c (.cred d (sl h)) (h / 2 + 1)) := by
  unfold DirPre
  rw [show sl (h + 1 + 1) = sl h from sl_add_two h, show (h + 1 + 1) / 2 = h / 2 + 1 from by omega]

/-- What a device needs to send at hop `h` and to wait for what arrives. -/
def sendTok (c : Dev nD) (d : Bool) (h : ℕ) : sProp 𝕄 :=
  iprop(dutyTok ER (cell c (.send d (sl h))) (h / 2) false ∗ dutyTok ER (cell (nx d c) (.recv d (sl (h + 1)))) (h / 2) false
    ∗ cred (tallyAt (cell c (.recv d (sl (h + 1)))) (2 * h + 3) NS))
/-- What a device needs to give credit after hop `h` and to wait for its own. -/
def credTok (c : Dev nD) (d : Bool) (h : ℕ) : sProp 𝕄 :=
  iprop(dutyTok ER (cell (pv d c) (.cred d (sl h))) (h / 2) false ∗ cred (tallyAt (cell c (.cred d (sl h))) (2 * h + 4) 1))
/-- What the products use besides the slots. -/
def work (c : Dev nD) (B : S2048x4096.Idx → Elt F .bf16) : sProp 𝕄 := iprop(bHas c B ∗ stgIdle c 0 ∗ stgIdle c 1)

/-- A position's own half and what it has reached. -/
theorem pos_reached (c : Dev nD) (k : Kind) (R : ℕ) : (pos c k R : sProp 𝕄) ⊢ iprop(pos c k R ∗ reached ER (cell c k) R) := by
  unfold pos
  iintro ⟨H, #Hr⟩
  isplitl [H]
  · isplitl [H]; · iexact H
    iexact Hr
  iexact Hr

/-- One direction's send at hop `h`, with what it leaves. -/
theorem wp_send_dir (K : Dev nD × Kind → ℕ) (d : Bool) (h : ℕ) (hh : h ≤ 6) (c n : Dev nD) (hn : n = nx d c) (O : CellTallies nD τ sig ℕ)
    {α : Type} {k : PUnit → KProg F α} {Q : α → sProp 𝕄} :
    iprop(recs A K ∗ DirPre A d h c ∗ sendTok c d h ∗ ow c (O + oweR c d h))
      ⊢ iprop((iprop(slotHas d (sl h) fullShare.right c (chunk A d h c) ∗ ow c O
            ∗ (cred (tallyAt (cell c (.send d (sl h))) 0 NS) ∗ cred (tallyAt (cell c (.recv d (sl (h + 1)))) (2 * h + 3) NS)
              ∗ pos c (.send d (sl h)) (h / 2) ∗ pos c (.send d (sl (h + 1))) ((h + 1) / 2) ∗ pos c (.recv d (sl (h + 1))) (h / 2) ∗ pos c (.recv d (sl h)) ((h + 1) / 2)
              ∗ pos c (.cred d (sl h)) (h / 2) ∗ pos c (.cred d (sl (h + 1))) ((h + 1) / 2)))
          -∗ wp frame (wpE defs₀ 𝒱₀ (c : Thread nD τ) none) Set.univ (k ⟨⟩) Q)
        -∗ wp frame (wpE defs₀ 𝒱₀ (c : Thread nD τ) none) Set.univ (sendP d (sl h) (sl (h + 1)) n >>= k) Q) := by
  unfold DirPre sendTok
  iintro ⟨#HR, ⟨Hs, Hn, #Hrn, P1, P2, P3, P4, P5, P6⟩, ⟨T1, T2, T3⟩, HO⟩ Hk
  ihave P1 := (pos_reached c _ _) $$ P1
  icases P1 with ⟨P1, #R1⟩
  ihave P5 := (pos_reached c _ _) $$ P5
  icases P5 with ⟨P5, #R5⟩
  iapply (wp_send A K d h hh c n hn O) $$ [Hs Hn HO T1 T2]
  · isplitr; · iexact HR
    isplitl [Hs]; · iexact Hs
    isplitl [Hn]; · iexact Hn
    isplitl [HO]; · iexact HO
    isplitl [T1]; · iexact T1
    isplitr; · iexact R1
    isplitl [T2]; · iexact T2
    isplitr; · iexact Hrn
    iexact R5
  iintro ⟨Hc, HO, Hs⟩
  iapply Hk
  isplitl [Hs]; · iexact Hs
  isplitl [HO]; · iexact HO
  isplitl [Hc]; · iexact Hc
  isplitl [T3]; · iexact T3
  isplitl [P1]; · iexact P1
  isplitl [P2]; · iexact P2
  isplitl [P3]; · iexact P3
  isplitl [P4]; · iexact P4
  isplitl [P5] <;> iassumption

/-- One direction's waits at hop `h`. -/
theorem wp_arrive_dir (K : Dev nD × Kind → ℕ) (d : Bool) (h : ℕ) (hh : h ≤ 6) (c : Dev nD)
    {α : Type} {k : PUnit → KProg F α} {Q : α → sProp 𝕄} :
    iprop(recs A K ∗ levAts L lv ∗ slotHas d (sl h) fullShare.right c (chunk A d h c) ∗ ow c (OO (h + 1) h c)
        ∗ (cred (tallyAt (cell c (.send d (sl h))) 0 NS) ∗ cred (tallyAt (cell c (.recv d (sl (h + 1)))) (2 * h + 3) NS)
              ∗ pos c (.send d (sl h)) (h / 2) ∗ pos c (.send d (sl (h + 1))) ((h + 1) / 2) ∗ pos c (.recv d (sl (h + 1))) (h / 2) ∗ pos c (.recv d (sl h)) ((h + 1) / 2)
              ∗ pos c (.cred d (sl h)) (h / 2) ∗ pos c (.cred d (sl (h + 1))) ((h + 1) / 2)))
      ⊢ iprop((iprop(DirMid A d h c ∗ ow c (OO (h + 1) h c)) -∗ wp frame (wpE defs₀ 𝒱₀ (c : Thread nD τ) none) Set.univ (k ⟨⟩) Q)
        -∗ wp frame (wpE defs₀ 𝒱₀ (c : Thread nD τ) none) Set.univ (arriveP d (sl h) (sl (h + 1)) >>= k) Q) := by
  unfold DirMid
  iintro ⟨#HR, #HL, Hs, HO, Hc, T3, P1, P2, P3, P4, P5, P6⟩ Hk
  iapply (wp_arrive A K d h hh c (OO (h + 1) h c)) $$ [Hc T3 HO P1 P3]
  · isplitr; · iexact HR
    isplitl [Hc]; · iexact Hc
    isplitl [T3]; · iexact T3
    isplitl [HO]; · iexact HO
    isplitr; · iapply (mayWait c (ksem (.send d (sl h))) (ι := 0) (a := h + 1) (b := h) (by omega) (by omega) (by omega)); iexact HL
    isplitr; · iapply (mayWait c (ksem (.recv d (sl (h + 1)))) (ι := 2 * h + 3) (a := h + 1) (b := h) (by omega) (by omega) (by omega)); iexact HL
    isplitl [P1] <;> iassumption
  iintro ⟨HO, P1, P3, Hl, Hn, Hr⟩
  iapply Hk
  isplitr [HO]
  · isplitl [Hs Hl]
    · iapply (slot_join d (sl h) c (chunk A d h c) (chunk A d h c)); isplitl [Hl] <;> iassumption
    isplitl [Hn]; · iexact Hn
    isplitl [Hr]; · iexact Hr
    isplitl [P1]; · iexact P1
    isplitl [P2]; · iexact P2
    isplitl [P3]; · iexact P3
    isplitl [P4]; · iexact P4
    isplitl [P5] <;> iassumption
  iexact HO

/-- A half-block's product in both directions, each from its slot at its share. -/
theorem wp_products (s : Fin 2) (q : PosShare TreeShare) (c : Dev nD) (X Y : S2048x2048.Idx → Elt F .bf16) (B : S2048x4096.Idx → Elt F .bf16) (b b' : ℕ)
    (G : S32768x4096.Idx → Elt F .bf16) (hG : Holds G b X B) (hG' : Holds G b' Y B) (O : CellTallies nD τ sig ℕ)
    (a a' : Fin 8 → TileArgs) (ha : ∀ t, (a t).Is s b t) (ha' : ∀ t, (a' t).Is s b' t) (u v w z : DrainArgs)
    {α : Type} {k : PUnit → KProg F α} {Q : α → sProp 𝕄} :
    iprop(MayWaits (c : Thread nD τ) 0 O ∗ slotHas false s q c X ∗ slotHas true s q c Y ∗ work c B ∗ ow c O ∗ outAny (F := F) c b 2048 ∗ outAny (F := F) c b' 2048)
      ⊢ iprop((iprop(slotHas false s q c X ∗ slotHas true s q c Y ∗ work c B ∗ ow c O ∗ outRows c b 2048 G ∗ outRows c b' 2048 G)
          -∗ wp frame (wpE defs₀ 𝒱₀ (c : Thread nD τ) none) Set.univ (k ⟨⟩) Q)
        -∗ wp frame (wpE defs₀ 𝒱₀ (c : Thread nD τ) none) Set.univ (productsP a a' u v w z >>= k) Q) := by
  unfold productsP work
  simp only [Prog.bind_assoc]
  iintro ⟨#HM, Hs, Hs', ⟨Hb, Hi, Hi'⟩, HO, Ho, Ho'⟩ Hk
  iapply (wp_product false s q c X B b G hG O a ha u v) $$ [Hs Hb HO Hi Hi' Ho]
  · isplitl
    · isplitl [Hs]; · iexact Hs
      isplitl [Hb]; · iexact Hb
      isplitl [HO]; · iexact HO
      isplitl [Hi]; · iexact Hi
      isplitl [Hi'] <;> iassumption
    iexact HM
  iintro ⟨Hs, Hb, HO, Hi, Hi', Ho⟩
  iapply (wp_product true s q c Y B b' G hG' O a' ha' w z) $$ [Hs' Hb HO Hi Hi' Ho']
  · isplitl
    · isplitl [Hs']; · iexact Hs'
      isplitl [Hb]; · iexact Hb
      isplitl [HO]; · iexact HO
      isplitl [Hi]; · iexact Hi
      isplitl [Hi'] <;> iassumption
    iexact HM
  iintro ⟨Hs', Hb, HO, Hi, Hi', Ho'⟩
  iapply Hk
  isplitl [Hs]; · iexact Hs
  isplitl [Hs']; · iexact Hs'
  isplitl [Hb Hi Hi']
  · isplitl [Hb]; · iexact Hb
    isplitl [Hi] <;> iassumption
  isplitl [HO]; · iexact HO
  isplitl [Ho] <;> iassumption

/-- One hop in both directions. -/
theorem wp_hop (K : Dev nD × Kind → ℕ) (h : ℕ) (hh : h ≤ 6) (c p q : Dev nD) (hp : p = nx false c) (hq : q = nx true c)
    (B : S2048x4096.Idx → Elt F .bf16) (G : S32768x4096.Idx → Elt F .bf16) (hG : ∀ d, Holds G (base d h c) (chunk A d h c) B)
    (a a' : Fin 8 → TileArgs) (ha : ∀ t, (a t).Is (sl h) (base false h c) t) (ha' : ∀ t, (a' t).Is (sl h) (base true h c) t) (u v w z : DrainArgs)
    {α : Type} {k : PUnit → KProg F α} {Q : α → sProp 𝕄} :
    iprop(recs A K ∗ levAts L lv ∗ (DirPre A false h c ∗ DirPre A true h c) ∗ (sendTok c false h ∗ sendTok c true h) ∗ work c B ∗ ow c (OO h h c)
        ∗ outAny (F := F) c (base false h c) 2048 ∗ outAny (F := F) c (base true h c) 2048)
      ⊢ iprop((iprop((DirMid A false h c ∗ DirMid A true h c) ∗ work c B ∗ ow c (OO (h + 1) h c) ∗ outRows c (base false h c) 2048 G ∗ outRows c (base true h c) 2048 G)
          -∗ wp frame (wpE defs₀ 𝒱₀ (c : Thread nD τ) none) Set.univ (k ⟨⟩) Q)
        -∗ wp frame (wpE defs₀ 𝒱₀ (c : Thread nD τ) none) Set.univ (hopP (sl h) (sl (h + 1)) p q a a' u v w z >>= k) Q) := by
  unfold hopP
  simp only [Prog.bind_assoc]
  rw [OO_send h c hh]
  iintro ⟨#HR, #HL, ⟨D, D'⟩, ⟨T, T'⟩, Hw, HO, Ho, Ho'⟩ Hk
  iapply (wp_send_dir A K false h hh c p hp (OO (h + 1) h c + oweR c true h)) $$ [D T HO]
  · isplitr; · iexact HR
    isplitl [D]; · iexact D
    isplitl [T] <;> iassumption
  iintro ⟨Hs, HO, D⟩
  iapply (wp_send_dir A K true h hh c q hq (OO (h + 1) h c)) $$ [D' T' HO]
  · isplitr; · iexact HR
    isplitl [D']; · iexact D'
    isplitl [T'] <;> iassumption
  iintro ⟨Hs', HO, D'⟩
  iapply (wp_products (sl h) fullShare.right c (chunk A false h c) (chunk A true h c) B (base false h c) (base true h c) G (hG false) (hG true) (OO (h + 1) h c) a a' ha ha' u v w z)
    $$ [Hs Hs' Hw HO Ho Ho']
  · isplitr; · iapply (mayWaits c (h + 1) h); iexact HL
    isplitl [Hs]; · iexact Hs
    isplitl [Hs']; · iexact Hs'
    isplitl [Hw]; · iexact Hw
    isplitl [HO]; · iexact HO
    isplitl [Ho] <;> iassumption
  iintro ⟨Hs, Hs', Hw, HO, Ho, Ho'⟩
  iapply (wp_arrive_dir A K false h hh c) $$ [Hs HO D]
  · isplitr; · iexact HR
    isplitr; · iexact HL
    isplitl [Hs]; · iexact Hs
    isplitl [HO] <;> iassumption
  iintro ⟨D, HO⟩
  iapply (wp_arrive_dir A K true h hh c) $$ [Hs' HO D']
  · isplitr; · iexact HR
    isplitr; · iexact HL
    isplitl [Hs']; · iexact Hs'
    isplitl [HO] <;> iassumption
  iintro ⟨D', HO⟩
  iapply Hk
  isplitl [D D']; · isplitl [D] <;> iassumption
  isplitl [Hw]; · iexact Hw
  isplitl [HO]; · iexact HO
  isplitl [Ho] <;> iassumption

/-- One direction's credit after hop `h`. -/
theorem wp_credit_dir (K : Dev nD × Kind → ℕ) (d : Bool) (h : ℕ) (hh : h ≤ 5) (c n : Dev nD) (hn : n = pv d c) (O : CellTallies nD τ sig ℕ)
    {α : Type} {k : PUnit → KProg F α} {Q : α → sProp 𝕄} :
    iprop(recs A K ∗ DirMid A d h c ∗ credTok c d h ∗ ow c (O + oweC c d h))
      ⊢ iprop((iprop(ow c O ∗ (slotHas d (sl (h + 1)) fullShare c (chunk A d (h + 1) c) ∗ cred (tallyAt (cell c (.cred d (sl h))) (2 * h + 4) 1)
              ∗ pos c (.send d (sl h)) (h / 2 + 1) ∗ pos c (.send d (sl (h + 1))) ((h + 1) / 2) ∗ pos c (.recv d (sl (h + 1))) (h / 2 + 1) ∗ pos c (.recv d (sl h)) ((h + 1) / 2)
              ∗ pos c (.cred d (sl h)) (h / 2) ∗ pos c (.cred d (sl (h + 1))) ((h + 1) / 2)))
          -∗ wp frame (wpE defs₀ 𝒱₀ (c : Thread nD τ) none) Set.univ (k ⟨⟩) Q)
        -∗ wp frame (wpE defs₀ 𝒱₀ (c : Thread nD τ) none) Set.univ (creditP d (sl h) n >>= k) Q) := by
  unfold DirMid credTok
  iintro ⟨#HR, ⟨Hs, Hn, Hr, P1, P2, P3, P4, P5, P6⟩, ⟨T1, T2⟩, HO⟩ Hk
  ihave P4 := (pos_reached c _ _) $$ P4
  icases P4 with ⟨P4, #R4⟩
  ihave Hs := (slot_any d (sl h) c (chunk A d h c)) $$ Hs
  iapply (wp_credit A K d h hh c n hn O) $$ [Hs HO T1 Hr]
  · isplitr; · iexact HR
    isplitl [Hs]; · iexact Hs
    isplitr; · iexact R4
    isplitl [HO]; · iexact HO
    isplitl [T1] <;> iassumption
  iintro HO
  iapply Hk
  isplitl [HO]; · iexact HO
  isplitl [Hn]; · iexact Hn
  isplitl [T2]; · iexact T2
  isplitl [P1]; · iexact P1
  isplitl [P2]; · iexact P2
  isplitl [P3]; · iexact P3
  isplitl [P4]; · iexact P4
  isplitl [P5] <;> iassumption

/-- One direction's wait for credit after hop `h`. -/
theorem wp_grant_dir (K : Dev nD × Kind → ℕ) (d : Bool) (h : ℕ) (hh : h ≤ 5) (c : Dev nD)
    {α : Type} {k : PUnit → KProg F α} {Q : α → sProp 𝕄} :
    iprop(recs A K ∗ levAts L lv ∗ ow c (OO (h + 1) (h + 1) c) ∗ (slotHas d (sl (h + 1)) fullShare c (chunk A d (h + 1) c) ∗ cred (tallyAt (cell c (.cred d (sl h))) (2 * h + 4) 1)
              ∗ pos c (.send d (sl h)) (h / 2 + 1) ∗ pos c (.send d (sl (h + 1))) ((h + 1) / 2) ∗ pos c (.recv d (sl (h + 1))) (h / 2 + 1) ∗ pos c (.recv d (sl h)) ((h + 1) / 2)
              ∗ pos c (.cred d (sl h)) (h / 2) ∗ pos c (.cred d (sl (h + 1))) ((h + 1) / 2)))
      ⊢ iprop((iprop(DirPre A d (h + 1) c ∗ ow c (OO (h + 1) (h + 1) c))
          -∗ wp frame (wpE defs₀ 𝒱₀ (c : Thread nD τ) none) Set.univ (k ⟨⟩) Q)
        -∗ wp frame (wpE defs₀ 𝒱₀ (c : Thread nD τ) none) Set.univ (grantP d (sl h) >>= k) Q) := by
  rw [dirPre_succ]
  iintro ⟨#HR, #HL, HO, Hn, T2, P1, P2, P3, P4, P5, P6⟩ Hk
  iapply (wp_grant A K d h hh c (OO (h + 1) (h + 1) c)) $$ [T2 HO P5]
  · isplitr; · iexact HR
    isplitl [T2]; · iexact T2
    isplitl [HO]; · iexact HO
    isplitr; · iapply (mayWait c (ksem (.cred d (sl h))) (ι := 2 * h + 4) (a := h + 1) (b := h + 1) (by omega) (by omega) (by omega)); iexact HL
    iexact P5
  iintro ⟨HO, P5, Hs, Hr⟩
  iapply Hk
  isplitr [HO]
  · isplitl [Hn]; · iexact Hn
    isplitl [Hs]; · iexact Hs
    isplitl [Hr]; · iexact Hr
    isplitl [P2]; · iexact P2
    isplitl [P1]; · iexact P1
    isplitl [P4]; · iexact P4
    isplitl [P3]; · iexact P3
    isplitl [P6] <;> iassumption
  iexact HO

/-- The credits after hop `h`, given and received. -/
theorem wp_relay (K : Dev nD × Kind → ℕ) (h : ℕ) (hh : h ≤ 5) (c p q : Dev nD) (hp : p = pv false c) (hq : q = pv true c)
    {α : Type} {k : PUnit → KProg F α} {Q : α → sProp 𝕄} :
    iprop(recs A K ∗ levAts L lv ∗ (DirMid A false h c ∗ DirMid A true h c) ∗ (credTok c false h ∗ credTok c true h) ∗ ow c (OO (h + 1) h c))
      ⊢ iprop((iprop((DirPre A false (h + 1) c ∗ DirPre A true (h + 1) c) ∗ ow c (OO (h + 1) (h + 1) c))
          -∗ wp frame (wpE defs₀ 𝒱₀ (c : Thread nD τ) none) Set.univ (k ⟨⟩) Q)
        -∗ wp frame (wpE defs₀ 𝒱₀ (c : Thread nD τ) none) Set.univ (relayP (sl h) p q >>= k) Q) := by
  unfold relayP
  simp only [Prog.bind_assoc]
  rw [OO_cred (h + 1) c hh]
  iintro ⟨#HR, #HL, ⟨D, D'⟩, ⟨T, T'⟩, HO⟩ Hk
  iapply (wp_credit_dir A K false h hh c p hp (OO (h + 1) (h + 1) c + oweC c true h)) $$ [D T HO]
  · isplitr; · iexact HR
    isplitl [D]; · iexact D
    isplitl [T] <;> iassumption
  iintro ⟨HO, D⟩
  iapply (wp_credit_dir A K true h hh c q hq (OO (h + 1) (h + 1) c)) $$ [D' T' HO]
  · isplitr; · iexact HR
    isplitl [D']; · iexact D'
    isplitl [T'] <;> iassumption
  iintro ⟨HO, D'⟩
  iapply (wp_grant_dir A K false h hh c) $$ [D HO]
  · isplitr; · iexact HR
    isplitr; · iexact HL
    isplitl [HO] <;> iassumption
  iintro ⟨D, HO⟩
  iapply (wp_grant_dir A K true h hh c) $$ [D' HO]
  · isplitr; · iexact HR
    isplitr; · iexact HL
    isplitl [HO] <;> iassumption
  iintro ⟨D', HO⟩
  iapply Hk
  isplitl [D D']; · isplitl [D] <;> iassumption
  iexact HO

end Cert.KernelIdeal.Ring
-- ==== Proof.Rows.lean ====
/- The result: which hop writes which rows, and what they hold. -/
module

public import proofs.«01_k».proof.Proof.Hop
public import Idealize.ShloMosaic.Lib.SparseCore.Launch

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (A : Dev nD → S4096x2048.Idx → Elt F .bf16)

/-! ## Which hop writes which rows -/

/-- Over the eight hops a device holds each device's rows. -/
theorem org_surj : ∀ (d : Bool) (c o : Dev nD), ∃ h : Fin 8, org d h.val c = o := by decide +kernel
/-- It never holds the same rows twice. -/
theorem org_inj : ∀ (d : Bool) (c : Dev nD) (h h' : Fin 8), org d h.val c = org d h'.val c → h = h' := by decide +kernel
/-- Clockwise rows. -/
theorem base_cw (h : Fin 8) (c : Dev nD) : base false h.val c = 4096 * ((c.val + (8 - h.val)) % 8) := by
  revert c h; decide +kernel
/-- Counter-clockwise rows. -/
theorem base_ccw (h : Fin 8) (c : Dev nD) : base true h.val c = 4096 * ((c.val + h.val) % 8) + 2048 := by
  revert c h; decide +kernel
/-- The first counter-clockwise rows are the device's own. -/
theorem base_own (c : Dev nD) : base true 0 c = 4096 * c.val + 2048 := by
  revert c; decide +kernel

/-! ## What they hold -/

/-- An element's row lies in the result. -/
theorem row_lt (i : S32768x4096.Idx) : (i 0).val < 32768 := (i 0).isLt

/-- The whole result: in each row the product of the half-block of `A` the row belongs to. -/
def OUT (B : S2048x4096.Idx → Elt F .bf16) : S32768x4096.Idx → Elt F .bf16 := fun i =>
  prodVal (halfOf (decide (2048 ≤ (i 0).val % 4096)) (A ⟨(i 0).val / 4096, by have := row_lt i; show _ < 8; omega⟩)) B ((i 0).val % 2048) (Nat.mod_lt _ (by decide)) (i 1)

/-- Equal blocks, halves and rows give equal products. -/
theorem prodVal_at (B : S2048x4096.Idx → Elt F .bf16) {d d' : Bool} {o o' : Dev nD} {r r' : ℕ} (hr : r < 2048) (hr' : r' < 2048) (q : Fin 4096)
    (ed : d = d') (eo : o = o') (er : r = r') : prodVal (halfOf d (A o)) B r hr q = prodVal (halfOf d' (A o')) B r' hr' q := by
  subst ed eo er; rfl

/-- Every hop's rows of the result hold that hop's product. -/
theorem out_holds (B : S2048x4096.Idx → Elt F .bf16) (d : Bool) (h : ℕ) (c : Dev nD) : Holds (OUT A B) (base d h c) (chunk A d h c) B := by
  intro i hi
  have ho : (org d h c).val < 8 := (org d h c).isLt
  unfold base at hi
  cases d
  · rw [cond_false] at hi
    exact prodVal_at A B _ _ _ (decide_eq_false (by omega)) (Fin.ext (by show (i 0).val / 4096 = _; omega)) (by unfold base; rw [cond_false]; omega)
  · rw [cond_true] at hi
    exact prodVal_at A B _ _ _ (decide_eq_true (by omega)) (Fin.ext (by show (i 0).val / 4096 = _; omega)) (by unfold base; rw [cond_true]; omega)

/-! ## The result in pieces -/

/-- The result in the rows of each hop and direction. -/
theorem out_pieces (c : Dev nD) (f : S32768x4096.Idx → Elt F .bf16) :
    (oM.view.loc (c : Thread nD τ) ↦{fullShare} f : sProp 𝕄)
      = bigSep (Finset.Ico 0 8) fun k => iprop(outRows c (base false k c) 2048 f ∗ outRows c (base true k c) 2048 f) := by
  have hpair (k : ℕ) : iprop(outRows c (base false k c) 2048 f ∗ outRows c (base true k c) 2048 f)
      = bigSep (M := 𝕄) Finset.univ fun d : Bool => outRows c (base d k c) 2048 f := by
    rw [bigSep_univ_eq_bigSepL [false, true] (by decide) (by decide), bigSepL_cons_cons, bigSepL_singleton]; rfl
  rw [bigSep_congr fun k _ => hpair k, ← SparseCore.bigSep_product (Finset.Ico 0 8) Finset.univ fun p : ℕ × Bool => outRows c (base p.2 p.1 c) 2048 f]
  unfold outRows
  refine Eq.trans ?_ (pointsTo_biUnion (ℓ := oM.view.loc (c : Thread nD τ)) (q := fullShare) (f := f) (Finset.Ico 0 8 ×ˢ Finset.univ) (fun p : ℕ × Bool => rows (base p.2 p.1 c) 2048) ?_)
  · refine congrArg (fun S => (oM.view.loc (c : Thread nD τ) ↦[S]{fullShare} f : sProp 𝕄)) ?_
    ext i
    refine ⟨fun _ => ?_, fun _ => Finset.mem_univ _⟩
    rw [Finset.mem_biUnion]
    have hi := row_lt i
    obtain ⟨h, hh⟩ := org_surj (decide (2048 ≤ (i 0).val % 4096)) c ⟨(i 0).val / 4096, by show _ < 8; omega⟩
    refine ⟨(h.val, decide (2048 ≤ (i 0).val % 4096)), Finset.mem_product.mpr ⟨Finset.mem_Ico.mpr ⟨Nat.zero_le _, h.isLt⟩, Finset.mem_univ _⟩, ?_⟩
    rw [mem_rows]
    unfold base
    dsimp only
    rw [hh]
    by_cases hd : 2048 ≤ (i 0).val % 4096
    · rw [decide_eq_true hd, cond_true]; dsimp only; omega
    · rw [decide_eq_false hd, cond_false]; dsimp only; omega
  · rintro ⟨k, d⟩ hk ⟨k', d'⟩ hk' hne
    rw [Finset.mem_product, Finset.mem_Ico] at hk hk'
    refine rows_disjoint ?_
    dsimp only at hk hk' ⊢
    have key : org d k c ≠ org d' k' c ∨ d ≠ d' := by
      by_contra hn
      obtain ⟨h1, h2⟩ := not_or.mp hn
      obtain rfl := not_ne_iff.mp h2
      have h1 := not_ne_iff.mp h1
      have e := org_inj d c ⟨k, hk.1.2⟩ ⟨k', hk'.1.2⟩ h1
      exact hne (by rw [Prod.mk.injEq]; exact ⟨congrArg Fin.val e, rfl⟩)
    have key' : (org d k c).val ≠ (org d' k' c).val ∨ d ≠ d' := key.imp_left fun h e => h (Fin.ext e)
    unfold base
    cases d <;> cases d' <;> simp only [cond_true, cond_false, ne_eq, not_true_eq_false, or_false, reduceCtorEq, not_false_eq_true, or_true] at key' ⊢ <;> omega

end Cert.KernelIdeal.Ring
-- ==== Proof.Body.lean ====
/- The whole kernel on one device. -/
module

public import proofs.«01_k».proof.Proof.Rows
public import Idealize.SL.BI.BigOpNat

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (A : Dev nD → S4096x2048.Idx → Elt F .bf16)

/-! ## Between two hops -/

/-- A device before hop `h`: the rows of the hops before are written, the sends and credits of this hop and later are
    still to be paid. -/
def Before (B : S2048x4096.Idx → Elt F .bf16) (c : Dev nD) (h : ℕ) : sProp 𝕄 :=
  iprop((DirPre A false h c ∗ DirPre A true h c)
    ∗ bigSep (Finset.Ico h 7) (fun k => iprop(sendTok c false k ∗ sendTok c true k))
    ∗ bigSep (Finset.Ico h 6) (fun k => iprop(credTok c false k ∗ credTok c true k))
    ∗ work c B ∗ ow c (OO h h c)
    ∗ bigSep (Finset.Ico h 8) (fun k => iprop(outAny (F := F) c (base false k c) 2048 ∗ outAny (F := F) c (base true k c) 2048))
    ∗ bigSep (Finset.Ico 0 h) (fun k => iprop(outRows c (base false k c) 2048 (OUT A B) ∗ outRows c (base true k c) 2048 (OUT A B))))

/-- A hop and its credits. -/
theorem wp_round (K : Dev nD × Kind → ℕ) (h : ℕ) (hh : h ≤ 5) (c p q p' q' : Dev nD) (hp : p = nx false c) (hq : q = nx true c) (hp' : p' = pv false c) (hq' : q' = pv true c)
    (B : S2048x4096.Idx → Elt F .bf16)
    (a a' : Fin 8 → TileArgs) (ha : ∀ t, (a t).Is (sl h) (base false h c) t) (ha' : ∀ t, (a' t).Is (sl h) (base true h c) t) (u v w z : DrainArgs)
    {α : Type} {k : PUnit → KProg F α} {Q : α → sProp 𝕄} :
    iprop(recs A K ∗ levAts L lv ∗ Before A B c h)
      ⊢ iprop((Before A B c (h + 1) -∗ wp frame (wpE defs₀ 𝒱₀ (c : Thread nD τ) none) Set.univ (k ⟨⟩) Q)
        -∗ wp frame (wpE defs₀ 𝒱₀ (c : Thread nD τ) none) Set.univ
          (hopP (sl h) (sl (h + 1)) p q a a' u v w z >>= fun _ => relayP (sl h) p' q' >>= k) Q) := by
  unfold Before
  rw [bigSep_Ico_succ_bot (by omega : h < 7), bigSep_Ico_succ_bot (by omega : h < 6), bigSep_Ico_succ_bot (by omega : h < 8), bigSep_Ico_succ_top (Nat.zero_le h)]
  iintro ⟨#HR, #HL, HD, ⟨HT, HTs⟩, ⟨HC, HCs⟩, Hw, HO, ⟨⟨Ho, Ho'⟩, Hos⟩, Hdone⟩ Hk
  iapply (wp_hop A K h (by omega) c p q hp hq B (OUT A B) (fun d => out_holds A B d h c) a a' ha ha' u v w z) $$ [HD HT Hw HO Ho Ho']
  · isplitr; · iexact HR
    isplitr; · iexact HL
    isplitl [HD]; · iexact HD
    isplitl [HT]; · iexact HT
    isplitl [Hw]; · iexact Hw
    isplitl [HO]; · iexact HO
    isplitl [Ho] <;> iassumption
  iintro ⟨HD, Hw, HO, Ho, Ho'⟩
  iapply (wp_relay A K h hh c p' q' hp' hq') $$ [HD HC HO]
  · isplitr; · iexact HR
    isplitr; · iexact HL
    isplitl [HD]; · iexact HD
    isplitl [HC] <;> iassumption
  iintro ⟨HD, HO⟩
  iapply Hk
  isplitl [HD]; · iexact HD
  isplitl [HTs]; · iexact HTs
  isplitl [HCs]; · iexact HCs
  isplitl [Hw]; · iexact Hw
  isplitl [HO]; · iexact HO
  isplitl [Hos]; · iexact Hos
  isplitl [Ho Ho']
  · isplitl [Ho] <;> iassumption
  iexact Hdone

/-! ## The end -/

/-- Every kind in turn. -/
theorem bigSep_kind (Φ : Kind → sProp 𝕄) : bigSep Finset.univ Φ = iprop(Φ .bar
    ∗ Φ (.send false 0) ∗ Φ (.send false 1) ∗ Φ (.recv false 0) ∗ Φ (.recv false 1) ∗ Φ (.cred false 0) ∗ Φ (.cred false 1)
    ∗ Φ (.send true 0) ∗ Φ (.send true 1) ∗ Φ (.recv true 0) ∗ Φ (.recv true 1) ∗ Φ (.cred true 0) ∗ Φ (.cred true 1)) := by
  rw [bigSep_univ_eq_bigSepL [.bar, .send false 0, .send false 1, .recv false 0, .recv false 1, .cred false 0, .cred false 1,
    .send true 0, .send true 1, .recv true 0, .recv true 1, .cred true 0, .cred true 1] (by decide) (by decide)]
  rfl

/-- A cell whose duties are all paid is closed at zero. -/
theorem close (K : Dev nD × Kind → ℕ) (c : Dev nD) (k : Kind) (R : ℕ) (hR : ∀ r, R ≤ r → dutiesK k r = ∅) :
    iprop(recs A K ∗ pos c k R) ⊢ iprop(|={Set.univ}=> semVal (cell c k) 0 : sProp 𝕄) := by
  unfold pos
  iintro ⟨#HR, Ha, -⟩
  iapply (Rounds.cell_close ER (Rd A) (κ := K (c, k)) (Set.mem_univ _) (fun h => h) (R := R) (fun r hr => (Rd_duties A c k r).trans (hR r hr)))
  isplitr; · iapply (inv_at A K c k); iexact HR
  iexact Ha

/-- A direction's six cells close after its last hop. -/
theorem close_dir (K : Dev nD × Kind → ℕ) (c : Dev nD) (d : Bool) :
    iprop(recs A K ∗ pos c (.send d 0) 4 ∗ pos c (.send d 1) 3 ∗ pos c (.recv d 1) 4 ∗ pos c (.recv d 0) 3 ∗ pos c (.cred d 0) 3 ∗ pos c (.cred d 1) 3)
      ⊢ iprop(|={Set.univ}=> (semVal (cell c (.send d 0)) 0 ∗ semVal (cell c (.send d 1)) 0 ∗ semVal (cell c (.recv d 0)) 0 ∗ semVal (cell c (.recv d 1)) 0
        ∗ semVal (cell c (.cred d 0)) 0 ∗ semVal (cell c (.cred d 1)) 0) : sProp 𝕄) := by
  iintro ⟨#HR, P1, P2, P3, P4, P5, P6⟩
  imod (close A K c (.send d 0) 4 (fun r hr => if_neg (show ¬2 * r + 0 ≤ 6 by omega))) $$ [P1] with P1
  · isplitr; · iexact HR
    iexact P1
  imod (close A K c (.send d 1) 3 (fun r hr => if_neg (show ¬2 * r + 1 ≤ 6 by omega))) $$ [P2] with P2
  · isplitr; · iexact HR
    iexact P2
  imod (close A K c (.recv d 1) 4 (fun r hr => if_neg (show ¬2 * r + (1 - 1) ≤ 6 by omega))) $$ [P3] with P3
  · isplitr; · iexact HR
    iexact P3
  imod (close A K c (.recv d 0) 3 (fun r hr => if_neg (show ¬2 * r + (1 - 0) ≤ 6 by omega))) $$ [P4] with P4
  · isplitr; · iexact HR
    iexact P4
  imod (close A K c (.cred d 0) 3 (fun r hr => if_neg (show ¬2 * r + 0 ≤ 5 by omega))) $$ [P5] with P5
  · isplitr; · iexact HR
    iexact P5
  imod (close A K c (.cred d 1) 3 (fun r hr => if_neg (show ¬2 * r + 1 ≤ 5 by omega))) $$ [P6] with P6
  · isplitr; · iexact HR
    iexact P6
  imodintro
  isplitl [P1]; · iexact P1
  isplitl [P2]; · iexact P2
  isplitl [P4]; · iexact P4
  isplitl [P3]; · iexact P3
  isplitl [P5] <;> iassumption

/-- The memory a device's kernel uses: its rows of `A`, the four slots, `B` and the staging, and the load's semaphore. -/
def mem (c : Dev nD) (X : S4096x2048.Idx → Elt F .bf16) (B : S2048x4096.Idx → Elt F .bf16) : sProp 𝕄 :=
  iprop(aHas c X ∗ (slotAny false 0 c ∗ slotAny false 1 c) ∗ (slotAny true 0 c ∗ slotAny true 1 c) ∗ work c B ∗ semVal ((c : Thread nD τ), SemLoc.dma loadS) 0)
/-- What a device's part of the ring starts with: its cells at their beginnings, the duties it will pay, and the units
    it will wait for. -/
def ringStart (c : Dev nD) : sProp 𝕄 :=
  iprop(bigSep Finset.univ (fun k => pos c k 0)
    ∗ (dutyTok ER (cell (pv false c) .bar) 0 false ∗ dutyTok ER (cell (pv true c) .bar) 0 true ∗ cred (tallyAt (cell c .bar) 1 2))
    ∗ bigSep (Finset.Ico 0 7) (fun k => iprop(sendTok c false k ∗ sendTok c true k))
    ∗ bigSep (Finset.Ico 0 6) (fun k => iprop(credTok c false k ∗ credTok c true k)))
/-- Every cell has begun. -/
def marks : sProp 𝕄 := bigSep Finset.univ fun p : Dev nD × Kind => reached ER (cell p.1 p.2) 0
/-- That every cell has begun may be kept and copied. -/
instance marks_persistent : BI.Persistent (marks (F := F)) := by unfold marks; infer_instance
/-- Each cell has begun. -/
theorem mark_at (c : Dev nD) (k : Kind) : (marks : sProp 𝕄) ⊢ reached ER (cell c k) 0 := bigSep_elim (i := (c, k)) (Finset.mem_univ _)

/-- How the kernel ends on a device. -/
def After (B : S2048x4096.Idx → Elt F .bf16) (c : Dev nD) : sProp 𝕄 :=
  iprop(bigSep Finset.univ (fun k => semVal (cell c k) 0) ∗ mem c (A c) B ∗ (oM.view.loc (c : Thread nD τ) ↦{fullShare} OUT A B) ∗ ow c 0)

/-- The last hop and the last products. -/
theorem wp_last (K : Dev nD × Kind → ℕ) (c p q : Dev nD) (hp : p = nx false c) (hq : q = nx true c)
    (B : S2048x4096.Idx → Elt F .bf16) (a a' b b' : Fin 8 → TileArgs) (ha : ∀ t, (a t).Is 0 (base false 6 c) t) (ha' : ∀ t, (a' t).Is 0 (base true 6 c) t)
    (hb : ∀ t, (b t).Is 1 (base false 7 c) t) (hb' : ∀ t, (b' t).Is 1 (base true 7 c) t) (u v w z u' v' w' z' : DrainArgs) {Q : PUnit → sProp 𝕄} :
    iprop(recs A K ∗ levAts L lv ∗ Before A B c 6 ∗ aHas c (A c) ∗ semVal ((c : Thread nD τ), SemLoc.dma loadS) 0 ∗ pos c .bar 1)
      ⊢ iprop((After A B c -∗ Q ⟨⟩) -∗ wp frame (wpE defs₀ 𝒱₀ (c : Thread nD τ) none) Set.univ
          (hopP 0 1 p q a a' u v w z >>= fun _ => productsP b b' u' v' w' z' >>= fun _ => Prog.ret ⟨⟩) Q) := by
  have step := wp_hop A K 6 (le_refl _) c p q hp hq B (OUT A B) (fun d => out_holds A B d 6 c) a a' ha ha' u v w z (Q := Q)
    (k := fun _ => productsP b b' u' v' w' z' >>= fun _ => Prog.ret ⟨⟩)
  have last := wp_products (s := 1) fullShare c (chunk A false 7 c) (chunk A true 7 c) B (base false 7 c) (base true 7 c) (OUT A B) (out_holds A B false 7 c) (out_holds A B true 7 c)
    (OO 7 6 c) b b' hb hb' u' v' w' z' (Q := Q) (k := fun _ => Prog.ret ⟨⟩)
  have mid (d : Bool) : DirMid A d 6 c ⊢ iprop(slotHas d 0 fullShare c (chunk A d 6 c) ∗ slotHas d 1 fullShare c (chunk A d 7 c)
      ∗ (pos c (.send d 0) 4 ∗ pos c (.send d 1) 3 ∗ pos c (.recv d 1) 4 ∗ pos c (.recv d 0) 3 ∗ pos c (.cred d 0) 3 ∗ pos c (.cred d 1) 3)) := by
    show iprop(slotHas d 0 fullShare c (chunk A d 6 c) ∗ slotHas d 1 fullShare c (chunk A d 7 c) ∗ reached ER (cell (pv d c) (.cred d (sl 6))) 3
      ∗ pos c (.send d 0) 4 ∗ pos c (.send d 1) 3 ∗ pos c (.recv d 1) 4 ∗ pos c (.recv d 0) 3 ∗ pos c (.cred d 0) 3 ∗ pos c (.cred d 1) 3) ⊢ _
    iintro ⟨H1, H2, -, H3⟩
    isplitl [H1]; · iexact H1
    isplitl [H2] <;> iassumption
  have fin : iprop(|={Set.univ}=> Q ⟨⟩) ⊢ wp frame (wpE defs₀ 𝒱₀ (c : Thread nD τ) none) Set.univ (Prog.ret ⟨⟩) Q := Entails.of_eq (wp_ret ..).symm
  unfold Before After mem
  rw [bigSep_Ico_succ_bot (by omega : 6 < 7), bigSep_Ico_succ_bot (by omega : 6 < 8), bigSep_Ico_succ_bot (by omega : 6 + 1 < 8), bigSep_kind, out_pieces, bigSep_Ico_succ_top (by omega : 0 ≤ 7),
    bigSep_Ico_succ_top (by omega : 0 ≤ 6)]
  iintro ⟨#HR, #HL, ⟨HD, ⟨HT, -⟩, -, Hw, HO, ⟨⟨Ho, Ho'⟩, ⟨Ht, Ht'⟩, -⟩, Hdone⟩, Ha, Hl, Hbar⟩ Hk
  iapply step $$ [HD HT Hw HO Ho Ho']
  · isplitr; · iexact HR
    isplitr; · iexact HL
    isplitl [HD]; · iexact HD
    isplitl [HT]; · iexact HT
    isplitl [Hw]; · iexact Hw
    isplitl [HO]; · iexact HO
    isplitl [Ho] <;> iassumption
  iintro ⟨⟨D, D'⟩, Hw, HO, Ho, Ho'⟩
  ihave D := (mid false) $$ D
  icases D with ⟨Hs0, Hs1, Hp⟩
  ihave D' := (mid true) $$ D'
  icases D' with ⟨Hs0', Hs1', Hp'⟩
  iapply last $$ [Hs1 Hs1' Hw HO Ht Ht']
  · isplitr; · iapply (mayWaits c 7 6); iexact HL
    isplitl [Hs1]; · iexact Hs1
    isplitl [Hs1']; · iexact Hs1'
    isplitl [Hw]; · iexact Hw
    isplitl [HO]; · iexact HO
    isplitl [Ht] <;> iassumption
  iintro ⟨Hs1, Hs1', Hw, HO, Ht, Ht'⟩
  imod (close A K c .bar 1 (fun r hr => if_neg (show ¬r = 0 by omega))) $$ [Hbar] with Hbar
  · isplitr; · iexact HR
    iexact Hbar
  imod (close_dir A K c false) $$ [Hp] with ⟨V1, V2, V3, V4, V5, V6⟩
  · isplitr; · iexact HR
    iexact Hp
  imod (close_dir A K c true) $$ [Hp'] with ⟨U1, U2, U3, U4, U5, U6⟩
  · isplitr; · iexact HR
    iexact Hp'
  ihave Hs0 := (slot_any false 0 c _) $$ Hs0
  ihave Hs1 := (slot_any false 1 c _) $$ Hs1
  ihave Hs0' := (slot_any true 0 c _) $$ Hs0'
  ihave Hs1' := (slot_any true 1 c _) $$ Hs1'
  ihave HO := (Entails.of_eq (congrArg (ow (F := F) c) (OO_end c))) $$ HO
  iapply fin
  imodintro
  iapply Hk
  isplitl [Hbar V1 V2 V3 V4 V5 V6 U1 U2 U3 U4 U5 U6]
  · isplitl [Hbar]; · iexact Hbar
    isplitl [V1]; · iexact V1
    isplitl [V2]; · iexact V2
    isplitl [V3]; · iexact V3
    isplitl [V4]; · iexact V4
    isplitl [V5]; · iexact V5
    isplitl [V6]; · iexact V6
    isplitl [U1]; · iexact U1
    isplitl [U2]; · iexact U2
    isplitl [U3]; · iexact U3
    isplitl [U4]; · iexact U4
    isplitl [U5] <;> iassumption
  isplitl [Ha Hs0 Hs1 Hs0' Hs1' Hw Hl]
  · isplitl [Ha]; · iexact Ha
    isplitl [Hs0 Hs1]; · isplitl [Hs0] <;> iassumption
    isplitl [Hs0' Hs1']; · isplitl [Hs0'] <;> iassumption
    isplitl [Hw] <;> iassumption
  isplitr [HO]
  · isplitl [Ht Ht']; · isplitl [Ht] <;> iassumption
    isplitl [Ho Ho']; · isplitl [Ho] <;> iassumption
    iexact Hdone
  iexact HO

/-! ## The beginning -/

/-- A direction before its first hop. -/
theorem dir_start (d : Bool) (c : Dev nD) :
    iprop(slotHas d 0 fullShare c (halfOf d (A c)) ∗ (slotAny d 1 (nx d c) ∗ reached ER (cell (nx d c) (.recv d 1)) 0)
      ∗ pos c (.send d 0) 0 ∗ pos c (.send d 1) 0 ∗ pos c (.recv d 0) 0 ∗ pos c (.recv d 1) 0 ∗ pos c (.cred d 0) 0 ∗ pos c (.cred d 1) 0) ⊢ DirPre A d 0 c := by
  show _ ⊢ iprop(slotHas d 0 fullShare c (halfOf d (A c)) ∗ slotAny d 1 (nx d c) ∗ reached ER (cell (nx d c) (.recv d 1)) 0
    ∗ pos c (.send d 0) 0 ∗ pos c (.send d 1) 0 ∗ pos c (.recv d 1) 0 ∗ pos c (.recv d 0) 0 ∗ pos c (.cred d 0) 0 ∗ pos c (.cred d 1) 0)
  iintro ⟨H1, ⟨H2, H3⟩, P1, P2, P3, P4, P5, P6⟩
  isplitl [H1]; · iexact H1
  isplitl [H2]; · iexact H2
  isplitl [H3]; · iexact H3
  isplitl [P1]; · iexact P1
  isplitl [P2]; · iexact P2
  isplitl [P4]; · iexact P4
  isplitl [P3]; · iexact P3
  isplitl [P5] <;> iassumption

/-- The barrier and the loads bring a device to its first hop. -/
theorem wp_begin (K : Dev nD × Kind → ℕ) (c p q : Dev nD) (hp : p = pv false c) (hq : q = pv true c) (B : S2048x4096.Idx → Elt F .bf16)
    {α : Type} {k : PUnit → KProg F α} {Q : α → sProp 𝕄} :
    iprop(recs A K ∗ marks ∗ levAts L lv ∗ ringStart c ∗ mem c (A c) B ∗ (∃ f, oM.view.loc (c : Thread nD τ) ↦{fullShare} f) ∗ ow c (O₀ c))
      ⊢ iprop((iprop(Before A B c 0 ∗ aHas c (A c) ∗ semVal ((c : Thread nD τ), SemLoc.dma loadS) 0 ∗ pos c .bar 1)
          -∗ wp frame (wpE defs₀ 𝒱₀ (c : Thread nD τ) none) Set.univ (k ⟨⟩) Q)
        -∗ wp frame (wpE defs₀ 𝒱₀ (c : Thread nD τ) none) Set.univ (entryP p q >>= fun _ => loadP false >>= fun _ => loadP true >>= k) Q) := by
  have any (f : S32768x4096.Idx → Elt F .bf16) : (oM.view.loc (c : Thread nD τ) ↦{fullShare} f : sProp 𝕄)
      ⊢ bigSep (Finset.Ico 0 8) fun k => iprop(outAny (F := F) c (base false k c) 2048 ∗ outAny (F := F) c (base true k c) 2048) := by
    have one (k : ℕ) : (iprop(outRows c (base false k c) 2048 f ∗ outRows c (base true k c) 2048 f) : sProp 𝕄)
        ⊢ iprop(outAny (F := F) c (base false k c) 2048 ∗ outAny (F := F) c (base true k c) 2048) := by
      unfold outAny
      iintro ⟨H, H'⟩
      isplitl [H]
      · iexists f; iexact H
      · iexists f; iexact H'
    rw [out_pieces]
    exact bigSep_mono fun k _ => one k
  have gate (d : Bool) : payK A c .bar 0 d ⊢ iprop(slotAny d 1 (nx d c) ∗ reached ER (cell (nx d c) (.recv d 1)) 0) := Entails.of_eq rfl
  unfold ringStart mem Before entryP
  rw [bigSep_kind, show O₀ c = (OO 0 0 c + oweB c (pv true c)) + oweB c (pv false c) from rfl, Finset.Ico_self, bigSep_empty]
  simp only [Prog.bind_assoc]
  iintro ⟨#HR, #HM, #HL, ⟨⟨Hbar, P1, P2, P3, P4, P5, P6, R1, R2, R3, R4, R5, R6⟩, ⟨T, T', Hc⟩, HT, HC⟩, ⟨Ha, ⟨Hs0, Hs1⟩, ⟨Hs0', Hs1'⟩, Hw, Hl⟩, ⟨%f, Ho⟩, HO⟩ Hk
  iapply (wp_knock A K false c p hp (OO 0 0 c + oweB c (pv true c))) $$ [Hs1 HO T]
  · isplitr; · iexact HR
    isplitl [Hs1]; · iexact Hs1
    isplitr; · iapply (mark_at c (.recv false 1)); iexact HM
    isplitl [HO]; · iexact HO
    isplitl [T]; · iexact T
    iapply (mark_at (pv false c) .bar); iexact HM
  iintro HO
  iapply (wp_knock A K true c q hq (OO 0 0 c)) $$ [Hs1' HO T']
  · isplitr; · iexact HR
    isplitl [Hs1']; · iexact Hs1'
    isplitr; · iapply (mark_at c (.recv true 1)); iexact HM
    isplitl [HO]; · iexact HO
    isplitl [T']; · iexact T'
    iapply (mark_at (pv true c) .bar); iexact HM
  iintro HO
  iapply (wp_gate A K c (OO 0 0 c)) $$ [Hc HO Hbar]
  · isplitr; · iexact HR
    isplitl [Hc]; · iexact Hc
    isplitl [HO]; · iexact HO
    isplitr; · iapply (mayWait c (ksem .bar) (ι := 1) (a := 0) (b := 0) (by omega) (by omega) (by omega)); iexact HL
    iexact Hbar
  iintro ⟨HO, Hbar, G, G'⟩
  ihave G := (gate false) $$ G
  ihave G' := (gate true) $$ G'
  iapply (wp_half false c (A c) (OO 0 0 c)) $$ [Ha Hs0 Hl HO]
  · isplitl [Ha]; · iexact Ha
    isplitl [Hs0]; · iexact Hs0
    isplitl [Hl]; · iexact Hl
    isplitl [HO]; · iexact HO
    iapply (mayWait c (.dma loadS) (ι := 0) (a := 0) (b := 0) (by omega) (by omega) (by omega)); iexact HL
  iintro ⟨Ha, Hs0, Hl, HO⟩
  iapply (wp_half true c (A c) (OO 0 0 c)) $$ [Ha Hs0' Hl HO]
  · isplitl [Ha]; · iexact Ha
    isplitl [Hs0']; · iexact Hs0'
    isplitl [Hl]; · iexact Hl
    isplitl [HO]; · iexact HO
    iapply (mayWait c (.dma loadS) (ι := 0) (a := 0) (b := 0) (by omega) (by omega) (by omega)); iexact HL
  iintro ⟨Ha, Hs0', Hl, HO⟩
  iapply Hk
  isplitr [Ha Hl Hbar]
  · isplitl [Hs0 G P1 P2 P3 P4 P5 P6 Hs0' G' R1 R2 R3 R4 R5 R6]
    · isplitl [Hs0 G P1 P2 P3 P4 P5 P6]
      · iapply (dir_start A false c)
        isplitl [Hs0]; · iexact Hs0
        isplitl [G]; · iexact G
        isplitl [P1]; · iexact P1
        isplitl [P2]; · iexact P2
        isplitl [P3]; · iexact P3
        isplitl [P4]; · iexact P4
        isplitl [P5] <;> iassumption
      · iapply (dir_start A true c)
        isplitl [Hs0']; · iexact Hs0'
        isplitl [G']; · iexact G'
        isplitl [R1]; · iexact R1
        isplitl [R2]; · iexact R2
        isplitl [R3]; · iexact R3
        isplitl [R4]; · iexact R4
        isplitl [R5] <;> iassumption
    isplitl [HT]; · iexact HT
    isplitl [HC]; · iexact HC
    isplitl [Hw]; · iexact Hw
    isplitl [HO]; · iexact HO
    isplitl [Ho]; · iapply (any f); iexact Ho
    iempintro
  isplitl [Ha]; · iexact Ha
  isplitl [Hl] <;> iassumption

/-- The whole kernel on device `c`. -/
theorem wp_whole (K : Dev nD × Kind → ℕ) (c : Dev nD) (B : S2048x4096.Idx → Elt F .bf16) {Q : PUnit → sProp 𝕄} :
    iprop(recs A K ∗ marks ∗ levAts L lv ∗ ringStart c ∗ mem c (A c) B ∗ (∃ f, oM.view.loc (c : Thread nD τ) ↦{fullShare} f) ∗ ow c (O₀ c))
      ⊢ iprop((After A B c -∗ Q ⟨⟩) -∗ wp frame (wpE defs₀ 𝒱₀ (c : Thread nD τ) none) Set.univ wholeP Q) := by
  have e1 : ∀ t, (tiles1 c t).Is 0 (base false 0 c) t := by
    intro t; rw [show base false 0 c = 4096 * ((c.val + 8) % 8) from base_cw 0 c]; exact tiles1_is c t
  have e2 : ∀ t, (tiles2 c t).Is 0 (base true 0 c) t := by
    intro t; rw [show base true 0 c = 4096 * c.val + 2048 from base_own c]; exact tiles2_is c t
  have e3 : ∀ t, (tiles3 c t).Is 1 (base false 1 c) t := by
    intro t; rw [show base false 1 c = 4096 * ((c.val + 7) % 8) from base_cw 1 c]; exact tiles3_is c t
  have e4 : ∀ t, (tiles4 c t).Is 1 (base true 1 c) t := by
    intro t; rw [show base true 1 c = 4096 * ((c.val + 1) % 8) + 2048 from base_ccw 1 c]; exact tiles4_is c t
  have e5 : ∀ t, (tiles5 c t).Is 0 (base false 2 c) t := by
    intro t; rw [show base false 2 c = 4096 * ((c.val + 6) % 8) from base_cw 2 c]; exact tiles5_is c t
  have e6 : ∀ t, (tiles6 c t).Is 0 (base true 2 c) t := by
    intro t; rw [show base true 2 c = 4096 * ((c.val + 2) % 8) + 2048 from base_ccw 2 c]; exact tiles6_is c t
  have e7 : ∀ t, (tiles7 c t).Is 1 (base false 3 c) t := by
    intro t; rw [show base false 3 c = 4096 * ((c.val + 5) % 8) from base_cw 3 c]; exact tiles7_is c t
  have e8 : ∀ t, (tiles8 c t).Is 1 (base true 3 c) t := by
    intro t; rw [show base true 3 c = 4096 * ((c.val + 3) % 8) + 2048 from base_ccw 3 c]; exact tiles8_is c t
  have e9 : ∀ t, (tiles9 c t).Is 0 (base false 4 c) t := by
    intro t; rw [show base false 4 c = 4096 * ((c.val + 4) % 8) from base_cw 4 c]; exact tiles9_is c t
  have e10 : ∀ t, (tiles10 c t).Is 0 (base true 4 c) t := by
    intro t; rw [show base true 4 c = 4096 * ((c.val + 4) % 8) + 2048 from base_ccw 4 c]; exact tiles10_is c t
  have e11 : ∀ t, (tiles11 c t).Is 1 (base false 5 c) t := by
    intro t; rw [show base false 5 c = 4096 * ((c.val + 3) % 8) from base_cw 5 c]; exact tiles11_is c t
  have e12 : ∀ t, (tiles12 c t).Is 1 (base true 5 c) t := by
    intro t; rw [show base true 5 c = 4096 * ((c.val + 5) % 8) + 2048 from base_ccw 5 c]; exact tiles12_is c t
  have e13 : ∀ t, (tiles13 c t).Is 0 (base false 6 c) t := by
    intro t; rw [show base false 6 c = 4096 * ((c.val + 2) % 8) from base_cw 6 c]; exact tiles13_is c t
  have e14 : ∀ t, (tiles14 c t).Is 0 (base true 6 c) t := by
    intro t; rw [show base true 6 c = 4096 * ((c.val + 6) % 8) + 2048 from base_ccw 6 c]; exact tiles14_is c t
  have e15 : ∀ t, (tiles15 c t).Is 1 (base false 7 c) t := by
    intro t; rw [show base false 7 c = 4096 * ((c.val + 1) % 8) from base_cw 7 c]; exact tiles15_is c t
  have e16 : ∀ t, (tiles16 c t).Is 1 (base true 7 c) t := by
    intro t; rw [show base true 7 c = 4096 * ((c.val + 7) % 8) + 2048 from base_ccw 7 c]; exact tiles16_is c t
  have r0 {α : Type} {k : PUnit → KProg F α} {Q : α → sProp 𝕄} := wp_begin A K c ⟨k0_dev1 c, k0_dev1_lt c⟩ ⟨k0_dev2 c, k0_dev2_lt c⟩ (Fin.ext (k0_dev1_eq c)) (Fin.ext (k0_dev2_eq c)) B (k := k) (Q := Q)
  have h0 {α : Type} {k : PUnit → KProg F α} {Q : α → sProp 𝕄} : iprop(recs A K ∗ levAts L lv ∗ Before A B c 0) ⊢ iprop((Before A B c 1 -∗ wp frame (wpE defs₀ 𝒱₀ (c : Thread nD τ) none) Set.univ (k ⟨⟩) Q)
        -∗ wp frame (wpE defs₀ 𝒱₀ (c : Thread nD τ) none) Set.univ
          (hopP 0 1 ⟨k0_dev3 c, k0_dev3_lt c⟩ ⟨k0_dev4 c, k0_dev4_lt c⟩ (tiles1 c) (tiles2 c) (drainArgs c 0) (drainArgs c 1) (drainArgs c 2) (drainArgs c 3) >>= fun _ => relayP 0 ⟨k0_dev5 c, k0_dev5_lt c⟩ ⟨k0_dev6 c, k0_dev6_lt c⟩ >>= k) Q) :=
    wp_round A K 0 (by omega) c ⟨k0_dev3 c, k0_dev3_lt c⟩ ⟨k0_dev4 c, k0_dev4_lt c⟩ ⟨k0_dev5 c, k0_dev5_lt c⟩ ⟨k0_dev6 c, k0_dev6_lt c⟩ (Fin.ext (k0_dev3_eq c)) (Fin.ext (k0_dev4_eq c)) (Fin.ext (k0_dev5_eq c)) (Fin.ext (k0_dev6_eq c)) B (tiles1 c) (tiles2 c) e1 e2 _ _ _ _
  have h1 {α : Type} {k : PUnit → KProg F α} {Q : α → sProp 𝕄} : iprop(recs A K ∗ levAts L lv ∗ Before A B c 1) ⊢ iprop((Before A B c 2 -∗ wp frame (wpE defs₀ 𝒱₀ (c : Thread nD τ) none) Set.univ (k ⟨⟩) Q)
        -∗ wp frame (wpE defs₀ 𝒱₀ (c : Thread nD τ) none) Set.univ
          (hopP 1 0 ⟨k0_dev7 c, k0_dev7_lt c⟩ ⟨k0_dev8 c, k0_dev8_lt c⟩ (tiles3 c) (tiles4 c) (drainArgs c 4) (drainArgs c 5) (drainArgs c 6) (drainArgs c 7) >>= fun _ => relayP 1 ⟨k0_dev9 c, k0_dev9_lt c⟩ ⟨k0_dev10 c, k0_dev10_lt c⟩ >>= k) Q) :=
    wp_round A K 1 (by omega) c ⟨k0_dev7 c, k0_dev7_lt c⟩ ⟨k0_dev8 c, k0_dev8_lt c⟩ ⟨k0_dev9 c, k0_dev9_lt c⟩ ⟨k0_dev10 c, k0_dev10_lt c⟩ (Fin.ext (k0_dev7_eq c)) (Fin.ext (k0_dev8_eq c)) (Fin.ext (k0_dev9_eq c)) (Fin.ext (k0_dev10_eq c)) B (tiles3 c) (tiles4 c) e3 e4 _ _ _ _
  have h2 {α : Type} {k : PUnit → KProg F α} {Q : α → sProp 𝕄} : iprop(recs A K ∗ levAts L lv ∗ Before A B c 2) ⊢ iprop((Before A B c 3 -∗ wp frame (wpE defs₀ 𝒱₀ (c : Thread nD τ) none) Set.univ (k ⟨⟩) Q)
        -∗ wp frame (wpE defs₀ 𝒱₀ (c : Thread nD τ) none) Set.univ
          (hopP 0 1 ⟨k0_dev11 c, k0_dev11_lt c⟩ ⟨k0_dev12 c, k0_dev12_lt c⟩ (tiles5 c) (tiles6 c) (drainArgs c 8) (drainArgs c 9) (drainArgs c 10) (drainArgs c 11) >>= fun _ => relayP 0 ⟨k0_dev13 c, k0_dev13_lt c⟩ ⟨k0_dev14 c, k0_dev14_lt c⟩ >>= k) Q) :=
    wp_round A K 2 (by omega) c ⟨k0_dev11 c, k0_dev11_lt c⟩ ⟨k0_dev12 c, k0_dev12_lt c⟩ ⟨k0_dev13 c, k0_dev13_lt c⟩ ⟨k0_dev14 c, k0_dev14_lt c⟩ (Fin.ext (k0_dev11_eq c)) (Fin.ext (k0_dev12_eq c)) (Fin.ext (k0_dev13_eq c)) (Fin.ext (k0_dev14_eq c)) B (tiles5 c) (tiles6 c) e5 e6 _ _ _ _
  have h3 {α : Type} {k : PUnit → KProg F α} {Q : α → sProp 𝕄} : iprop(recs A K ∗ levAts L lv ∗ Before A B c 3) ⊢ iprop((Before A B c 4 -∗ wp frame (wpE defs₀ 𝒱₀ (c : Thread nD τ) none) Set.univ (k ⟨⟩) Q)
        -∗ wp frame (wpE defs₀ 𝒱₀ (c : Thread nD τ) none) Set.univ
          (hopP 1 0 ⟨k0_dev15 c, k0_dev15_lt c⟩ ⟨k0_dev16 c, k0_dev16_lt c⟩ (tiles7 c) (tiles8 c) (drainArgs c 12) (drainArgs c 13) (drainArgs c 14) (drainArgs c 15) >>= fun _ => relayP 1 ⟨k0_dev17 c, k0_dev17_lt c⟩ ⟨k0_dev18 c, k0_dev18_lt c⟩ >>= k) Q) :=
    wp_round A K 3 (by omega) c ⟨k0_dev15 c, k0_dev15_lt c⟩ ⟨k0_dev16 c, k0_dev16_lt c⟩ ⟨k0_dev17 c, k0_dev17_lt c⟩ ⟨k0_dev18 c, k0_dev18_lt c⟩ (Fin.ext (k0_dev15_eq c)) (Fin.ext (k0_dev16_eq c)) (Fin.ext (k0_dev17_eq c)) (Fin.ext (k0_dev18_eq c)) B (tiles7 c) (tiles8 c) e7 e8 _ _ _ _
  have h4 {α : Type} {k : PUnit → KProg F α} {Q : α → sProp 𝕄} : iprop(recs A K ∗ levAts L lv ∗ Before A B c 4) ⊢ iprop((Before A B c 5 -∗ wp frame (wpE defs₀ 𝒱₀ (c : Thread nD τ) none) Set.univ (k ⟨⟩) Q)
        -∗ wp frame (wpE defs₀ 𝒱₀ (c : Thread nD τ) none) Set.univ
          (hopP 0 1 ⟨k0_dev19 c, k0_dev19_lt c⟩ ⟨k0_dev20 c, k0_dev20_lt c⟩ (tiles9 c) (tiles10 c) (drainArgs c 16) (drainArgs c 17) (drainArgs c 18) (drainArgs c 19) >>= fun _ => relayP 0 ⟨k0_dev21 c, k0_dev21_lt c⟩ ⟨k0_dev22 c, k0_dev22_lt c⟩ >>= k) Q) :=
    wp_round A K 4 (by omega) c ⟨k0_dev19 c, k0_dev19_lt c⟩ ⟨k0_dev20 c, k0_dev20_lt c⟩ ⟨k0_dev21 c, k0_dev21_lt c⟩ ⟨k0_dev22 c, k0_dev22_lt c⟩ (Fin.ext (k0_dev19_eq c)) (Fin.ext (k0_dev20_eq c)) (Fin.ext (k0_dev21_eq c)) (Fin.ext (k0_dev22_eq c)) B (tiles9 c) (tiles10 c) e9 e10 _ _ _ _
  have h5 {α : Type} {k : PUnit → KProg F α} {Q : α → sProp 𝕄} : iprop(recs A K ∗ levAts L lv ∗ Before A B c 5) ⊢ iprop((Before A B c 6 -∗ wp frame (wpE defs₀ 𝒱₀ (c : Thread nD τ) none) Set.univ (k ⟨⟩) Q)
        -∗ wp frame (wpE defs₀ 𝒱₀ (c : Thread nD τ) none) Set.univ
          (hopP 1 0 ⟨k0_dev23 c, k0_dev23_lt c⟩ ⟨k0_dev24 c, k0_dev24_lt c⟩ (tiles11 c) (tiles12 c) (drainArgs c 20) (drainArgs c 21) (drainArgs c 22) (drainArgs c 23) >>= fun _ => relayP 1 ⟨k0_dev25 c, k0_dev25_lt c⟩ ⟨k0_dev26 c, k0_dev26_lt c⟩ >>= k) Q) :=
    wp_round A K 5 (by omega) c ⟨k0_dev23 c, k0_dev23_lt c⟩ ⟨k0_dev24 c, k0_dev24_lt c⟩ ⟨k0_dev25 c, k0_dev25_lt c⟩ ⟨k0_dev26 c, k0_dev26_lt c⟩ (Fin.ext (k0_dev23_eq c)) (Fin.ext (k0_dev24_eq c)) (Fin.ext (k0_dev25_eq c)) (Fin.ext (k0_dev26_eq c)) B (tiles11 c) (tiles12 c) e11 e12 _ _ _ _
  have last := wp_last A K c ⟨k0_dev27 c, k0_dev27_lt c⟩ ⟨k0_dev28 c, k0_dev28_lt c⟩ (Fin.ext (k0_dev27_eq c)) (Fin.ext (k0_dev28_eq c)) B (tiles13 c) (tiles14 c) (tiles15 c) (tiles16 c) e13 e14 e15 e16
    (drainArgs c 24) (drainArgs c 25) (drainArgs c 26) (drainArgs c 27) (drainArgs c 28) (drainArgs c 29) (drainArgs c 30) (drainArgs c 31) (Q := Q)
  unfold wholeP
  simp only [Prog.lift, Prog.bind_op, Prog.bind_ret, wp_deviceId]
  rw [← Prog.bind_pure (productsP _ _ _ _ _ _)]
  iintro ⟨#HR, #HM, #HL, HS, Hm, Ho, HO⟩ Hk
  iapply r0 $$ [HS Hm Ho HO]
  · isplitr; · iexact HR
    isplitr; · iexact HM
    isplitr; · iexact HL
    isplitl [HS]; · iexact HS
    isplitl [Hm]; · iexact Hm
    isplitl [Ho] <;> iassumption
  iintro ⟨HB, Ha, Hl, Hbar⟩
  iapply h0 $$ [HB]
  · isplitr; · iexact HR
    isplitr; · iexact HL
    iexact HB
  iintro HB
  iapply h1 $$ [HB]
  · isplitr; · iexact HR
    isplitr; · iexact HL
    iexact HB
  iintro HB
  iapply h2 $$ [HB]
  · isplitr; · iexact HR
    isplitr; · iexact HL
    iexact HB
  iintro HB
  iapply h3 $$ [HB]
  · isplitr; · iexact HR
    isplitr; · iexact HL
    iexact HB
  iintro HB
  iapply h4 $$ [HB]
  · isplitr; · iexact HR
    isplitr; · iexact HL
    iexact HB
  iintro HB
  iapply h5 $$ [HB]
  · isplitr; · iexact HR
    isplitr; · iexact HL
    iexact HB
  iintro HB
  iapply last $$ [HB Ha Hl Hbar]
  · isplitr; · iexact HR
    isplitr; · iexact HL
    isplitl [HB]; · iexact HB
    isplitl [Ha]; · iexact Ha
    isplitl [Hl] <;> iassumption
  iexact Hk

end Cert.KernelIdeal.Ring
-- ==== Proof.Deal.lean ====
/- Dealing the cells, the duties and the credits out at launch. -/
module

public import proofs.«01_k».proof.Proof.Body
public import Idealize.ShloMosaic.Lib.SparseCore.Launch

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (A : Dev nD → S4096x2048.Idx → Elt F .bf16)

/-! ## Which cells and which duties there are -/

/-- Different devices' kinds have different cells. -/
theorem cell_inj : Function.Injective (fun p : Dev nD × Kind => cell p.1 p.2) := by
  rintro ⟨c, k⟩ ⟨c', k'⟩ h
  have h1 : c = c' := congrArg (fun g : GSem nD τ sig => g.1.1) h
  have h2 : k = k' := ksem_inj (congrArg Prod.snd h)
  rw [h1, h2]
/-- The cells the devices share. -/
def ringCells : Finset (GSem nD τ sig) := Finset.univ.map ⟨fun p : Dev nD × Kind => cell p.1 p.2, cell_inj⟩

/-- A device's duties in a direction: the barrier's, a send's and a receive's at each of seven hops, a credit at each of six. -/
abbrev Job : Type := Bool × (Unit ⊕ (Fin 7 ⊕ (Fin 7 ⊕ Fin 6)))
/-- On whose cell a device's duty is. -/
def jobDev : Job → Dev nD → Dev nD
  | (d, .inl _), c => pv d c
  | (_, .inr (.inl _)), c => c
  | (d, .inr (.inr (.inl _))), c => nx d c
  | (d, .inr (.inr (.inr _))), c => pv d c
/-- The cell's kind, the round and the duty's name. -/
def jobKey : Job → Kind × ℕ × Bool
  | (d, .inl _) => (.bar, 0, d)
  | (d, .inr (.inl h)) => (.send d (sl h.val), h.val / 2, false)
  | (d, .inr (.inr (.inl h))) => (.recv d (sl (h.val + 1)), h.val / 2, false)
  | (d, .inr (.inr (.inr h))) => (.cred d (sl h.val), h.val / 2, false)
/-- Different duties have different keys. -/
theorem jobKey_inj : Function.Injective jobKey := by
  have h : ∀ a b : Job, jobKey a = jobKey b → a = b := by decide +kernel
  exact fun a b => h a b
/-- A duty is owed to a different device by each device. -/
theorem jobDev_inj (j : Job) : Function.Injective (jobDev j) := by
  have h : ∀ (j : Job) (a b : Dev nD), jobDev j a = jobDev j b → a = b := by decide +kernel
  exact fun a b => h j a b
/-- A device's duty's token. -/
def tokOf (p : Dev nD × Job) : GSem nD τ sig × ℕ × Bool := (cell (jobDev p.2 p.1) (jobKey p.2).1, (jobKey p.2).2.1, (jobKey p.2).2.2)
/-- Different devices' duties have different tokens. -/
theorem tokOf_inj : Function.Injective tokOf := by
  rintro ⟨c, j⟩ ⟨c', j'⟩ h
  have hc : ((jobDev j c, (jobKey j).1) : Dev nD × Kind) = (jobDev j' c', (jobKey j').1) := cell_inj (congrArg Prod.fst h)
  have h2 : (jobKey j).2 = (jobKey j').2 := congrArg (fun x : GSem nD τ sig × ℕ × Bool => x.2) h
  have h1 : (jobKey j).1 = (jobKey j').1 := congrArg (fun x : Dev nD × Kind => x.2) hc
  have hj : j = j' := jobKey_inj (Prod.ext h1 h2)
  subst hj
  rw [jobDev_inj j (congrArg Prod.fst hc)]
/-- The duties' tokens. -/
def ringToks : Finset (GSem nD τ sig × ℕ × Bool) := Finset.univ.map ⟨tokOf, tokOf_inj⟩

/-- The tokens of the duties a device pays in a direction. -/
def toksD (c : Dev nD) (d : Bool) : sProp 𝕄 :=
  iprop(dutyTok ER (cell (pv d c) .bar) 0 d
    ∗ bigSep (Finset.Ico 0 7) (fun h => dutyTok ER (cell c (.send d (sl h))) (h / 2) false)
    ∗ bigSep (Finset.Ico 0 7) (fun h => dutyTok ER (cell (nx d c) (.recv d (sl (h + 1)))) (h / 2) false)
    ∗ bigSep (Finset.Ico 0 6) (fun h => dutyTok ER (cell (pv d c) (.cred d (sl h))) (h / 2) false))
/-- The tokens of the duties a device pays. -/
def toks (c : Dev nD) : sProp 𝕄 := iprop(toksD c false ∗ toksD c true)

/-- A conjunction over the numbers below `n`. -/
theorem bigSep_fin (n : ℕ) (Φ : ℕ → sProp 𝕄) : (bigSep Finset.univ fun i : Fin n => Φ i.val) = bigSep (Finset.Ico 0 n) Φ := by
  rw [show Finset.Ico 0 n = Finset.univ.map (Fin.valEmbedding (n := n)) from by
    rw [Fin.map_valEmbedding_univ]; ext k; simp, bigSep_map]
  rfl
/-- A conjunction over the directions. -/
theorem bigSep_bool (Φ : Bool → sProp 𝕄) : bigSep Finset.univ Φ = iprop(Φ false ∗ Φ true) := by
  rw [bigSep_univ_eq_bigSepL [false, true] (by decide) (by decide)]; rfl
/-- The minted tokens are each device's. -/
theorem ringToks_eq : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  rw [bigSep_univ_prod, bigSep_bool]
  have side (d : Bool) : (bigSep Finset.univ fun j : Unit ⊕ (Fin 7 ⊕ (Fin 7 ⊕ Fin 6)) =>
      (dutyTok ER (tokOf (c, (d, j))).1 (tokOf (c, (d, j))).2.1 (tokOf (c, (d, j))).2.2 : sProp 𝕄)) = toksD c d := by
    rw [bigSep_univ_sum, bigSep_univ_sum, bigSep_univ_sum]
    unfold toksD
    rw [← bigSep_fin 7, ← bigSep_fin 7, ← bigSep_fin 6, bigSep_univ_eq_bigSepL [()] (by decide) (by decide)]
    rfl
  unfold toks
  rw [← side false, ← side true]
  rfl

/-! ## The launch's funds -/

/-- The funds: the staged copy's and the ring's. -/
def u₀ : UU := (initOf (Pipeline.cells cfgs cellOf_inj) (Pipeline.launchToks cfgs cellOf_inj), (initOf ringCells ringToks, 1))
/-- A device's funds. -/
def G (c : Dev nD) : sProp 𝕄 :=
  iprop(bigSep Finset.univ (fun k : Kind => roundState ER (Rd A) (cell c k) 0) ∗ bigSep Finset.univ (fun k => pos c k 0) ∗ toks c)
/-- The ring's funds are the devices'. -/
theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun k : Kind => Φ (cell c k) := by
    unfold ringCells; rw [bigSep_map, bigSep_univ_prod]; rfl
  unfold G pos
  simp only [bigSep_sep']
  iintro HX
  imod (Rounds.fund ER (Rd A) ringCells ringToks) $$ HX with ⟨Hst, Hr, Hat, Htok⟩
  imodintro
  ihave Hst := (Entails.of_eq (hX fun g => roundState ER (Rd A) g 0)) $$ Hst
  ihave Hat := (Entails.of_eq (hX fun g => atPos ER g 0 ∅ 0)) $$ Hat
  ihave Hr := (Entails.of_eq (hX fun g => reached ER g 0)) $$ Hr
  ihave Htok := (Entails.of_eq ringToks_eq) $$ Htok
  isplitl [Hst]; · iexact Hst
  isplitl [Hat Hr]
  · isplitl [Hat] <;> iassumption
  iexact Htok

/-! ## The semaphores -/

/-- The kernel's own semaphores: the ring's, then the staging slots' and the load's. -/
def osem : Fin 15 → SemLoc sig
  | 0 => ksem (.send false 0) | 1 => ksem (.send false 1) | 2 => ksem (.recv false 0) | 3 => ksem (.recv false 1) | 4 => ksem (.cred false 0) | 5 => ksem (.cred false 1)
  | 6 => ksem (.send true 0) | 7 => ksem (.send true 1) | 8 => ksem (.recv true 0) | 9 => ksem (.recv true 1) | 10 => ksem (.cred true 0) | 11 => ksem (.cred true 1)
  | 12 => .dma (stgS 0) | 13 => .dma (stgS 1) | 14 => .dma loadS
/-- The kernel's own semaphores are listed once each. -/
theorem ownSemFacts : Pipeline.OwnSemFacts cfg0.spec osem := by decide +kernel
/-- A device's semaphores that no other device reaches, at zero. -/
def privs (c : Dev nD) : sProp 𝕄 :=
  iprop(semVal ((c : Thread nD τ), SemLoc.dma (stgS 0)) 0 ∗ semVal ((c : Thread nD τ), SemLoc.dma (stgS 1)) 0 ∗ semVal ((c : Thread nD τ), SemLoc.dma loadS) 0)
/-- The one semaphore outside the region is the barrier's. -/
theorem unscopedSems0_eq (c : Dev nD) : (unscopedSems0 c : sProp 𝕄) = semVal (cell c .bar) 0 := by
  unfold unscopedSems0; rw [bigSep_eq_bigSepL_of_eq [SemLoc.reg barS] (by decide +kernel) (by decide +kernel)]; rfl
/-- The region's own semaphores, listed. -/
theorem ownSems0_eq (c : Dev nD) : (Pipeline.ownSems0 (Ix := ℕ) (Name := ℕ) (U := UU) (Lvl := ℕ) (Val := Elt F) (τ := τ) osem c : sProp 𝕄)
    = iprop(semVal (cell c (.send false 0)) 0 ∗ semVal (cell c (.send false 1)) 0 ∗ semVal (cell c (.recv false 0)) 0 ∗ semVal (cell c (.recv false 1)) 0
      ∗ semVal (cell c (.cred false 0)) 0 ∗ semVal (cell c (.cred false 1)) 0 ∗ semVal (cell c (.send true 0)) 0 ∗ semVal (cell c (.send true 1)) 0
      ∗ semVal (cell c (.recv true 0)) 0 ∗ semVal (cell c (.recv true 1)) 0 ∗ semVal (cell c (.cred true 0)) 0 ∗ semVal (cell c (.cred true 1)) 0
      ∗ semVal ((c : Thread nD τ), SemLoc.dma (stgS 0)) 0 ∗ semVal ((c : Thread nD τ), SemLoc.dma (stgS 1)) 0 ∗ semVal ((c : Thread nD τ), SemLoc.dma loadS) 0) := by
  rw [Pipeline.ownSems0_eq_of_list c osem [0, 1, 2, 3, 4, 5, 6, 7, 8, 9, 10, 11, 12, 13, 14] (by decide) (by decide)]; rfl
/-- The own semaphores and the barrier's are the shared ones and the private ones. -/
theorem sems_split (c : Dev nD) : (iprop(Pipeline.ownSems0 (Ix := ℕ) (Name := ℕ) (U := UU) (Lvl := ℕ) (Val := Elt F) (τ := τ) osem c ∗ semVal (cell c .bar) 0) : sProp 𝕄)
    ⊢ iprop(bigSep Finset.univ (fun k => semVal (cell c k) 0) ∗ privs c) := by
  rw [ownSems0_eq, bigSep_kind]
  unfold privs
  iintro ⟨⟨H1, H2, H3, H4, H5, H6, H7, H8, H9, H10, H11, H12, H13⟩, Hb⟩
  isplitr [H13]
  · isplitl [Hb]; · iexact Hb
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11] <;> iassumption
  iexact H13
/-- The shared semaphores and the private ones are the own ones and the barrier's. -/
theorem sems_join (c : Dev nD) : (iprop(bigSep Finset.univ (fun k => semVal (cell c k) 0) ∗ privs c) : sProp 𝕄)
    ⊢ iprop(Pipeline.ownSems0 (Ix := ℕ) (Name := ℕ) (U := UU) (Lvl := ℕ) (Val := Elt F) (τ := τ) osem c ∗ semVal (cell c .bar) 0) := by
  rw [ownSems0_eq, bigSep_kind]
  unfold privs
  iintro ⟨⟨Hb, H1, H2, H3, H4, H5, H6, H7, H8, H9, H10, H11, H12⟩, H13⟩
  isplitr [Hb]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12] <;> iassumption
  iexact Hb

/-! ## Every cell's record -/

/-- What a device starts from: every cell's record, its own positions, tokens and private semaphores. -/
def G' (c : Dev nD) : sProp 𝕄 := iprop((∃ K, recs A K) ∗ marks ∗ bigSep Finset.univ (fun k => pos c k 0) ∗ toks c ∗ privs c)
/-- A device's shared semaphores become its cells. -/
theorem core_alloc (c : Dev nD) :
    iprop(Pipeline.ownSems0 (Ix := ℕ) (Name := ℕ) (U := UU) (Lvl := ℕ) (Val := Elt F) (τ := τ) osem c ∗ unscopedSems0 c ∗ G A c)
      ⊢ |={Set.univ}=> iprop((bigSep Finset.univ fun k => iprop(∃ κ : ℕ, cellInv ER (Rd A) κ (cell c k))) ∗ bigSep Finset.univ (fun k => pos c k 0) ∗ toks c ∗ privs c) := by
  have alloc : iprop((bigSep Finset.univ fun k : Kind => semVal (cell c k) 0) ∗ bigSep Finset.univ fun k : Kind => roundState ER (Rd A) (cell c k) 0)
      ⊢ (|={Set.univ}=> bigSep Finset.univ fun k => iprop(∃ κ : ℕ, cellInv ER (Rd A) κ (cell c k)) : sProp 𝕄) := by
    rw [← bigSep_sep']
    exact (bigSep_mono fun k _ => (Rounds.body_intro ER (Rd A) (cell c k)).trans inv_alloc).trans (bigSep_fupd _ _)
  have split := sems_split (F := F) c
  unfold G
  rw [unscopedSems0_eq]
  iintro ⟨Ho, Hb, Hst, Hp, Ht⟩
  ihave Hs := split $$ [Ho Hb]
  · isplitl [Ho] <;> iassumption
  icases Hs with ⟨Hv, Hl⟩
  imod alloc $$ [Hv Hst] with Hinv
  · isplitl [Hv] <;> iassumption
  imodintro
  isplitl [Hinv]; · iexact Hinv
  isplitl [Hp]; · iexact Hp
  isplitl [Ht] <;> iassumption
/-- Every device learns every cell's record. -/
theorem regroup :
    (bigSep Finset.univ fun c : Dev nD => iprop((bigSep Finset.univ fun k : Kind => iprop(∃ κ : ℕ, cellInv ER (Rd A) κ (cell c k)))
        ∗ bigSep Finset.univ (fun k => pos c k 0) ∗ toks c ∗ privs c) : sProp 𝕄) ⊢ bigSep Finset.univ (G' A) := by
  have start (K : Dev nD × Kind → ℕ) (c : Dev nD) : iprop((recs A K ∗ marks) ∗ (bigSep Finset.univ (fun k => pos c k 0) ∗ toks c ∗ privs c)) ⊢ G' A c := by
    unfold G'
    iintro ⟨⟨#HI, #HM⟩, Hp, Ht, Hl⟩
    isplitr; · iexists K; iexact HI
    isplitr; · iexact HM
    isplitl [Hp]; · iexact Hp
    isplitl [Ht] <;> iassumption
  have spread (K : Dev nD × Kind → ℕ) : iprop((recs A K ∗ marks) ∗ bigSep Finset.univ fun c : Dev nD => iprop(bigSep Finset.univ (fun k => pos c k 0) ∗ toks c ∗ privs c))
      ⊢ bigSep Finset.univ (G' A) :=
    (sep_mono_left (BI.bigSep_of_persistent Finset.univ iprop(recs A K ∗ marks))).trans (by rw [← bigSep_sep']; exact bigSep_mono fun c _ => start K c)
  have begun : (bigSep Finset.univ fun c : Dev nD => iprop(bigSep Finset.univ (fun k => pos c k 0) ∗ toks c ∗ privs c) : sProp 𝕄)
      ⊢ iprop(marks ∗ bigSep Finset.univ fun c : Dev nD => iprop(bigSep Finset.univ (fun k => pos c k 0) ∗ toks c ∗ privs c)) := by
    have one (c : Dev nD) (k : Kind) : (pos c k 0 : sProp 𝕄) ⊢ iprop(reached ER (cell c k) 0 ∗ pos c k 0) := by
      unfold pos
      iintro ⟨Ha, #Hr⟩
      isplitr; · iexact Hr
      isplitl [Ha]; · iexact Ha
      iexact Hr
    have dev (c : Dev nD) : (iprop(bigSep Finset.univ (fun k => pos c k 0) ∗ toks c ∗ privs c) : sProp 𝕄)
        ⊢ iprop(bigSep Finset.univ (fun k => reached ER (cell c k) 0) ∗ bigSep Finset.univ (fun k => pos c k 0) ∗ toks c ∗ privs c) := by
      have all : (bigSep Finset.univ (fun k => pos c k 0) : sProp 𝕄) ⊢ iprop(bigSep Finset.univ (fun k => reached ER (cell c k) 0) ∗ bigSep Finset.univ (fun k => pos c k 0)) := by
        rw [← bigSep_sep']; exact bigSep_mono fun k _ => one c k
      iintro ⟨Hp, Ht⟩
      ihave Hp := all $$ Hp
      icases Hp with ⟨Hr, Hp⟩
      isplitl [Hr]; · iexact Hr
      isplitl [Hp] <;> iassumption
    unfold marks
    rw [bigSep_univ_prod, ← bigSep_sep' Finset.univ (fun c : Dev nD => bigSep Finset.univ fun k : Kind => reached ER (cell c k) 0)]
    exact bigSep_mono fun c _ => dev c
  rw [bigSep_sep', ← bigSep_univ_prod (fun p : Dev nD × Kind => iprop(∃ κ : ℕ, cellInv ER (Rd A) κ (cell p.1 p.2)))]
  iintro ⟨HI, H⟩
  ihave HK := (BI.bigSep_exists_pi Finset.univ (fun (p : Dev nD × Kind) (κ : ℕ) => (cellInv ER (Rd A) κ (cell p.1 p.2) : sProp 𝕄))) $$ HI
  icases HK with ⟨%K, HI⟩
  ihave H := begun $$ H
  icases H with ⟨#HM, H⟩
  iapply (spread K)
  isplitr [H]
  · isplitl [HI]
    · unfold recs; iexact HI
    iexact HM
  iexact H
/-- The shared semaphores of every device become cells whose records every device holds. -/
theorem glob : (bigSep Finset.univ fun c => iprop(Pipeline.ownSems0 (Ix := ℕ) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credits -/

/-- A device's credits of a direction's receives and credits. -/
theorem creds_recv (c : Dev nD) (d : Bool) (k : ℕ) : (Pipeline.launchCred (fun e => oweR e d k) c : sProp 𝕄) ⊢ cred (tallyAt (cell c (.recv d (sl (k + 1)))) (2 * k + 3) NS) :=
  Pipeline.launchCred_tallyAt (ksem (.recv d (sl (k + 1)))) (nx d) (pv d) (nx_pv d) (pv_nx d) (2 * k + 3) NS c
/-- A device's credits for the units a slot's credit brings. -/
theorem creds_cred (c : Dev nD) (d : Bool) (k : ℕ) : (Pipeline.launchCred (fun e => oweC e d k) c : sProp 𝕄) ⊢ cred (tallyAt (cell c (.cred d (sl k))) (2 * k + 4) 1) :=
  Pipeline.launchCred_tallyAt (ksem (.cred d (sl k))) (pv d) (nx d) (pv_nx d) (nx_pv d) (2 * k + 4) 1 c
/-- A device's two credits at the barrier, from its two neighbours. -/
theorem creds_bar (c : Dev nD) : (iprop(Pipeline.launchCred (fun e => oweB e (nxt e)) c ∗ Pipeline.launchCred (fun e => oweB e (prv e)) c) : sProp 𝕄) ⊢ cred (tallyAt (cell c .bar) 1 2) := by
  have h1 : (Pipeline.launchCred (fun e => oweB e (nxt e)) c : sProp 𝕄) ⊢ cred (tallyAt (cell c .bar) 1 1) :=
    Pipeline.launchCred_tallyAt (ksem .bar) (nx false) (pv false) (nx_pv false) (pv_nx false) 1 1 c
  have h2 : (Pipeline.launchCred (fun e => oweB e (prv e)) c : sProp 𝕄) ⊢ cred (tallyAt (cell c .bar) 1 1) :=
    Pipeline.launchCred_tallyAt (ksem .bar) (pv false) (nx false) (pv_nx false) (nx_pv false) 1 1 c
  rw [show (tallyAt (cell c .bar) 1 2 : CellTallies nD τ sig ℕ) = tallyAt (cell c .bar) 1 1 + tallyAt (cell c .bar) 1 1 from (tallyAt_add _ _ 1 1).symm]
  exact (Laws.sep_mono h1 h2).trans (cred_add _ _).2
/-- The credits a device starts with. -/
theorem creds (c : Dev nD) : (Pipeline.launchCred O₀ c : sProp 𝕄) ⊢ iprop(cred (tallyAt (cell c .bar) 1 2)
    ∗ bigSep (Finset.Ico 0 7) (fun k => iprop(cred (tallyAt (cell c (.recv false (sl (k + 1)))) (2 * k + 3) NS) ∗ cred (tallyAt (cell c (.recv true (sl (k + 1)))) (2 * k + 3) NS)))
    ∗ bigSep (Finset.Ico 0 6) (fun k => iprop(cred (tallyAt (cell c (.cred false (sl k))) (2 * k + 4) 1) ∗ cred (tallyAt (cell c (.cred true (sl k))) (2 * k + 4) 1)))) := by
  have hR : (Pipeline.launchCred (fun e => ∑ k ∈ Finset.Ico 0 7, (oweR e false k + oweR e true k)) c : sProp 𝕄)
      ⊢ bigSep (Finset.Ico 0 7) (fun k => iprop(cred (tallyAt (cell c (.recv false (sl (k + 1)))) (2 * k + 3) NS) ∗ cred (tallyAt (cell c (.recv true (sl (k + 1)))) (2 * k + 3) NS))) := by
    rw [Pipeline.launchCred_sum (Finset.Ico 0 7) (fun k e => oweR e false k + oweR e true k) c]
    exact bigSep_mono fun k _ => by
      rw [Pipeline.launchCred_add (fun e => oweR e false k) (fun e => oweR e true k) c]
      exact Laws.sep_mono (creds_recv c false k) (creds_recv c true k)
  have hC : (Pipeline.launchCred (fun e => ∑ k ∈ Finset.Ico 0 6, (oweC e false k + oweC e true k)) c : sProp 𝕄)
      ⊢ bigSep (Finset.Ico 0 6) (fun k => iprop(cred (tallyAt (cell c (.cred false (sl k))) (2 * k + 4) 1) ∗ cred (tallyAt (cell c (.cred true (sl k))) (2 * k + 4) 1))) := by
    rw [Pipeline.launchCred_sum (Finset.Ico 0 6) (fun k e => oweC e false k + oweC e true k) c]
    exact bigSep_mono fun k _ => by
      rw [Pipeline.launchCred_add (fun e => oweC e false k) (fun e => oweC e true k) c]
      exact Laws.sep_mono (creds_cred c false k) (creds_cred c true k)
  have hB := creds_bar (F := F) c
  rw [show (O₀ : Dev nD → CellTallies nD τ sig ℕ) = fun e => (((∑ k ∈ Finset.Ico 0 7, (oweR e false k + oweR e true k)) + ∑ k ∈ Finset.Ico 0 6, (oweC e false k + oweC e true k))
      + oweB e (nxt e)) + oweB e (prv e) from rfl,
    Pipeline.launchCred_add (fun e => ((∑ k ∈ Finset.Ico 0 7, (oweR e false k + oweR e true k)) + ∑ k ∈ Finset.Ico 0 6, (oweC e false k + oweC e true k)) + oweB e (nxt e)) (fun e => oweB e (prv e)) c,
    Pipeline.launchCred_add (fun e => (∑ k ∈ Finset.Ico 0 7, (oweR e false k + oweR e true k)) + ∑ k ∈ Finset.Ico 0 6, (oweC e false k + oweC e true k)) (fun e => oweB e (nxt e)) c,
    Pipeline.launchCred_add (fun e => ∑ k ∈ Finset.Ico 0 7, (oweR e false k + oweR e true k)) (fun e => ∑ k ∈ Finset.Ico 0 6, (oweC e false k + oweC e true k)) c]
  iintro ⟨⟨⟨Hr, Hc⟩, Hn⟩, Hp⟩
  isplitl [Hn Hp]
  · iapply hB
    isplitl [Hn] <;> iassumption
  isplitl [Hr]
  · iapply hR; iexact Hr
  iapply hC; iexact Hc

/-- A device's positions, tokens and credits are what its part of the ring starts with. -/
theorem ring_start (c : Dev nD) : (iprop(bigSep Finset.univ (fun k => pos c k 0) ∗ toks c ∗ Pipeline.launchCred O₀ c) : sProp 𝕄) ⊢ ringStart c := by
  have h := creds (F := F) c
  unfold ringStart toks toksD sendTok credTok
  simp only [bigSep_sep'] at h ⊢
  iintro ⟨Hp, ⟨⟨Hb, Hs, Hr, Hc⟩, Hb', Hs', Hr', Hc'⟩, HK⟩
  ihave HK := h $$ HK
  icases HK with ⟨Kb, ⟨Kr, Kr'⟩, Kc, Kc'⟩
  isplitl [Hp]; · iexact Hp
  isplitl [Hb Hb' Kb]
  · isplitl [Hb]; · iexact Hb
    isplitl [Hb'] <;> iassumption
  isplitl [Hs Hr Kr Hs' Hr' Kr']
  · isplitl [Hs Hr Kr]
    · isplitl [Hs]; · iexact Hs
      isplitl [Hr] <;> iassumption
    · isplitl [Hs']; · iexact Hs'
      isplitl [Hr'] <;> iassumption
  isplitl [Hc Kc]
  · isplitl [Hc] <;> iassumption
  isplitl [Hc'] <;> iassumption

end Cert.KernelIdeal.Ring
-- ==== Proof.Launch.lean ====
/- The program's run. -/
module

public import proofs.«01_k».proof.Proof.Deal
public import proofs.«01_k».proof.Proof.Gen.KernelIdeal.Launch
public import Idealize.ShloMosaic.Lib.Pipeline.ValueKit
public import Idealize.ShloMosaic.Lib.Pipeline.CollectiveSegs

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## The kernel's buffers, whole -/

/-- A direction's two slots are its buffer. -/
theorem slots_split (d : Bool) (c : Dev nD) (f : Buf (Elt F) ((commM d).view.loc (c : Thread nD τ))) :
    ((commM d).view.loc (c : Thread nD τ) ↦{fullShare} f : sProp 𝕄) ⊢ iprop(slotAny d 0 c ∗ slotAny d 1 c) := by
  have h : ((commM d).view.loc (c : Thread nD τ) ↦{fullShare} f : sProp 𝕄)
      ⊢ iprop(((commM d).view.loc (c : Thread nD τ) ↦[slotSet d 0]{fullShare} f) ∗ ((commM d).view.loc (c : Thread nD τ) ↦[slotSet d 1]{fullShare} f)) := by
    rw [← slots_cover d]
    exact (pointsTo_union (slots_disjoint d (by decide))).1
  unfold slotAny
  iintro H
  ihave H := h $$ H
  icases H with ⟨H0, H1⟩
  isplitl [H0]
  · iexists f; iexact H0
  iexists f; iexact H1
/-- A direction's two slots make its buffer. -/
theorem slots_join (d : Bool) (c : Dev nD) :
    (iprop(slotAny d 0 c ∗ slotAny d 1 c) : sProp 𝕄) ⊢ iprop(∃ f : Buf (Elt F) ((commM d).view.loc (c : Thread nD τ)), (commM d).view.loc (c : Thread nD τ) ↦{fullShare} f) := by
  have h (f g : Buf (Elt F) ((commM d).view.loc (c : Thread nD τ))) :
      (iprop(((commM d).view.loc (c : Thread nD τ) ↦[slotSet d 0]{fullShare} f) ∗ ((commM d).view.loc (c : Thread nD τ) ↦[slotSet d 1]{fullShare} g)) : sProp 𝕄)
        ⊢ ((commM d).view.loc (c : Thread nD τ) ↦{fullShare} ((slotSet d 1).piecewise g f)) := by
    rw [← slots_cover d]
    exact pointsTo_join (slots_disjoint d (by decide))
  unfold slotAny
  iintro ⟨⟨%f, H0⟩, ⟨%g, H1⟩⟩
  iexists ((slotSet d 1).piecewise g f)
  iapply (h f g)
  isplitl [H0]
  · iexact H0
  iexact H1
/-- The staging buffer's two slots are the buffer. -/
theorem stgs_split (c : Dev nD) (f : Buf (Elt F) (gM.view.loc (c : Thread nD τ))) :
    (gM.view.loc (c : Thread nD τ) ↦{fullShare} f : sProp 𝕄) ⊢ iprop(stgAny c 0 ∗ stgAny c 1) := by
  have h : (gM.view.loc (c : Thread nD τ) ↦{fullShare} f : sProp 𝕄)
      ⊢ iprop((gM.view.loc (c : Thread nD τ) ↦[stgSet 0]{fullShare} f) ∗ (gM.view.loc (c : Thread nD τ) ↦[stgSet 1]{fullShare} f)) := by
    rw [← stgs_cover]
    exact (pointsTo_union stgs_disjoint).1
  unfold stgAny
  iintro H
  ihave H := h $$ H
  icases H with ⟨H0, H1⟩
  isplitl [H0]
  · iexists f; iexact H0
  iexists f; iexact H1
/-- The two staging slots make their buffer. -/
theorem stgs_join (c : Dev nD) :
    (iprop(stgAny c 0 ∗ stgAny c 1) : sProp 𝕄) ⊢ iprop(∃ f : Buf (Elt F) (gM.view.loc (c : Thread nD τ)), gM.view.loc (c : Thread nD τ) ↦{fullShare} f) := by
  have h (f g : Buf (Elt F) (gM.view.loc (c : Thread nD τ))) :
      (iprop((gM.view.loc (c : Thread nD τ) ↦[stgSet 0]{fullShare} f) ∗ (gM.view.loc (c : Thread nD τ) ↦[stgSet 1]{fullShare} g)) : sProp 𝕄)
        ⊢ (gM.view.loc (c : Thread nD τ) ↦{fullShare} ((stgSet 1).piecewise g f)) := by
    rw [← stgs_cover]
    exact pointsTo_join stgs_disjoint
  unfold stgAny
  iintro ⟨⟨%f, H0⟩, ⟨%g, H1⟩⟩
  iexists ((stgSet 1).piecewise g f)
  iapply (h f g)
  isplitl [H0]
  · iexact H0
  iexact H1

/-- The kernel's own buffers and private semaphores. -/
def room (c : Dev nD) : sProp 𝕄 :=
  iprop((slotAny false 0 c ∗ slotAny false 1 c) ∗ (slotAny true 0 c ∗ slotAny true 1 c) ∗ (stgAny c 0 ∗ stgAny c 1) ∗ privs c)
/-- The region's buffers and the private semaphores are the kernel's room. -/
theorem room_intro (c : Dev nD) : (iprop(Pipeline.scopedRest spec0 c ∗ privs c) : sProp 𝕄) ⊢ room c := by
  rw [scopedRest0_eq]
  unfold room
  iintro ⟨⟨⟨%f, Hf⟩, ⟨%g, Hg⟩, ⟨%h, Hh⟩⟩, Hp⟩
  isplitl [Hf]
  · iapply (slots_split false c f); iexact Hf
  isplitl [Hg]
  · iapply (slots_split true c g); iexact Hg
  isplitl [Hh]
  · iapply (stgs_split c h); iexact Hh
  iexact Hp
/-- The kernel's room gives back its scratch and its private semaphores. -/
theorem room_elim (c : Dev nD) : (room c : sProp 𝕄) ⊢ iprop(Pipeline.scopedRest spec0 c ∗ privs c) := by
  rw [scopedRest0_eq]
  have hf : (iprop(slotAny false 0 c ∗ slotAny false 1 c) : sProp 𝕄) ⊢ iprop(∃ f : Buf (Elt F) ((c : Thread nD τ).loc cc0_scratch0), ((c : Thread nD τ).loc cc0_scratch0) ↦{fullShare} f) := slots_join false c
  have ht : (iprop(slotAny true 0 c ∗ slotAny true 1 c) : sProp 𝕄) ⊢ iprop(∃ f : Buf (Elt F) ((c : Thread nD τ).loc cc0_scratch1), ((c : Thread nD τ).loc cc0_scratch1) ↦{fullShare} f) := slots_join true c
  have hg : (iprop(stgAny c 0 ∗ stgAny c 1) : sProp 𝕄) ⊢ iprop(∃ f : Buf (Elt F) ((c : Thread nD τ).loc cc0_scratch2), ((c : Thread nD τ).loc cc0_scratch2) ↦{fullShare} f) := stgs_join c
  unfold room
  iintro ⟨Hf, Ht, Hg, Hp⟩
  ihave Hf := hf $$ Hf
  ihave Ht := ht $$ Ht
  ihave Hg := hg $$ Hg
  isplitr [Hp]
  · isplitl [Hf]; · iexact Hf
    isplitl [Ht] <;> iassumption
  iexact Hp

/-! ## The region -/

section Run
variable (m : (ℓ : Loc nD τ sig) → Buf (Elt F) ℓ) (ρ : Dev nD → PrngReg)

/-- The devices' rows of `A`. -/
def AA (c : Dev nD) : S4096x2048.Idx → Elt F .bf16 := m ((c : Thread nD τ).loc main_arg0)
/-- A device's `B`. -/
def BB (c : Dev nD) : S2048x4096.Idx → Elt F .bf16 := m ((c : Thread nD τ).loc main_arg1)
/-- What the result array ends as. -/
def RR (c : Dev nD) : S32768x4096.Idx → Elt F .bf16 := OUT (AA m) (BB m c)

/-- What a device brings to the region. -/
def start (c : Dev nD) : sProp 𝕄 :=
  iprop(((∃ K, recs (AA m) K) ∗ marks ∗ levAts L lv) ∗ ringStart c ∗ aHas c (AA m c) ∗ (∃ f, oM.view.loc (c : Thread nD τ) ↦{fullShare} f) ∗ privs c)
/-- What the kernel starts from. -/
def Φ₀ (c : Dev nD) : sProp 𝕄 :=
  iprop(((∃ K, recs (AA m) K) ∗ marks ∗ levAts L lv) ∗ ringStart c ∗ aHas c (AA m c) ∗ (∃ f, oM.view.loc (c : Thread nD τ) ↦{fullShare} f) ∗ room c)
/-- What it ends with. -/
def Φ₁ (c : Dev nD) : sProp 𝕄 :=
  iprop(bigSep Finset.univ (fun k => semVal (cell c k) 0) ∗ aHas c (AA m c) ∗ (oM.view.loc (c : Thread nD τ) ↦{fullShare} RR m c) ∗ room c)
/-- The region's proof data. -/
def dats (_ : Fin 1) (c : Dev nD) : Pipeline.Dat τ (Elt F) ℕ ℕ UU ℕ cfg0 c where
  A w := m ((cfg0.win w).arr.view.loc (c : Thread nD τ))
  after w _ := match w with
    | ⟨0, _⟩ => BB m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- To own a buffer whole is to hold it at its contents. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- A staging buffer at given contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The window's block is the array. -/
theorem block_eq (c : Dev nD) : (win0_0.blk t0_0).view.read (Elt F) (m ((c : Thread nD τ).loc main_arg1)) = BB m c := by
  have idx : ∀ t : Fin cfg0.N, win0_0.index t = ![0, 0] := (by decide +kernel : ∀ t : Fin grid0.N, _)
  unfold BB
  blk_ext! [idx t0_0]
/-- The staged copy of `B` is `B`. -/
theorem before_eq (c : Dev nD) (d) : (dats m 0 c).before 0 t0_0 d = BB m c := by
  unfold Pipeline.Dat.before
  rw [if_pos (fetch0_0 t0_0)]
  exact block_eq m c

/-- What the body finds. -/
def bodyPre (c : Dev nD) : sProp 𝕄 :=
  iprop(Φ₀ m c ∗ (dats m 0 c).owesAt 0 t0_0.castSucc ∗ (∃ d, stg c cc0_stg0_0 ((dats m 0 c).before 0 t0_0 d)))
/-- What the body leaves. -/
def bodyPost (c : Dev nD) : sProp 𝕄 :=
  iprop(Φ₁ m c ∗ (dats m 0 c).owesAt 0 t0_0.succ ∗ stg c cc0_stg0_0 (BB m c))

/-- The kernel from what the body finds to what it leaves. -/
theorem wp_body (c : Dev nD) : bodyPre m c ⊢ wp frame (wpE (defs₀ (F := F)) 𝒱₀ (c : Thread nD τ) none) Set.univ wholeP (fun _ => bodyPost m c) := by
  have go (K : Dev nD × Kind → ℕ) := wp_whole (AA m) K c (BB m c) (Q := fun _ => bodyPost m c)
  unfold bodyPre Φ₀ stg Pipeline.Dat.owesAt Pipeline.owesWithin
  rw [show (dats m 0 c).owed t0_0.castSucc = O₀ c from rfl]
  unfold room privs
  iintro ⟨⟨⟨⟨%K, #HR⟩, #HM, #HL⟩, Hs, Ha, Ho, Hf, Ht, ⟨Hg0, Hg1⟩, Hp0, Hp1, Hl⟩, ⟨%W, %hW, HO⟩, ⟨%d, %g, %hg, HB⟩⟩
  obtain rfl : g = BB m c := hg.trans (before_eq m c d)
  iapply (go K) $$ [Hs Ha Ho Hf Ht Hg0 Hg1 Hp0 Hp1 Hl HO HB]
  · isplitr; · iexact HR
    isplitr; · iexact HM
    isplitr; · iexact HL
    isplitl [Hs]; · iexact Hs
    isplitr [Ho HO]
    · unfold mem work stgIdle bHas
      isplitl [Ha]; · iexact Ha
      isplitl [Hf]; · iexact Hf
      isplitl [Ht]; · iexact Ht
      isplitr [Hl]
      · isplitl [HB]; · iexact HB
        isplitl [Hg0 Hp0]
        · isplitl [Hg0] <;> iassumption
        isplitl [Hg1] <;> iassumption
      iexact Hl
    isplitl [Ho]; · iexact Ho
    unfold ow
    iexists W; iexact HO
  unfold After mem work stgIdle bHas bodyPost Φ₁ room privs ow stg Pipeline.Dat.owesAt Pipeline.owesWithin
  iintro ⟨Hv, ⟨Ha, Hf, Ht, ⟨HB, ⟨Hg0, Hp0⟩, Hg1, Hp1⟩, Hl⟩, Ho, ⟨%W', HO⟩⟩
  isplitl [Hv Ha Ho Hf Ht Hg0 Hg1 Hp0 Hp1 Hl]
  · isplitl [Hv]; · iexact Hv
    isplitl [Ha]; · iexact Ha
    isplitl [Ho]; · iexact Ho
    isplitl [Hf]; · iexact Hf
    isplitl [Ht]; · iexact Ht
    isplitl [Hg0 Hg1]
    · isplitl [Hg0] <;> iassumption
    isplitl [Hp0]; · iexact Hp0
    isplitl [Hp1] <;> iassumption
  isplitl [HO]
  · iexists W'
    isplitr; · ipureintro; exact fun _ _ => Or.inl trivial
    iexact HO
  iexists (BB m c)
  isplitr; · ipureintro; rfl
  iexact HB

/-- The body's obligation at the one point. -/
theorem body_obligation (c : Dev nD) : Pipeline.BodyObligation (dats (F := F) m 0 c) (defs₀ (F := F)) 𝒱₀ 0 Set.univ := fun t => by
  rw [fin_N0 t]
  rw [bigSep_W0, bigSep_W0]
  simp only [owns_whole_eq]
  show bodyPre m c ⊢ wp frame (wpE (defs₀ (F := F)) 𝒱₀ (c : Thread nD τ) none) Set.univ (bodyAt0 t0_0) (fun _ => bodyPost m c)
  rw [show bodyAt0 (F := F) t0_0 = wholeP from body_eq _]
  exact wp_body m c

/-! ## Into and out of the region -/

/-- Each window's share is the full one. -/
theorem share_eq (c : Dev nD) (w : Fin cfg0.W) : (dats m 0 c).share w = fullShare := by unfold Pipeline.Dat.share; split <;> rfl
/-- The staged copy's waits are allowed. -/
theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait_launch c _
    · show (levAts L lv : sProp 𝕄) ⊢ MayWait (c : Thread nD τ) _ 0 0
      rw [MayWait_zero]; iintro -; iempintro
/-- Into the region. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (AA m) c)
      ⊢ |={Set.univ}=> iprop(start m c ∗ emp) := by
  rw [Pipeline.unscopedRestP_none, unscopedRest0_eq]
  unfold G' start
  iintro ⟨⟨Ha, Ho⟩, HL, HK, -, HI, HM, Hp, Ht, Hl⟩
  imodintro
  isplitl
  · isplitl [HI HM HL]
    · isplitl [HI]; · iexact HI
      isplitl [HM] <;> iassumption
    isplitl [Hp Ht HK]
    · iapply (ring_start (F := F) c)
      isplitl [Hp]; · iexact Hp
      isplitl [Ht] <;> iassumption
    isplitl [Ha]; · unfold aHas AA; iexact Ha
    isplitl [Ho]; · iexists (m ((c : Thread nD τ).loc main_v1)); iexact Ho
    iexact Hl
  · iempintro
/-- What a device starts with is what its region starts with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold start Φ₀
  iintro ⟨⟨HI, Hs, Ha, Ho, Hl⟩, -, Hr⟩
  isplitl [HI]; · iexact HI
  isplitl [Hs]; · iexact Hs
  isplitl [Ha]; · iexact Ha
  isplitl [Ho]; · iexact Ho
  iapply (room_intro (F := F) c)
  isplitl [Hr] <;> iassumption
/-- What a device holds after the region. -/
def finish (c : Dev nD) : sProp 𝕄 :=
  iprop(semVal (cell c .bar) 0 ∗ aHas c (AA m c) ∗ (oM.view.loc (c : Thread nD τ) ↦{fullShare} RR m c))
/-- Out of the region. -/
theorem phi1_exit (c : Dev nD) :
    (dats m 0 c).Φ (Fin.last cfg0.N) ⊢ iprop(finish m c ∗ Pipeline.ownSems0 osem c ∗ Pipeline.scopedRest cfg0.spec c) := by
  have hr := room_elim (F := F) c
  have hj := sems_join (F := F) c
  rw [show (dats m 0 c).Φ (Fin.last cfg0.N) = Φ₁ m c from rfl]
  unfold Φ₁ finish
  iintro ⟨Hv, Ha, Ho, Hr⟩
  ihave Hr := hr $$ Hr
  icases Hr with ⟨Hr, Hp⟩
  ihave Hv := hj $$ [Hv Hp]
  · isplitl [Hv] <;> iassumption
  icases Hv with ⟨Hv, Hb⟩
  isplitl [Hb Ha Ho]
  · isplitl [Hb]; · iexact Hb
    isplitl [Ha] <;> iassumption
  isplitl [Hv] <;> iassumption
/-- What holds of a device at the end. -/
def Ends (c : Dev nD) (s : MemSt nD τ sig (Elt F)) : Prop :=
  (s.mem ((c : Thread nD τ).loc main_arg0) = m ((c : Thread nD τ).loc main_arg0) ∧ s.mem ((c : Thread nD τ).loc main_v1) = RR m c)
    ∧ ∀ sm : SemLoc sig, sm.isScoped .tc = false → s.sem ((c.tc : Thread nD τ), sm) = 0
/-- What a device holds says what holds of it. -/
theorem finish_read (c : Dev nD) (s' : Phys nD τ sig (Elt F)) : iprop(finish m c ∗ emp ∗ SI s') ⊢ |={Set.univ}=> iprop(⌜Ends m c s'.mem⌝ ∗ SI s' : sProp 𝕄) := by
  have ra := pointsTo_read_all (Ix := ℕ) (Name := ℕ) (U := UU) (Lvl := ℕ) {main_arg0} (fun b => (c.tc : Thread nD τ).loc b) (fun b => m ((c.tc : Thread nD τ).loc b)) s'
  have ro := pointsTo_read_all (Ix := ℕ) (Name := ℕ) (U := UU) (Lvl := ℕ) ({()} : Finset Unit) (fun _ => (c.tc : Thread nD τ).loc main_v1) (fun _ => RR m c) s'
  have rs := Pipeline.unscopedSems0_read (X := (semVal (cell c .bar) 0 : sProp 𝕄)) (c := c) (by rw [unscopedSems0_eq]; exact fupd_intro) s'
  rw [bigSep_singleton] at ra ro
  unfold finish aHas
  iintro ⟨⟨Hb, Ha, Ho⟩, -, HS⟩
  ihave H := ra $$ [Ha HS]
  · isplitl [Ha]; · iexact Ha
    iexact HS
  icases H with ⟨%ha, HS⟩
  ihave H := ro $$ [Ho HS]
  · isplitl [Ho]; · iexact Ho
    iexact HS
  icases H with ⟨%ho, HS⟩
  imod rs $$ [Hb HS] with ⟨%hs, HS⟩
  · isplitl [Hb] <;> iassumption
  imodintro
  isplitr
  · ipureintro
    exact ⟨⟨ha main_arg0 (Finset.mem_singleton_self _), ho () (Finset.mem_singleton_self _)⟩, hs⟩
  iexact HS

/-! ## The run -/

set_option maxRecDepth 8000 in
/-- From any memory with the counters at zero, the program ends with every counter at zero, `A` and `B` as they were, and
    every device's result array holding the product's rows. -/
theorem run_main : θ_run (defs (F := F)) (onTc (τ := τ) (main (F := F))) ⟨m, fun _ => 0, ρ⟩ (fun r =>
    (∀ c : Dev nD, r.2.mem ((c.tc : Thread nD τ).loc main_v1) = RR m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (AA m)) (G' := G' (AA m)) (u₀ := u₀)
    (hu₀ := by
      unfold u₀
      iintro Hu
      ihave H := (ownU_pair _ _) $$ Hu
      icases H with ⟨HP, HX⟩
      ihave HX := (show BI.own (embR (initOf ringCells ringToks, 1) : MT nD τ sig ℕ (Elt F) ℕ UU ℕ) ⊢ BI.own (ER (initOf ringCells ringToks)) from BI.Entails.refl _) $$ HX
      imod (fund_ring (AA m)) $$ HX with HG
      imodintro
      isplitl [HP] <;> iassumption)
    (hglob := glob (AA m))
    (hA := fun _ _ => rfl) (hpf := fun _ k => k.elim0)
    (X := start m) (Y := finish m) (Z := fun _ => iprop(emp))
    (hX := start_intro m ρ) (hin := phi0_intro m) (hout := phi1_exit m)
    (QY := Ends m) (hY := finish_read m)
    (hQ := fun s h hs => ⟨fun c => ⟨(h c).2.2.1.2, (h c).2.2.1.1, ((h c).1 (0 : Fin 1)).trans ((dats m 0 c).arrAt_in 0 rfl _)⟩, sem_eq_zero hs fun c => (h c).2.2.2⟩)

end Run

end Cert.KernelIdeal.Ring
-- ==== Proof.Product.lean ====
/- The result is the product. -/
module

public import proofs.«01_k».proof.Proof.Launch
public import Idealize.ShloMosaic.Lib.MatmulPlain
public import Idealize.ShloMosaic.Lib.ValueLayout
public import Idealize.ShloMosaic.Lib.Layout

@[expose] public section

set_option synthInstance.maxSize 4096

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- A tile's product, element by element. -/
theorem pay_apply (X : Vec Ideal S1x256x2048 .bf16) (B : Vec Ideal S2048x4096 .bf16) (r : Fin 256) (q : Fin 4096) :
    k0_pay1 (F := Ideal) X B (ValueIdx.ix3 (0 : Fin 1) r q) = ∑ k : Fin 2048, X (ValueIdx.ix3 (0 : Fin 1) r k) * B (ValueIdx.ix2 k q) := by
  unfold k0_pay1
  refine (ValueIdx.shapeCast_ab_1ab_apply (a := 256) (b := 4096) _ _ (0 : Fin 1) r q).trans ?_
  rw [shapeCast_self]
  refine (Ideal.matmul_plain_apply (M := 256) (K := 2048) (N := 4096) (φ₁ := .bf16) (φ₂ := .bf16) none
    (shapeCast S256x2048 X shapeCasts_S1x256x2048_S256x2048) B (constant S256x4096 .f32 0x00000000#32) r q).trans ?_
  have hz : constant (F := Ideal) S256x4096 .f32 0x00000000#32 (ValueIdx.ix2 r q) = (0 : EReal) := Ideal.ofBits_zero_f32
  rw [hz, zero_add]
  exact Finset.sum_congr rfl fun k _ => congrArg (· * B (ValueIdx.ix2 k q)) (ValueIdx.shapeCast_1ab_ab_apply (a := 256) (b := 2048) X _ r k)

/-- Half `d` of a device's rows, element by element. -/
theorem half_apply (d : Bool) (X : S4096x2048.Idx → Elt Ideal .bf16) (r k : Fin 2048) :
    halfOf d X (ValueIdx.ix2 r k) = X (ValueIdx.ix2 (⟨(bif d then 2048 else 0) + r.val, by have := r.isLt; cases d <;> simp only [cond_false, cond_true] <;> omega⟩ : Fin 4096) k) := by
  unfold halfOf halfM
  cases d
  · refine congrArg X (funext fun a => Fin.ext ?_)
    match a with
    | ⟨0, _⟩ => show 0 + 1 * r.val = 0 + r.val; omega
    | ⟨1, _⟩ => show 0 + 1 * k.val = k.val; omega
  · refine congrArg X (funext fun a => Fin.ext ?_)
    match a with
    | ⟨0, _⟩ => show 2048 + 1 * r.val = 2048 + r.val; omega
    | ⟨1, _⟩ => show 0 + 1 * k.val = k.val; omega

/-- With every device holding its block of `A`, the result is the product of the whole `A` with `B`. -/
theorem out_apply (A : Dev nD → S4096x2048.Idx → Elt Ideal .bf16) (A' : (⟨2, ![32768, 2048]⟩ : Shape).Idx → Elt Ideal .bf16)
    (hA : ∀ c : Dev nD, A c = Layout.block ⟨2, ![4096, 2048]⟩ ⟨2, ![32768, 2048]⟩ 0 8 c A') (B : S2048x4096.Idx → Elt Ideal .bf16) (i : S32768x4096.Idx) :
    OUT A B i = ∑ k : Fin 2048, A' (ValueIdx.ix2 (i 0) k) * B (ValueIdx.ix2 k (i 1)) := by
  unfold OUT prodVal tileVal
  refine (pay_apply _ _ _ _).trans (Finset.sum_congr rfl fun k _ => ?_)
  refine congrArg (· * B (ValueIdx.ix2 k (i 1))) ?_
  unfold xTile
  refine (half_apply _ _ _ _).trans ?_
  rw [hA, Layout.block_apply]
  refine congrArg A' (funext fun a => Fin.ext ?_)
  rw [Layout.Tiles.idx_val]
  match a with
  | ⟨0, _⟩ =>
    show (i 0).val / 4096 * 4096 + ((bif decide (2048 ≤ (i 0).val % 4096) then 2048 else 0) + (256 * ((i 0).val % 2048 / 256) + (i 0).val % 2048 % 256)) = (i 0).val
    by_cases h : 2048 ≤ (i 0).val % 4096
    · rw [decide_eq_true h, cond_true]; omega
    · rw [decide_eq_false h, cond_false]; omega
  | ⟨1, _⟩ => rfl

end Cert.KernelIdeal.Ring
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Product
public import Idealize.ShloMosaic.Adequacy
public import Idealize.ShloMosaic.Init

@[expose] public section

noncomputable section

namespace Cert.Proof

open Idealize.ShloMosaic Idealize.ShloMosaic.TcCoe Idealize.SL.Sem

/-- The kernel read at exact values ends with its arguments unchanged and every counter at zero. -/
theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)
/-- The two programs' body tables are one: each has one label, and its body is the same text. -/
theorem bodies_eq : Cert.Kernel.defs₀ (F := Bits) = Cert.KernelIdeal.defs₀ (F := Bits) := by
  refine congrArg Defs.onTc ?_
  funext l a
  match l, a with
  | 0, (t, s) => rfl
/-- So are their tables with the pipeline's region. -/
theorem defs_eq : Cert.Kernel.defs (F := Bits) = Cert.KernelIdeal.defs (F := Bits) :=
  congrArg (Pipeline.defs (Cert.KernelIdeal.pcfgs (F := Bits))) bodies_eq
/-- Under a body table equal to the idealized kernel's, at words: arguments unchanged, counters zero. -/
theorem frame_of_eq {d} (hd : d = Cert.KernelIdeal.defs (F := Bits)) (m : (ℓ : Loc Cert.KernelIdeal.nD Cert.KernelIdeal.τ Cert.KernelIdeal.sig) → Buf (Elt Bits) ℓ) (ρ : Dev Cert.KernelIdeal.nD → PrngReg) :
    θ_run d (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  subst hd
  exact (θ_run Cert.KernelIdeal.defs _ _).mono (fun _ h => ⟨fun c => (h.1 c).2, h.2⟩) (Cert.KernelIdeal.Ring.run_main (F := Bits) m ρ)
/-- The kernel read at words ends with its arguments unchanged and every counter at zero. -/
theorem frame_kernel : Cert.quiescent_Kernel := fun m ρ _ => frame_of_eq defs_eq m ρ
/-- The reference ends with its arguments unchanged; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result, element by element: the product. -/
theorem reference_apply (x : Cert.ReferenceIdeal.S32768x2048.Idx → Elt Ideal .bf16) (y : Cert.ReferenceIdeal.S2048x4096.Idx → Elt Ideal .bf16) (i : Cert.ReferenceIdeal.S32768x4096.Idx) :
    Cert.ReferenceIdeal.Read.val_main_v3 (F := Ideal) x y i = ∑ k : Fin 2048, x (ValueIdx.ix2 (i 0) k) * y (ValueIdx.ix2 k (i 1)) := by
  have el (k : Fin 2048) : Cert.ReferenceIdeal.Read.lidx_main_v2 i k = ValueIdx.ix2 (i 0) k := by
    funext a
    match a with
    | ⟨0, _⟩ => rfl
    | ⟨1, _⟩ => rfl
  have er (k : Fin 2048) : Cert.ReferenceIdeal.Read.ridx_main_v2 i k = ValueIdx.ix2 k (i 1) := by
    funext a
    match a with
    | ⟨0, _⟩ => rfl
    | ⟨1, _⟩ => rfl
  refine (Cert.ReferenceIdeal.Read.val_main_v2_apply x y i).trans (Finset.sum_congr rfl fun k _ => ?_)
  rw [el, er]
  rfl

/-- Over exact values every device's result is the reference's. -/
theorem agree : Cert.algebraic_KernelIdeal_ReferenceIdeal := fun m ρ m' ρ' _ hm => by
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨((h.1 c).1).trans ?_, (h.1 c).2⟩) (Cert.KernelIdeal.Ring.run_main (F := Ideal) m ρ)
    funext i
    refine (Cert.KernelIdeal.Ring.out_apply (Cert.KernelIdeal.Ring.AA m) _ (fun c => (hm c).1) _ i).trans ?_
    rw [reference_apply, show Cert.KernelIdeal.Ring.BB m c = _ from (hm c).2]
  · exact (θ_run Cert.ReferenceIdeal.defs _ _).mono (fun r h => h 0) (Cert.ReferenceIdeal.Value.run (F := Ideal) m' ρ')

/-- Everything claimed. -/
theorem claim : Cert.Claim :=
  ⟨Cert.Kernel.Gen.facts, Cert.KernelIdeal.Gen.facts, Cert.ReferenceIdeal.Gen.facts, frame_kernel, frame_ideal, frame_reference, trivial, agree⟩

end Cert.Proof

end
